-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)) →
    ∃ (v0 : (c : Dev Cert.TailIdeal.nD) → Buf (Elt Ideal) ((c.tc : Thread Cert.TailIdeal.nD Cert.TailIdeal.τ).loc Cert.TailIdeal.main_v31)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v31) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v102) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailReferenceIdeal (hTailReferenceIdeal := hTailReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailReferenceIdeal (hTailIdeal := hTailIdeal) (hTailReferenceIdeal := hTailReferenceIdeal)
-- ==== Pre_finite.lean ====
abbrev S8x4096x1024 : Shape := ⟨3, ![8, 4096, 1024]⟩
abbrev S1x64 : Shape := ⟨2, ![1, 64]⟩
abbrev S1x128 : Shape := ⟨2, ![1, 128]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S8x4096x1024 .f32) (main_arg1 : FVec F S8x4096x1024 .f32) (main_arg2 : FVec F S8x4096x1024 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S8x4096x1024 : Shape := ⟨3, ![8, 4096, 1024]⟩
abbrev S1x64 : Shape := ⟨2, ![1, 64]⟩
abbrev S1x128 : Shape := ⟨2, ![1, 128]⟩
abbrev S32768x1024 : Shape := ⟨2, ![32768, 1024]⟩
abbrev S_ : Shape := ⟨0, ![]⟩
abbrev S1024x32768 : Shape := ⟨2, ![1024, 32768]⟩
abbrev S8x128x32768 : Shape := ⟨3, ![8, 128, 32768]⟩
abbrev S8x16x32768 : Shape := ⟨3, ![8, 16, 32768]⟩
abbrev S8x144x32768 : Shape := ⟨3, ![8, 144, 32768]⟩
abbrev S1152x32768 : Shape := ⟨2, ![1152, 32768]⟩
abbrev S8 : Shape := ⟨1, ![8]⟩
abbrev S256 : Shape := ⟨1, ![256]⟩
abbrev S8x1 : Shape := ⟨2, ![8, 1]⟩
abbrev S1x256 : Shape := ⟨2, ![1, 256]⟩
abbrev S8x256 : Shape := ⟨2, ![8, 256]⟩
abbrev S8x256x3 : Shape := ⟨3, ![8, 256, 3]⟩
abbrev S8x3x256 : Shape := ⟨3, ![8, 3, 256]⟩
abbrev S8x256x1 : Shape := ⟨3, ![8, 256, 1]⟩
abbrev S8x256x122 : Shape := ⟨3, ![8, 256, 122]⟩
abbrev S8x256x128 : Shape := ⟨3, ![8, 256, 128]⟩
abbrev S8x1x256 : Shape := ⟨3, ![8, 1, 256]⟩
abbrev S8x122x256 : Shape := ⟨3, ![8, 122, 256]⟩
abbrev S8x128x256 : Shape := ⟨3, ![8, 128, 256]⟩
abbrev S8x1x256x128 : Shape := ⟨4, ![8, 1, 256, 128]⟩
abbrev S8x2x256x128 : Shape := ⟨4, ![8, 2, 256, 128]⟩
abbrev S1x1x1 : Shape := ⟨3, ![1, 1, 1]⟩
abbrev S1x256x1 : Shape := ⟨3, ![1, 256, 1]⟩
abbrev S1x1x256 : Shape := ⟨3, ![1, 1, 256]⟩
abbrev S1x256x256 : Shape := ⟨3, ![1, 256, 256]⟩
abbrev S8x1x1x1 : Shape := ⟨4, ![8, 1, 1, 1]⟩
abbrev S1x1x256x256 : Shape := ⟨4, ![1, 1, 256, 256]⟩
abbrev S8x1x256x256 : Shape := ⟨4, ![8, 1, 256, 256]⟩
abbrev S16x256x128 : Shape := ⟨3, ![16, 256, 128]⟩
abbrev S128x512 : Shape := ⟨2, ![128, 512]⟩
abbrev S4096x128 : Shape := ⟨2, ![4096, 128]⟩
abbrev S144x4096 : Shape := ⟨2, ![144, 4096]⟩
abbrev S2x256x128 : Shape := ⟨3, ![2, 256, 128]⟩
abbrev S1x128x256 : Shape := ⟨3, ![1, 128, 256]⟩
abbrev S512x128 : Shape := ⟨2, ![512, 128]⟩
abbrev S2x4096x256 : Shape := ⟨3, ![2, 4096, 256]⟩
abbrev S2x8x256 : Shape := ⟨3, ![2, 8, 256]⟩
abbrev S1 : Shape := ⟨1, ![1]⟩
abbrev S128x256 : Shape := ⟨2, ![128, 256]⟩
abbrev S64x256 : Shape := ⟨2, ![64, 256]⟩
abbrev S256x256 : Shape := ⟨2, ![256, 256]⟩
abbrev S256x128 : Shape := ⟨2, ![256, 128]⟩
abbrev S1x256x128 : Shape := ⟨3, ![1, 256, 128]⟩
abbrev S32x8x256 : Shape := ⟨3, ![32, 8, 256]⟩
abbrev S1x8x256 : Shape := ⟨3, ![1, 8, 256]⟩
abbrev S144x256 : Shape := ⟨2, ![144, 256]⟩
abbrev S1x1 : Shape := ⟨2, ![1, 1]⟩

abbrev nBuf : Space → Nat
  | .hbm => 122
  | .vmem => 27
  | .smem => 1
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S32768x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S1024x32768, .f32⟩
  | .hbm, ⟨18, _⟩ => ⟨S1024x32768, .bf16⟩
  | .hbm, ⟨19, _⟩ => ⟨S32768x1024, .f32⟩
  | .hbm, ⟨20, _⟩ => ⟨S32768x1024, .bf16⟩
  | .hbm, ⟨21, _⟩ => ⟨S32768x1024, .f32⟩
  | .hbm, ⟨22, _⟩ => ⟨S1024x32768, .f32⟩
  | .hbm, ⟨23, _⟩ => ⟨S1024x32768, .bf16⟩
  | .hbm, ⟨24, _⟩ => ⟨S8x128x32768, .bf16⟩
  | .hbm, ⟨25, _⟩ => ⟨S_, .bf16⟩
  | .hbm, ⟨26, _⟩ => ⟨S8x16x32768, .bf16⟩
  | .hbm, ⟨27, _⟩ => ⟨S8x144x32768, .bf16⟩
  | .hbm, ⟨28, _⟩ => ⟨S1152x32768, .bf16⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S256, .i32⟩
  | .hbm, ⟨49, _⟩ => ⟨S256, .f32⟩
  | .hbm, ⟨50, _⟩ => ⟨S256, .i32⟩
  | .hbm, ⟨51, _⟩ => ⟨S256, .f32⟩
  | .hbm, ⟨52, _⟩ => ⟨S8x1, .f32⟩
  | .hbm, ⟨53, _⟩ => ⟨S1x256, .f32⟩
  | .hbm, ⟨54, _⟩ => ⟨S8x256, .f32⟩
  | .hbm, ⟨55, _⟩ => ⟨S8x256, .f32⟩
  | .hbm, ⟨56, _⟩ => ⟨S8x256, .f32⟩
  | .hbm, ⟨57, _⟩ => ⟨S8x1, .f32⟩
  | .hbm, ⟨58, _⟩ => ⟨S1x256, .f32⟩
  | .hbm, ⟨59, _⟩ => ⟨S8x256, .f32⟩
  | .hbm, ⟨60, _⟩ => ⟨S8x256, .f32⟩
  | .hbm, ⟨61, _⟩ => ⟨S8x256, .f32⟩
  | .hbm, ⟨62, _⟩ => ⟨S8x256, .bf16⟩
  | .hbm, ⟨63, _⟩ => ⟨S8x256, .f32⟩
  | .hbm, ⟨64, _⟩ => ⟨S8x256, .f32⟩
  | .hbm, ⟨65, _⟩ => ⟨S8x256, .bf16⟩
  | .hbm, ⟨66, _⟩ => ⟨S8x256, .f32⟩
  | .hbm, ⟨67, _⟩ => ⟨S8x256, .f32⟩
  | .hbm, ⟨68, _⟩ => ⟨S8x256, .bf16⟩
  | .hbm, ⟨69, _⟩ => ⟨S8x256, .bf16⟩
  | .hbm, ⟨70, _⟩ => ⟨S8x256, .f32⟩
  | .hbm, ⟨71, _⟩ => ⟨S8x256, .f32⟩
  | .hbm, ⟨72, _⟩ => ⟨S8x256, .bf16⟩
  | .hbm, ⟨73, _⟩ => ⟨S8x256, .f32⟩
  | .hbm, ⟨74, _⟩ => ⟨S8x256, .f32⟩
  | .hbm, ⟨75, _⟩ => ⟨S8x256, .bf16⟩
  | .hbm, ⟨76, _⟩ => ⟨S_, .bf16⟩
  | .hbm, ⟨77, _⟩ => ⟨S8x256x3, .bf16⟩
  | .hbm, ⟨78, _⟩ => ⟨S_, .bf16⟩
  | .hbm, ⟨79, _⟩ => ⟨S8x3x256, .bf16⟩
  | .hbm, ⟨80, _⟩ => ⟨S8x256x1, .bf16⟩
  | .hbm, ⟨81, _⟩ => ⟨S8x256x1, .bf16⟩
  | .hbm, ⟨82, _⟩ => ⟨S8x256x1, .bf16⟩
  | .hbm, ⟨83, _⟩ => ⟨S8x256x3, .bf16⟩
  | .hbm, ⟨84, _⟩ => ⟨S_, .bf16⟩
  | .hbm, ⟨85, _⟩ => ⟨S8x256x122, .bf16⟩
  | .hbm, ⟨86, _⟩ => ⟨S8x256x128, .bf16⟩
  | .hbm, ⟨87, _⟩ => ⟨S8x256, .bf16⟩
  | .hbm, ⟨88, _⟩ => ⟨S8x256, .bf16⟩
  | .hbm, ⟨89, _⟩ => ⟨S8x256, .bf16⟩
  | .hbm, ⟨90, _⟩ => ⟨S8x1x256, .bf16⟩
  | .hbm, ⟨91, _⟩ => ⟨S8x1x256, .bf16⟩
  | .hbm, ⟨92, _⟩ => ⟨S8x1x256, .bf16⟩
  | .hbm, ⟨93, _⟩ => ⟨S8x3x256, .bf16⟩
  | .hbm, ⟨94, _⟩ => ⟨S_, .bf16⟩
  | .hbm, ⟨95, _⟩ => ⟨S8x122x256, .bf16⟩
  | .hbm, ⟨96, _⟩ => ⟨S8x128x256, .bf16⟩
  | .hbm, ⟨97, _⟩ => ⟨S8x256x128, .bf16⟩
  | .hbm, ⟨98, _⟩ => ⟨S8x1x256x128, .bf16⟩
  | .hbm, ⟨99, _⟩ => ⟨S8x1x256x128, .bf16⟩
  | .hbm, ⟨100, _⟩ => ⟨S8x2x256x128, .bf16⟩
  | .hbm, ⟨101, _⟩ => ⟨S1x1x1, .i32⟩
  | .hbm, ⟨102, _⟩ => ⟨S1x1x1, .f32⟩
  | .hbm, ⟨103, _⟩ => ⟨S_, .f32⟩
  | .hbm, ⟨104, _⟩ => ⟨S1x1x1, .f32⟩
  | .hbm, ⟨105, _⟩ => ⟨S1x1x1, .f32⟩
  | .hbm, ⟨106, _⟩ => ⟨S1x256x1, .f32⟩
  | .hbm, ⟨107, _⟩ => ⟨S1x1x256, .f32⟩
  | .hbm, ⟨108, _⟩ => ⟨S1x256x256, .f32⟩
  | .hbm, ⟨109, _⟩ => ⟨S1x256x256, .f32⟩
  | .hbm, ⟨110, _⟩ => ⟨S1x256x256, .f32⟩
  | .hbm, ⟨111, _⟩ => ⟨S1x256x256, .f32⟩
  | .hbm, ⟨112, _⟩ => ⟨S1x256x256, .f32⟩
  | .hbm, ⟨113, _⟩ => ⟨S1x256x256, .f32⟩
  | .hbm, ⟨114, _⟩ => ⟨S8x1x1x1, .f32⟩
  | .hbm, ⟨115, _⟩ => ⟨S8x1x1x1, .f32⟩
  | .hbm, ⟨116, _⟩ => ⟨S1x1x256x256, .f32⟩
  | .hbm, ⟨117, _⟩ => ⟨S8x1x256x256, .f32⟩
  | .hbm, ⟨118, _⟩ => ⟨S8x1x256x256, .f32⟩
  | .hbm, ⟨119, _⟩ => ⟨S8x1x256x256, .f32⟩
  | .hbm, ⟨120, _⟩ => ⟨S16x256x128, .bf16⟩
  | .hbm, ⟨121, _⟩ => ⟨S32768x1024, .bf16⟩
  | .local _ .vmem, ⟨0, _⟩ => ⟨S128x512, .bf16⟩
  | .local _ .vmem, ⟨1, _⟩ => ⟨S128x512, .bf16⟩
  | .local _ .vmem, ⟨2, _⟩ => ⟨S4096x128, .bf16⟩
  | .local _ .vmem, ⟨3, _⟩ => ⟨S4096x128, .bf16⟩
  | .local _ .vmem, ⟨4, _⟩ => ⟨S144x4096, .bf16⟩
  | .local _ .vmem, ⟨5, _⟩ => ⟨S144x4096, .bf16⟩
  | .local _ .vmem, ⟨6, _⟩ => ⟨S2x256x128, .bf16⟩
  | .local _ .vmem, ⟨7, _⟩ => ⟨S2x256x128, .bf16⟩
  | .local _ .vmem, ⟨8, _⟩ => ⟨S1x128x256, .bf16⟩
  | .local _ .vmem, ⟨9, _⟩ => ⟨S1x128x256, .bf16⟩
  | .local _ .vmem, ⟨10, _⟩ => ⟨S1x1x256x256, .f32⟩
  | .local _ .vmem, ⟨11, _⟩ => ⟨S1x1x256x256, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x128, .f32⟩
  | .local _ .vmem, ⟨17, _⟩ => ⟨S512x128, .bf16⟩
  | .local _ .vmem, ⟨18, _⟩ => ⟨S512x128, .bf16⟩
  | .local _ .vmem, ⟨19, _⟩ => ⟨S2x4096x256, .f32⟩
  | .local _ .vmem, ⟨20, _⟩ => ⟨S2x4096x256, .f32⟩
  | .local _ .vmem, ⟨21, _⟩ => ⟨S2x4096x256, .f32⟩
  | .local _ .vmem, ⟨22, _⟩ => ⟨S2x4096x256, .f32⟩
  | .local _ .vmem, ⟨23, _⟩ => ⟨S2x8x256, .f32⟩
  | .local _ .vmem, ⟨24, _⟩ => ⟨S2x8x256, .f32⟩
  | .local _ .vmem, ⟨25, _⟩ => ⟨S2x8x256, .f32⟩
  | .local _ .vmem, ⟨26, _⟩ => ⟨S2x8x256, .f32⟩
  | .local _ .smem, ⟨0, _⟩ => ⟨S8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![513], ![false]⟩

def k0_cond1 (i : grid0.Coords) : BitVec 1 :=
  let arg0 : BitVec 32 := BitVec.ofNat 32 (i 0).val
  let c0_i32_0 : BitVec 32 := 0#32
  let v3 : BitVec 1 := Scalar.cmpi .eq arg0 c0_i32_0
  let v4 : BitVec 32 := Scalar.extui v3
  let c0_i32_1 : BitVec 32 := 0#32
  let v5 : BitVec 1 := Scalar.cmpi .ne v4 c0_i32_1
  v5

def k0_off1 (i : grid0.Coords) (c0_i32_9 : BitVec 32) : Fin 1 → Nat :=
  let arg0 : BitVec 32 := BitVec.ofNat 32 (i 0).val
  let c2_i32 : BitVec 32 := 2#32
  let v19 : BitVec 32 := Scalar.muli arg0 c2_i32
  let v20 : BitVec 32 := Scalar.addi v19 c0_i32_9
  let c4_i32 : BitVec 32 := 4#32
  let v23 : BitVec 32 := Scalar.shrsi v20 c4_i32
  let c7_i32 : BitVec 32 := 7#32
  let v26 : BitVec 32 := Scalar.andi v23 c7_i32
  let v27 : Index := Scalar.indexCast v26
  ![v27.toNat]
def k0_mult1 (i : grid0.Coords) : BitVec 32 :=
  let c0_i32_18 : BitVec 32 := 0#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c0_i32_17 : BitVec 32 := 0#32
  let v42 : BitVec 1 := Scalar.cmpi .sle v29 c0_i32_17
  let v43 : BitVec 32 := Scalar.extui v42
  let v44 : BitVec 32 := Scalar.addi c0_i32_18 v43
  let c256_i32_19 : BitVec 32 := 256#32
  let v47 : BitVec 32 := Scalar.muli v44 c256_i32_19
  v47
def k0_off2 (i : grid0.Coords) (c0_i32_18 : BitVec 32) (c0_i32_9 : BitVec 32) (c0_i32_17 : BitVec 32) : Fin 2 → Nat :=
  let arg0 : BitVec 32 := BitVec.ofNat 32 (i 0).val
  let c2_i32 : BitVec 32 := 2#32
  let v19 : BitVec 32 := Scalar.muli arg0 c2_i32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let v42 : BitVec 1 := Scalar.cmpi .sle v29 c0_i32_17
  let v43 : BitVec 32 := Scalar.extui v42
  let v44 : BitVec 32 := Scalar.addi c0_i32_18 v43
  let c256_i32_19 : BitVec 32 := 256#32
  let v47 : BitVec 32 := Scalar.muli v44 c256_i32_19
  let v48 : BitVec 32 := v47
  let v49 : Index := Scalar.indexCast v48
  let c0_20 : Index := 0#32
  ![v49.toNat, 0]
def k0_off2_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_off3 (i : grid0.Coords) (c0_i32_18 : BitVec 32) (c0_i32_9 : BitVec 32) (c0_i32_17 : BitVec 32) : Fin 3 → Nat :=
  let arg0 : BitVec 32 := BitVec.ofNat 32 (i 0).val
  let c2_i32 : BitVec 32 := 2#32
  let v19 : BitVec 32 := Scalar.muli arg0 c2_i32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let v42 : BitVec 1 := Scalar.cmpi .sle v29 c0_i32_17
  let v43 : BitVec 32 := Scalar.extui v42
  let v44 : BitVec 32 := Scalar.addi c0_i32_18 v43
  let v45 : BitVec 1 := Scalar.cmpi .sgt v44 v29
  let v46 : BitVec 32 := Scalar.extui v45
  let v52 : Index := Scalar.indexCast v46
  let c0_21 : Index := 0#32
  let c0_22 : Index := 0#32
  ![v52.toNat, 0, 0]
def k0_off3_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_off4 (i : grid0.Coords) (c0_i32_18 : BitVec 32) (c0_i32_9 : BitVec 32) (c0_i32_17 : BitVec 32) : Fin 3 → Nat :=
  let c0_27 : Index := 0#32
  let arg0 : BitVec 32 := BitVec.ofNat 32 (i 0).val
  let c2_i32 : BitVec 32 := 2#32
  let v19 : BitVec 32 := Scalar.muli arg0 c2_i32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let v42 : BitVec 1 := Scalar.cmpi .sle v29 c0_i32_17
  let v43 : BitVec 32 := Scalar.extui v42
  let v44 : BitVec 32 := Scalar.addi c0_i32_18 v43
  let c256_i32_19 : BitVec 32 := 256#32
  let v47 : BitVec 32 := Scalar.muli v44 c256_i32_19
  let v48 : BitVec 32 := v47
  let v64 : Index := Scalar.indexCast v48
  let c0_28 : Index := 0#32
  ![0, v64.toNat, 0]
def k0_off4_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_off5 (i : grid0.Coords) (c0_i32_18 : BitVec 32) (c0_i32_9 : BitVec 32) (c0_i32_17 : BitVec 32) : Fin 3 → Nat :=
  let c1 : Index := 1#32
  let arg0 : BitVec 32 := BitVec.ofNat 32 (i 0).val
  let c2_i32 : BitVec 32 := 2#32
  let v19 : BitVec 32 := Scalar.muli arg0 c2_i32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let v42 : BitVec 1 := Scalar.cmpi .sle v29 c0_i32_17
  let v43 : BitVec 32 := Scalar.extui v42
  let v44 : BitVec 32 := Scalar.addi c0_i32_18 v43
  let c256_i32_19 : BitVec 32 := 256#32
  let v47 : BitVec 32 := Scalar.muli v44 c256_i32_19
  let v48 : BitVec 32 := v47
  let v68 : Index := Scalar.indexCast v48
  let c0_29 : Index := 0#32
  ![1, v68.toNat, 0]
def k0_off5_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_mult2 (i : grid0.Coords) : BitVec 32 :=
  let c1_i32_33 : BitVec 32 := 1#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c1_i32_32 : BitVec 32 := 1#32
  let v82 : BitVec 1 := Scalar.cmpi .sle v29 c1_i32_32
  let v83 : BitVec 32 := Scalar.extui v82
  let v84 : BitVec 32 := Scalar.addi c1_i32_33 v83
  let c256_i32_34 : BitVec 32 := 256#32
  let v87 : BitVec 32 := Scalar.muli v84 c256_i32_34
  v87
def k0_mult3 (i : grid0.Coords) : BitVec 32 :=
  let c2_i32_49 : BitVec 32 := 2#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c2_i32_48 : BitVec 32 := 2#32
  let v122 : BitVec 1 := Scalar.cmpi .sle v29 c2_i32_48
  let v123 : BitVec 32 := Scalar.extui v122
  let v124 : BitVec 32 := Scalar.addi c2_i32_49 v123
  let c256_i32_50 : BitVec 32 := 256#32
  let v127 : BitVec 32 := Scalar.muli v124 c256_i32_50
  v127
def k0_mult4 (i : grid0.Coords) : BitVec 32 :=
  let c3_i32_64 : BitVec 32 := 3#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c3_i32 : BitVec 32 := 3#32
  let v162 : BitVec 1 := Scalar.cmpi .sle v29 c3_i32
  let v163 : BitVec 32 := Scalar.extui v162
  let v164 : BitVec 32 := Scalar.addi c3_i32_64 v163
  let c256_i32_65 : BitVec 32 := 256#32
  let v167 : BitVec 32 := Scalar.muli v164 c256_i32_65
  v167
def k0_mult5 (i : grid0.Coords) : BitVec 32 :=
  let c4_i32_80 : BitVec 32 := 4#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c4_i32_79 : BitVec 32 := 4#32
  let v202 : BitVec 1 := Scalar.cmpi .sle v29 c4_i32_79
  let v203 : BitVec 32 := Scalar.extui v202
  let v204 : BitVec 32 := Scalar.addi c4_i32_80 v203
  let c256_i32_81 : BitVec 32 := 256#32
  let v207 : BitVec 32 := Scalar.muli v204 c256_i32_81
  v207
def k0_mult6 (i : grid0.Coords) : BitVec 32 :=
  let c5_i32_95 : BitVec 32 := 5#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c5_i32 : BitVec 32 := 5#32
  let v242 : BitVec 1 := Scalar.cmpi .sle v29 c5_i32
  let v243 : BitVec 32 := Scalar.extui v242
  let v244 : BitVec 32 := Scalar.addi c5_i32_95 v243
  let c256_i32_96 : BitVec 32 := 256#32
  let v247 : BitVec 32 := Scalar.muli v244 c256_i32_96
  v247
def k0_mult7 (i : grid0.Coords) : BitVec 32 :=
  let c6_i32_110 : BitVec 32 := 6#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c6_i32 : BitVec 32 := 6#32
  let v282 : BitVec 1 := Scalar.cmpi .sle v29 c6_i32
  let v283 : BitVec 32 := Scalar.extui v282
  let v284 : BitVec 32 := Scalar.addi c6_i32_110 v283
  let c256_i32_111 : BitVec 32 := 256#32
  let v287 : BitVec 32 := Scalar.muli v284 c256_i32_111
  v287
def k0_mult8 (i : grid0.Coords) : BitVec 32 :=
  let c7_i32_126 : BitVec 32 := 7#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c7_i32_125 : BitVec 32 := 7#32
  let v322 : BitVec 1 := Scalar.cmpi .sle v29 c7_i32_125
  let v323 : BitVec 32 := Scalar.extui v322
  let v324 : BitVec 32 := Scalar.addi c7_i32_126 v323
  let c256_i32_127 : BitVec 32 := 256#32
  let v327 : BitVec 32 := Scalar.muli v324 c256_i32_127
  v327
def k0_mult9 (i : grid0.Coords) : BitVec 32 :=
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c256_i32_141 : BitVec 32 := 256#32
  let v362 : BitVec 32 := Scalar.muli v29 c256_i32_141
  v362
def k0_off6 (i : grid0.Coords) (c0_i32_9 : BitVec 32) : Fin 4 → Nat :=
  let c0_144 : Index := 0#32
  let arg0 : BitVec 32 := BitVec.ofNat 32 (i 0).val
  let c2_i32 : BitVec 32 := 2#32
  let v19 : BitVec 32 := Scalar.muli arg0 c2_i32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32_142 : BitVec 32 := 8#32
  let v364 : BitVec 32 := Scalar.shrsi v25 c8_i32_142
  let c0_i32_143 : BitVec 32 := 0#32
  let v365 : BitVec 32 := Scalar.andi v364 c0_i32_143
  let v366 : Index := Scalar.indexCast v365
  let c0_145 : Index := 0#32
  let c0_146 : Index := 0#32
  ![0, v366.toNat, 0, 0]
def k0_off7 (i : grid0.Coords) (c0_i32_9 : BitVec 32) : Fin 2 → Nat :=
  let arg0 : BitVec 32 := BitVec.ofNat 32 (i 0).val
  let c2_i32 : BitVec 32 := 2#32
  let v19 : BitVec 32 := Scalar.muli arg0 c2_i32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c256_i32_141 : BitVec 32 := 256#32
  let v362 : BitVec 32 := Scalar.muli v29 c256_i32_141
  let v363 : BitVec 32 := v362
  let v369 : Index := Scalar.indexCast v363
  let c0_147 : Index := 0#32
  ![v369.toNat, 0]
def k0_off8 (i : grid0.Coords) (c0_i32_9 : BitVec 32) : Fin 3 → Nat :=
  let c0_150 : Index := 0#32
  let arg0 : BitVec 32 := BitVec.ofNat 32 (i 0).val
  let c2_i32 : BitVec 32 := 2#32
  let v19 : BitVec 32 := Scalar.muli arg0 c2_i32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c256_i32_141 : BitVec 32 := 256#32
  let v362 : BitVec 32 := Scalar.muli v29 c256_i32_141
  let v363 : BitVec 32 := v362
  let v376 : Index := Scalar.indexCast v363
  let c0_151 : Index := 0#32
  ![0, v376.toNat, 0]
def k0_off9 (i : grid0.Coords) (c0_i32_9 : BitVec 32) : Fin 3 → Nat :=
  let c1_152 : Index := 1#32
  let arg0 : BitVec 32 := BitVec.ofNat 32 (i 0).val
  let c2_i32 : BitVec 32 := 2#32
  let v19 : BitVec 32 := Scalar.muli arg0 c2_i32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c256_i32_141 : BitVec 32 := 256#32
  let v362 : BitVec 32 := Scalar.muli v29 c256_i32_141
  let v363 : BitVec 32 := v362
  let v380 : Index := Scalar.indexCast v363
  let c0_153 : Index := 0#32
  ![1, v380.toNat, 0]
def k0_mult10 (i : grid0.Coords) : BitVec 32 :=
  let c8_i32_159 : BitVec 32 := 8#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c8_i32_158 : BitVec 32 := 8#32
  let v394 : BitVec 1 := Scalar.cmpi .sle v29 c8_i32_158
  let v395 : BitVec 32 := Scalar.extui v394
  let v396 : BitVec 32 := Scalar.addi c8_i32_159 v395
  let c256_i32_160 : BitVec 32 := 256#32
  let v399 : BitVec 32 := Scalar.muli v396 c256_i32_160
  v399
def k0_mult11 (i : grid0.Coords) : BitVec 32 :=
  let c9_i32_174 : BitVec 32 := 9#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c9_i32 : BitVec 32 := 9#32
  let v434 : BitVec 1 := Scalar.cmpi .sle v29 c9_i32
  let v435 : BitVec 32 := Scalar.extui v434
  let v436 : BitVec 32 := Scalar.addi c9_i32_174 v435
  let c256_i32_175 : BitVec 32 := 256#32
  let v439 : BitVec 32 := Scalar.muli v436 c256_i32_175
  v439
def k0_mult12 (i : grid0.Coords) : BitVec 32 :=
  let c10_i32_189 : BitVec 32 := 10#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c10_i32 : BitVec 32 := 10#32
  let v474 : BitVec 1 := Scalar.cmpi .sle v29 c10_i32
  let v475 : BitVec 32 := Scalar.extui v474
  let v476 : BitVec 32 := Scalar.addi c10_i32_189 v475
  let c256_i32_190 : BitVec 32 := 256#32
  let v479 : BitVec 32 := Scalar.muli v476 c256_i32_190
  v479
def k0_mult13 (i : grid0.Coords) : BitVec 32 :=
  let c11_i32_204 : BitVec 32 := 11#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c11_i32 : BitVec 32 := 11#32
  let v514 : BitVec 1 := Scalar.cmpi .sle v29 c11_i32
  let v515 : BitVec 32 := Scalar.extui v514
  let v516 : BitVec 32 := Scalar.addi c11_i32_204 v515
  let c256_i32_205 : BitVec 32 := 256#32
  let v519 : BitVec 32 := Scalar.muli v516 c256_i32_205
  v519
def k0_mult14 (i : grid0.Coords) : BitVec 32 :=
  let c12_i32_219 : BitVec 32 := 12#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c12_i32 : BitVec 32 := 12#32
  let v554 : BitVec 1 := Scalar.cmpi .sle v29 c12_i32
  let v555 : BitVec 32 := Scalar.extui v554
  let v556 : BitVec 32 := Scalar.addi c12_i32_219 v555
  let c256_i32_220 : BitVec 32 := 256#32
  let v559 : BitVec 32 := Scalar.muli v556 c256_i32_220
  v559
def k0_mult15 (i : grid0.Coords) : BitVec 32 :=
  let c13_i32_234 : BitVec 32 := 13#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c13_i32 : BitVec 32 := 13#32
  let v594 : BitVec 1 := Scalar.cmpi .sle v29 c13_i32
  let v595 : BitVec 32 := Scalar.extui v594
  let v596 : BitVec 32 := Scalar.addi c13_i32_234 v595
  let c256_i32_235 : BitVec 32 := 256#32
  let v599 : BitVec 32 := Scalar.muli v596 c256_i32_235
  v599
def k0_mult16 (i : grid0.Coords) : BitVec 32 :=
  let c14_i32_249 : BitVec 32 := 14#32
  let arg0 : BitVec 32 := BitVec.ofNat 32 (i 0).val
  let c2_i32 : BitVec 32 := 2#32
  let v19 : BitVec 32 := Scalar.muli arg0 c2_i32
  let c0_i32_9 : BitVec 32 := 0#32
  let v20 : BitVec 32 := Scalar.addi v19 c0_i32_9
  let c15_i32 : BitVec 32 := 15#32
  let v24 : BitVec 32 := Scalar.andi v20 c15_i32
  let c256_i32 : BitVec 32 := 256#32
  let v25 : BitVec 32 := Scalar.muli v24 c256_i32
  let c8_i32 : BitVec 32 := 8#32
  let v29 : BitVec 32 := Scalar.shrsi v25 c8_i32
  let c14_i32 : BitVec 32 := 14#32
  let v634 : BitVec 1 := Scalar.cmpi .sle v29 c14_i32
  let v635 : BitVec 32 := Scalar.extui v634
  let v636 : BitVec 32 := Scalar.addi c14_i32_249 v635
  let c256_i32_250 : BitVec 32 := 256#32
  let v639 : BitVec 32 := Scalar.muli v636 c256_i32_250
  v639
def k0_mult17 (i : grid0.Coords) : BitVec 32 :=
  let c0_i32_284 : BitVec 32 := 0#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c0_i32_283 : BitVec 32 := 0#32
  let v707 : BitVec 1 := Scalar.cmpi .sle v694 c0_i32_283
  let v708 : BitVec 32 := Scalar.extui v707
  let v709 : BitVec 32 := Scalar.addi c0_i32_284 v708
  let c256_i32_285 : BitVec 32 := 256#32
  let v712 : BitVec 32 := Scalar.muli v709 c256_i32_285
  v712
def k0_mult18 (i : grid0.Coords) : BitVec 32 :=
  let c1_i32_300 : BitVec 32 := 1#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c1_i32_299 : BitVec 32 := 1#32
  let v747 : BitVec 1 := Scalar.cmpi .sle v694 c1_i32_299
  let v748 : BitVec 32 := Scalar.extui v747
  let v749 : BitVec 32 := Scalar.addi c1_i32_300 v748
  let c256_i32_301 : BitVec 32 := 256#32
  let v752 : BitVec 32 := Scalar.muli v749 c256_i32_301
  v752
def k0_mult19 (i : grid0.Coords) : BitVec 32 :=
  let c2_i32_316 : BitVec 32 := 2#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c2_i32_315 : BitVec 32 := 2#32
  let v787 : BitVec 1 := Scalar.cmpi .sle v694 c2_i32_315
  let v788 : BitVec 32 := Scalar.extui v787
  let v789 : BitVec 32 := Scalar.addi c2_i32_316 v788
  let c256_i32_317 : BitVec 32 := 256#32
  let v792 : BitVec 32 := Scalar.muli v789 c256_i32_317
  v792
def k0_mult20 (i : grid0.Coords) : BitVec 32 :=
  let c3_i32_332 : BitVec 32 := 3#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c3_i32_331 : BitVec 32 := 3#32
  let v827 : BitVec 1 := Scalar.cmpi .sle v694 c3_i32_331
  let v828 : BitVec 32 := Scalar.extui v827
  let v829 : BitVec 32 := Scalar.addi c3_i32_332 v828
  let c256_i32_333 : BitVec 32 := 256#32
  let v832 : BitVec 32 := Scalar.muli v829 c256_i32_333
  v832
def k0_mult21 (i : grid0.Coords) : BitVec 32 :=
  let c4_i32_348 : BitVec 32 := 4#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c4_i32_347 : BitVec 32 := 4#32
  let v867 : BitVec 1 := Scalar.cmpi .sle v694 c4_i32_347
  let v868 : BitVec 32 := Scalar.extui v867
  let v869 : BitVec 32 := Scalar.addi c4_i32_348 v868
  let c256_i32_349 : BitVec 32 := 256#32
  let v872 : BitVec 32 := Scalar.muli v869 c256_i32_349
  v872
def k0_mult22 (i : grid0.Coords) : BitVec 32 :=
  let c5_i32_364 : BitVec 32 := 5#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c5_i32_363 : BitVec 32 := 5#32
  let v907 : BitVec 1 := Scalar.cmpi .sle v694 c5_i32_363
  let v908 : BitVec 32 := Scalar.extui v907
  let v909 : BitVec 32 := Scalar.addi c5_i32_364 v908
  let c256_i32_365 : BitVec 32 := 256#32
  let v912 : BitVec 32 := Scalar.muli v909 c256_i32_365
  v912
def k0_mult23 (i : grid0.Coords) : BitVec 32 :=
  let c6_i32_380 : BitVec 32 := 6#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c6_i32_379 : BitVec 32 := 6#32
  let v947 : BitVec 1 := Scalar.cmpi .sle v694 c6_i32_379
  let v948 : BitVec 32 := Scalar.extui v947
  let v949 : BitVec 32 := Scalar.addi c6_i32_380 v948
  let c256_i32_381 : BitVec 32 := 256#32
  let v952 : BitVec 32 := Scalar.muli v949 c256_i32_381
  v952
def k0_mult24 (i : grid0.Coords) : BitVec 32 :=
  let c7_i32_396 : BitVec 32 := 7#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c7_i32_395 : BitVec 32 := 7#32
  let v987 : BitVec 1 := Scalar.cmpi .sle v694 c7_i32_395
  let v988 : BitVec 32 := Scalar.extui v987
  let v989 : BitVec 32 := Scalar.addi c7_i32_396 v988
  let c256_i32_397 : BitVec 32 := 256#32
  let v992 : BitVec 32 := Scalar.muli v989 c256_i32_397
  v992
def k0_mult25 (i : grid0.Coords) : BitVec 32 :=
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c256_i32_411 : BitVec 32 := 256#32
  let v1027 : BitVec 32 := Scalar.muli v694 c256_i32_411
  v1027
def k0_mult26 (i : grid0.Coords) : BitVec 32 :=
  let c8_i32_429 : BitVec 32 := 8#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c8_i32_428 : BitVec 32 := 8#32
  let v1059 : BitVec 1 := Scalar.cmpi .sle v694 c8_i32_428
  let v1060 : BitVec 32 := Scalar.extui v1059
  let v1061 : BitVec 32 := Scalar.addi c8_i32_429 v1060
  let c256_i32_430 : BitVec 32 := 256#32
  let v1064 : BitVec 32 := Scalar.muli v1061 c256_i32_430
  v1064
def k0_mult27 (i : grid0.Coords) : BitVec 32 :=
  let c9_i32_445 : BitVec 32 := 9#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c9_i32_444 : BitVec 32 := 9#32
  let v1099 : BitVec 1 := Scalar.cmpi .sle v694 c9_i32_444
  let v1100 : BitVec 32 := Scalar.extui v1099
  let v1101 : BitVec 32 := Scalar.addi c9_i32_445 v1100
  let c256_i32_446 : BitVec 32 := 256#32
  let v1104 : BitVec 32 := Scalar.muli v1101 c256_i32_446
  v1104
def k0_mult28 (i : grid0.Coords) : BitVec 32 :=
  let c10_i32_461 : BitVec 32 := 10#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c10_i32_460 : BitVec 32 := 10#32
  let v1139 : BitVec 1 := Scalar.cmpi .sle v694 c10_i32_460
  let v1140 : BitVec 32 := Scalar.extui v1139
  let v1141 : BitVec 32 := Scalar.addi c10_i32_461 v1140
  let c256_i32_462 : BitVec 32 := 256#32
  let v1144 : BitVec 32 := Scalar.muli v1141 c256_i32_462
  v1144
def k0_mult29 (i : grid0.Coords) : BitVec 32 :=
  let c11_i32_477 : BitVec 32 := 11#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c11_i32_476 : BitVec 32 := 11#32
  let v1179 : BitVec 1 := Scalar.cmpi .sle v694 c11_i32_476
  let v1180 : BitVec 32 := Scalar.extui v1179
  let v1181 : BitVec 32 := Scalar.addi c11_i32_477 v1180
  let c256_i32_478 : BitVec 32 := 256#32
  let v1184 : BitVec 32 := Scalar.muli v1181 c256_i32_478
  v1184
def k0_mult30 (i : grid0.Coords) : BitVec 32 :=
  let c12_i32_493 : BitVec 32 := 12#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c12_i32_492 : BitVec 32 := 12#32
  let v1219 : BitVec 1 := Scalar.cmpi .sle v694 c12_i32_492
  let v1220 : BitVec 32 := Scalar.extui v1219
  let v1221 : BitVec 32 := Scalar.addi c12_i32_493 v1220
  let c256_i32_494 : BitVec 32 := 256#32
  let v1224 : BitVec 32 := Scalar.muli v1221 c256_i32_494
  v1224
def k0_mult31 (i : grid0.Coords) : BitVec 32 :=
  let c13_i32_509 : BitVec 32 := 13#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c13_i32_508 : BitVec 32 := 13#32
  let v1259 : BitVec 1 := Scalar.cmpi .sle v694 c13_i32_508
  let v1260 : BitVec 32 := Scalar.extui v1259
  let v1261 : BitVec 32 := Scalar.addi c13_i32_509 v1260
  let c256_i32_510 : BitVec 32 := 256#32
  let v1264 : BitVec 32 := Scalar.muli v1261 c256_i32_510
  v1264
def k0_mult32 (i : grid0.Coords) : BitVec 32 :=
  let c14_i32_525 : BitVec 32 := 14#32
  let arg0 : BitVec 32 := BitVec.ofNat 32 (i 0).val
  let c2_i32_10 : BitVec 32 := 2#32
  let v21 : BitVec 32 := Scalar.muli arg0 c2_i32_10
  let c1_i32_11 : BitVec 32 := 1#32
  let v22 : BitVec 32 := Scalar.addi v21 c1_i32_11
  let c15_i32_273 : BitVec 32 := 15#32
  let v689 : BitVec 32 := Scalar.andi v22 c15_i32_273
  let c256_i32_274 : BitVec 32 := 256#32
  let v690 : BitVec 32 := Scalar.muli v689 c256_i32_274
  let c8_i32_276 : BitVec 32 := 8#32
  let v694 : BitVec 32 := Scalar.shrsi v690 c8_i32_276
  let c14_i32_524 : BitVec 32 := 14#32
  let v1299 : BitVec 1 := Scalar.cmpi .sle v694 c14_i32_524
  let v1300 : BitVec 32 := Scalar.extui v1299
  let v1301 : BitVec 32 := Scalar.addi c14_i32_525 v1300
  let c256_i32_526 : BitVec 32 := 256#32
  let v1304 : BitVec 32 := Scalar.muli v1301 c256_i32_526
  v1304
def k0_cond2 (i : grid0.Coords) : BitVec 1 :=
  let arg0 : BitVec 32 := BitVec.ofNat 32 (i 0).val
  let c0_i32 : BitVec 32 := 0#32
  let v0 : BitVec 1 := Scalar.cmpi .sgt arg0 c0_i32
  let c512_i32 : BitVec 32 := 512#32
  let v1 : BitVec 1 := Scalar.cmpi .slt arg0 c512_i32
  let v2 : BitVec 1 := Scalar.andi v0 v1
  let c1_i32 : BitVec 32 := 1#32
  let v6 : BitVec 32 := Scalar.andi arg0 c1_i32
  let c0_i32_2 : BitVec 32 := 0#32
  let v7 : BitVec 1 := Scalar.cmpi .eq v6 c0_i32_2
  let v8 : BitVec 1 := Scalar.andi v2 v7
  let v9 : BitVec 32 := Scalar.extui v8
  let c0_i32_3 : BitVec 32 := 0#32
  let v10 : BitVec 1 := Scalar.cmpi .ne v9 c0_i32_3
  v10

def k0_off10 (i : grid0.Coords) (c0_i32_10 : BitVec 32) : Fin 1 → Nat :=
  let arg0 : BitVec 32 := BitVec.ofNat 32 (i 0).val
  let c1_i32_9 : BitVec 32 := 1#32
  let v19 : BitVec 32 := Scalar.subi arg0 c1_i32_9
  let c2_i32 : BitVec 32 := 2#32
  let v20 : BitVec 32 := Scalar.muli v19 c2_i32
  let v21 : BitVec 32 := Scalar.addi v20 c0_i32_10
  let c4_i32 : BitVec 32 := 4#32
  let v28 : BitVec 32 := Scalar.shrsi v21 c4_i32
  let c7_i32 : BitVec 32 := 7#32
  let v31 : BitVec 32 := Scalar.andi v28 c7_i32
  let v32 : Index := Scalar.indexCast v31
  ![v32.toNat]
def k0_off11 (i : grid0.Coords) (c0_i32_14 : BitVec 32) : Fin 1 → Nat :=
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c4_i32_43 : BitVec 32 := 4#32
  let v90 : BitVec 32 := Scalar.shrsi v25 c4_i32_43
  let c7_i32_46 : BitVec 32 := 7#32
  let v93 : BitVec 32 := Scalar.andi v90 c7_i32_46
  let v94 : Index := Scalar.indexCast v93
  ![v94.toNat]
def k0_mult33 (i : grid0.Coords) : BitVec 32 :=
  let c0_i32_56 : BitVec 32 := 0#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c0_i32_55 : BitVec 32 := 0#32
  let v109 : BitVec 1 := Scalar.cmpi .sle v96 c0_i32_55
  let v110 : BitVec 32 := Scalar.extui v109
  let v111 : BitVec 32 := Scalar.addi c0_i32_56 v110
  let c256_i32_57 : BitVec 32 := 256#32
  let v114 : BitVec 32 := Scalar.muli v111 c256_i32_57
  v114
def k0_off12 (i : grid0.Coords) (c0_i32_56 : BitVec 32) (c0_i32_14 : BitVec 32) (c0_i32_55 : BitVec 32) : Fin 2 → Nat :=
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let v109 : BitVec 1 := Scalar.cmpi .sle v96 c0_i32_55
  let v110 : BitVec 32 := Scalar.extui v109
  let v111 : BitVec 32 := Scalar.addi c0_i32_56 v110
  let c256_i32_57 : BitVec 32 := 256#32
  let v114 : BitVec 32 := Scalar.muli v111 c256_i32_57
  let v115 : BitVec 32 := v114
  let v116 : Index := Scalar.indexCast v115
  let c0_58 : Index := 0#32
  ![v116.toNat, 0]
def k0_off12_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_off13 (i : grid0.Coords) (c0_i32_56 : BitVec 32) (c0_i32_14 : BitVec 32) (c0_i32_55 : BitVec 32) : Fin 3 → Nat :=
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let v109 : BitVec 1 := Scalar.cmpi .sle v96 c0_i32_55
  let v110 : BitVec 32 := Scalar.extui v109
  let v111 : BitVec 32 := Scalar.addi c0_i32_56 v110
  let v112 : BitVec 1 := Scalar.cmpi .sgt v111 v96
  let v113 : BitVec 32 := Scalar.extui v112
  let v119 : Index := Scalar.indexCast v113
  let c0_59 : Index := 0#32
  let c0_60 : Index := 0#32
  ![v119.toNat, 0, 0]
def k0_off13_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_off14 (i : grid0.Coords) (c0_i32_56 : BitVec 32) (c0_i32_14 : BitVec 32) (c0_i32_55 : BitVec 32) : Fin 3 → Nat :=
  let c0_65 : Index := 0#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let v109 : BitVec 1 := Scalar.cmpi .sle v96 c0_i32_55
  let v110 : BitVec 32 := Scalar.extui v109
  let v111 : BitVec 32 := Scalar.addi c0_i32_56 v110
  let c256_i32_57 : BitVec 32 := 256#32
  let v114 : BitVec 32 := Scalar.muli v111 c256_i32_57
  let v115 : BitVec 32 := v114
  let v131 : Index := Scalar.indexCast v115
  let c0_66 : Index := 0#32
  ![0, v131.toNat, 0]
def k0_off14_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_off15 (i : grid0.Coords) (c0_i32_56 : BitVec 32) (c0_i32_14 : BitVec 32) (c0_i32_55 : BitVec 32) : Fin 3 → Nat :=
  let c1_67 : Index := 1#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let v109 : BitVec 1 := Scalar.cmpi .sle v96 c0_i32_55
  let v110 : BitVec 32 := Scalar.extui v109
  let v111 : BitVec 32 := Scalar.addi c0_i32_56 v110
  let c256_i32_57 : BitVec 32 := 256#32
  let v114 : BitVec 32 := Scalar.muli v111 c256_i32_57
  let v115 : BitVec 32 := v114
  let v135 : Index := Scalar.indexCast v115
  let c0_68 : Index := 0#32
  ![1, v135.toNat, 0]
def k0_off15_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_mult34 (i : grid0.Coords) : BitVec 32 :=
  let c1_i32_87 : BitVec 32 := 1#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c1_i32_86 : BitVec 32 := 1#32
  let v179 : BitVec 1 := Scalar.cmpi .sle v96 c1_i32_86
  let v180 : BitVec 32 := Scalar.extui v179
  let v181 : BitVec 32 := Scalar.addi c1_i32_87 v180
  let c256_i32_88 : BitVec 32 := 256#32
  let v184 : BitVec 32 := Scalar.muli v181 c256_i32_88
  v184
def k0_mult35 (i : grid0.Coords) : BitVec 32 :=
  let c2_i32_116 : BitVec 32 := 2#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c2_i32_115 : BitVec 32 := 2#32
  let v249 : BitVec 1 := Scalar.cmpi .sle v96 c2_i32_115
  let v250 : BitVec 32 := Scalar.extui v249
  let v251 : BitVec 32 := Scalar.addi c2_i32_116 v250
  let c256_i32_117 : BitVec 32 := 256#32
  let v254 : BitVec 32 := Scalar.muli v251 c256_i32_117
  v254
def k0_mult36 (i : grid0.Coords) : BitVec 32 :=
  let c3_i32_146 : BitVec 32 := 3#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c3_i32_145 : BitVec 32 := 3#32
  let v319 : BitVec 1 := Scalar.cmpi .sle v96 c3_i32_145
  let v320 : BitVec 32 := Scalar.extui v319
  let v321 : BitVec 32 := Scalar.addi c3_i32_146 v320
  let c256_i32_147 : BitVec 32 := 256#32
  let v324 : BitVec 32 := Scalar.muli v321 c256_i32_147
  v324
def k0_mult37 (i : grid0.Coords) : BitVec 32 :=
  let c4_i32_175 : BitVec 32 := 4#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c4_i32_174 : BitVec 32 := 4#32
  let v389 : BitVec 1 := Scalar.cmpi .sle v96 c4_i32_174
  let v390 : BitVec 32 := Scalar.extui v389
  let v391 : BitVec 32 := Scalar.addi c4_i32_175 v390
  let c256_i32_176 : BitVec 32 := 256#32
  let v394 : BitVec 32 := Scalar.muli v391 c256_i32_176
  v394
def k0_mult38 (i : grid0.Coords) : BitVec 32 :=
  let c5_i32_204 : BitVec 32 := 5#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c5_i32_203 : BitVec 32 := 5#32
  let v459 : BitVec 1 := Scalar.cmpi .sle v96 c5_i32_203
  let v460 : BitVec 32 := Scalar.extui v459
  let v461 : BitVec 32 := Scalar.addi c5_i32_204 v460
  let c256_i32_205 : BitVec 32 := 256#32
  let v464 : BitVec 32 := Scalar.muli v461 c256_i32_205
  v464
def k0_mult39 (i : grid0.Coords) : BitVec 32 :=
  let c6_i32_234 : BitVec 32 := 6#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c6_i32_233 : BitVec 32 := 6#32
  let v529 : BitVec 1 := Scalar.cmpi .sle v96 c6_i32_233
  let v530 : BitVec 32 := Scalar.extui v529
  let v531 : BitVec 32 := Scalar.addi c6_i32_234 v530
  let c256_i32_235 : BitVec 32 := 256#32
  let v534 : BitVec 32 := Scalar.muli v531 c256_i32_235
  v534
def k0_mult40 (i : grid0.Coords) : BitVec 32 :=
  let c7_i32_264 : BitVec 32 := 7#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c7_i32_263 : BitVec 32 := 7#32
  let v599 : BitVec 1 := Scalar.cmpi .sle v96 c7_i32_263
  let v600 : BitVec 32 := Scalar.extui v599
  let v601 : BitVec 32 := Scalar.addi c7_i32_264 v600
  let c256_i32_265 : BitVec 32 := 256#32
  let v604 : BitVec 32 := Scalar.muli v601 c256_i32_265
  v604
def k0_mult41 (i : grid0.Coords) : BitVec 32 :=
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c256_i32_292 : BitVec 32 := 256#32
  let v669 : BitVec 32 := Scalar.muli v96 c256_i32_292
  v669
def k0_off16 (i : grid0.Coords) (c0_i32_14 : BitVec 32) : Fin 4 → Nat :=
  let c0_295 : Index := 0#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_293 : BitVec 32 := 8#32
  let v671 : BitVec 32 := Scalar.shrsi v92 c8_i32_293
  let c0_i32_294 : BitVec 32 := 0#32
  let v672 : BitVec 32 := Scalar.andi v671 c0_i32_294
  let v673 : Index := Scalar.indexCast v672
  let c0_296 : Index := 0#32
  let c0_297 : Index := 0#32
  ![0, v673.toNat, 0, 0]
def k0_off17 (i : grid0.Coords) (c0_i32_14 : BitVec 32) : Fin 2 → Nat :=
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c256_i32_292 : BitVec 32 := 256#32
  let v669 : BitVec 32 := Scalar.muli v96 c256_i32_292
  let v670 : BitVec 32 := v669
  let v676 : Index := Scalar.indexCast v670
  let c0_298 : Index := 0#32
  ![v676.toNat, 0]
def k0_off18 (i : grid0.Coords) (c0_i32_14 : BitVec 32) : Fin 3 → Nat :=
  let c0_301 : Index := 0#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c256_i32_292 : BitVec 32 := 256#32
  let v669 : BitVec 32 := Scalar.muli v96 c256_i32_292
  let v670 : BitVec 32 := v669
  let v683 : Index := Scalar.indexCast v670
  let c0_302 : Index := 0#32
  ![0, v683.toNat, 0]
def k0_off19 (i : grid0.Coords) (c0_i32_14 : BitVec 32) : Fin 3 → Nat :=
  let c1_303 : Index := 1#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c256_i32_292 : BitVec 32 := 256#32
  let v669 : BitVec 32 := Scalar.muli v96 c256_i32_292
  let v670 : BitVec 32 := v669
  let v687 : Index := Scalar.indexCast v670
  let c0_304 : Index := 0#32
  ![1, v687.toNat, 0]
def k0_mult42 (i : grid0.Coords) : BitVec 32 :=
  let c8_i32_323 : BitVec 32 := 8#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c8_i32_322 : BitVec 32 := 8#32
  let v731 : BitVec 1 := Scalar.cmpi .sle v96 c8_i32_322
  let v732 : BitVec 32 := Scalar.extui v731
  let v733 : BitVec 32 := Scalar.addi c8_i32_323 v732
  let c256_i32_324 : BitVec 32 := 256#32
  let v736 : BitVec 32 := Scalar.muli v733 c256_i32_324
  v736
def k0_mult43 (i : grid0.Coords) : BitVec 32 :=
  let c9_i32_352 : BitVec 32 := 9#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c9_i32_351 : BitVec 32 := 9#32
  let v801 : BitVec 1 := Scalar.cmpi .sle v96 c9_i32_351
  let v802 : BitVec 32 := Scalar.extui v801
  let v803 : BitVec 32 := Scalar.addi c9_i32_352 v802
  let c256_i32_353 : BitVec 32 := 256#32
  let v806 : BitVec 32 := Scalar.muli v803 c256_i32_353
  v806
def k0_mult44 (i : grid0.Coords) : BitVec 32 :=
  let c10_i32_381 : BitVec 32 := 10#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c10_i32_380 : BitVec 32 := 10#32
  let v871 : BitVec 1 := Scalar.cmpi .sle v96 c10_i32_380
  let v872 : BitVec 32 := Scalar.extui v871
  let v873 : BitVec 32 := Scalar.addi c10_i32_381 v872
  let c256_i32_382 : BitVec 32 := 256#32
  let v876 : BitVec 32 := Scalar.muli v873 c256_i32_382
  v876
def k0_mult45 (i : grid0.Coords) : BitVec 32 :=
  let c11_i32_410 : BitVec 32 := 11#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c11_i32_409 : BitVec 32 := 11#32
  let v941 : BitVec 1 := Scalar.cmpi .sle v96 c11_i32_409
  let v942 : BitVec 32 := Scalar.extui v941
  let v943 : BitVec 32 := Scalar.addi c11_i32_410 v942
  let c256_i32_411 : BitVec 32 := 256#32
  let v946 : BitVec 32 := Scalar.muli v943 c256_i32_411
  v946
def k0_mult46 (i : grid0.Coords) : BitVec 32 :=
  let c12_i32_439 : BitVec 32 := 12#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c12_i32_438 : BitVec 32 := 12#32
  let v1011 : BitVec 1 := Scalar.cmpi .sle v96 c12_i32_438
  let v1012 : BitVec 32 := Scalar.extui v1011
  let v1013 : BitVec 32 := Scalar.addi c12_i32_439 v1012
  let c256_i32_440 : BitVec 32 := 256#32
  let v1016 : BitVec 32 := Scalar.muli v1013 c256_i32_440
  v1016
def k0_mult47 (i : grid0.Coords) : BitVec 32 :=
  let c13_i32_496 : BitVec 32 := 13#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c13_i32_495 : BitVec 32 := 13#32
  let v1137 : BitVec 1 := Scalar.cmpi .sle v96 c13_i32_495
  let v1138 : BitVec 32 := Scalar.extui v1137
  let v1139 : BitVec 32 := Scalar.addi c13_i32_496 v1138
  let c256_i32_497 : BitVec 32 := 256#32
  let v1142 : BitVec 32 := Scalar.muli v1139 c256_i32_497
  v1142
def k0_mult48 (i : grid0.Coords) : BitVec 32 :=
  let c14_i32_536 : BitVec 32 := 14#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c14_i32_535 : BitVec 32 := 14#32
  let v1215 : BitVec 1 := Scalar.cmpi .sle v96 c14_i32_535
  let v1216 : BitVec 32 := Scalar.extui v1215
  let v1217 : BitVec 32 := Scalar.addi c14_i32_536 v1216
  let c256_i32_537 : BitVec 32 := 256#32
  let v1220 : BitVec 32 := Scalar.muli v1217 c256_i32_537
  v1220
def k0_mult49 (i : grid0.Coords) : BitVec 32 :=
  let c0_i32_584 : BitVec 32 := 0#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c0_i32_583 : BitVec 32 := 0#32
  let v1312 : BitVec 1 := Scalar.cmpi .sle v1299 c0_i32_583
  let v1313 : BitVec 32 := Scalar.extui v1312
  let v1314 : BitVec 32 := Scalar.addi c0_i32_584 v1313
  let c256_i32_585 : BitVec 32 := 256#32
  let v1317 : BitVec 32 := Scalar.muli v1314 c256_i32_585
  v1317
def k0_mult50 (i : grid0.Coords) : BitVec 32 :=
  let c1_i32_616 : BitVec 32 := 1#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c1_i32_615 : BitVec 32 := 1#32
  let v1382 : BitVec 1 := Scalar.cmpi .sle v1299 c1_i32_615
  let v1383 : BitVec 32 := Scalar.extui v1382
  let v1384 : BitVec 32 := Scalar.addi c1_i32_616 v1383
  let c256_i32_617 : BitVec 32 := 256#32
  let v1387 : BitVec 32 := Scalar.muli v1384 c256_i32_617
  v1387
def k0_mult51 (i : grid0.Coords) : BitVec 32 :=
  let c2_i32_648 : BitVec 32 := 2#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c2_i32_647 : BitVec 32 := 2#32
  let v1452 : BitVec 1 := Scalar.cmpi .sle v1299 c2_i32_647
  let v1453 : BitVec 32 := Scalar.extui v1452
  let v1454 : BitVec 32 := Scalar.addi c2_i32_648 v1453
  let c256_i32_649 : BitVec 32 := 256#32
  let v1457 : BitVec 32 := Scalar.muli v1454 c256_i32_649
  v1457
def k0_mult52 (i : grid0.Coords) : BitVec 32 :=
  let c3_i32_680 : BitVec 32 := 3#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c3_i32_679 : BitVec 32 := 3#32
  let v1522 : BitVec 1 := Scalar.cmpi .sle v1299 c3_i32_679
  let v1523 : BitVec 32 := Scalar.extui v1522
  let v1524 : BitVec 32 := Scalar.addi c3_i32_680 v1523
  let c256_i32_681 : BitVec 32 := 256#32
  let v1527 : BitVec 32 := Scalar.muli v1524 c256_i32_681
  v1527
def k0_mult53 (i : grid0.Coords) : BitVec 32 :=
  let c4_i32_712 : BitVec 32 := 4#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c4_i32_711 : BitVec 32 := 4#32
  let v1592 : BitVec 1 := Scalar.cmpi .sle v1299 c4_i32_711
  let v1593 : BitVec 32 := Scalar.extui v1592
  let v1594 : BitVec 32 := Scalar.addi c4_i32_712 v1593
  let c256_i32_713 : BitVec 32 := 256#32
  let v1597 : BitVec 32 := Scalar.muli v1594 c256_i32_713
  v1597
def k0_mult54 (i : grid0.Coords) : BitVec 32 :=
  let c5_i32_744 : BitVec 32 := 5#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c5_i32_743 : BitVec 32 := 5#32
  let v1662 : BitVec 1 := Scalar.cmpi .sle v1299 c5_i32_743
  let v1663 : BitVec 32 := Scalar.extui v1662
  let v1664 : BitVec 32 := Scalar.addi c5_i32_744 v1663
  let c256_i32_745 : BitVec 32 := 256#32
  let v1667 : BitVec 32 := Scalar.muli v1664 c256_i32_745
  v1667
def k0_mult55 (i : grid0.Coords) : BitVec 32 :=
  let c6_i32_776 : BitVec 32 := 6#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c6_i32_775 : BitVec 32 := 6#32
  let v1732 : BitVec 1 := Scalar.cmpi .sle v1299 c6_i32_775
  let v1733 : BitVec 32 := Scalar.extui v1732
  let v1734 : BitVec 32 := Scalar.addi c6_i32_776 v1733
  let c256_i32_777 : BitVec 32 := 256#32
  let v1737 : BitVec 32 := Scalar.muli v1734 c256_i32_777
  v1737
def k0_mult56 (i : grid0.Coords) : BitVec 32 :=
  let c7_i32_808 : BitVec 32 := 7#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c7_i32_807 : BitVec 32 := 7#32
  let v1802 : BitVec 1 := Scalar.cmpi .sle v1299 c7_i32_807
  let v1803 : BitVec 32 := Scalar.extui v1802
  let v1804 : BitVec 32 := Scalar.addi c7_i32_808 v1803
  let c256_i32_809 : BitVec 32 := 256#32
  let v1807 : BitVec 32 := Scalar.muli v1804 c256_i32_809
  v1807
def k0_mult57 (i : grid0.Coords) : BitVec 32 :=
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c256_i32_839 : BitVec 32 := 256#32
  let v1872 : BitVec 32 := Scalar.muli v1299 c256_i32_839
  v1872
def k0_mult58 (i : grid0.Coords) : BitVec 32 :=
  let c8_i32_873 : BitVec 32 := 8#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c8_i32_872 : BitVec 32 := 8#32
  let v1934 : BitVec 1 := Scalar.cmpi .sle v1299 c8_i32_872
  let v1935 : BitVec 32 := Scalar.extui v1934
  let v1936 : BitVec 32 := Scalar.addi c8_i32_873 v1935
  let c256_i32_874 : BitVec 32 := 256#32
  let v1939 : BitVec 32 := Scalar.muli v1936 c256_i32_874
  v1939
def k0_mult59 (i : grid0.Coords) : BitVec 32 :=
  let c9_i32_905 : BitVec 32 := 9#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c9_i32_904 : BitVec 32 := 9#32
  let v2004 : BitVec 1 := Scalar.cmpi .sle v1299 c9_i32_904
  let v2005 : BitVec 32 := Scalar.extui v2004
  let v2006 : BitVec 32 := Scalar.addi c9_i32_905 v2005
  let c256_i32_906 : BitVec 32 := 256#32
  let v2009 : BitVec 32 := Scalar.muli v2006 c256_i32_906
  v2009
def k0_mult60 (i : grid0.Coords) : BitVec 32 :=
  let c10_i32_937 : BitVec 32 := 10#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c10_i32_936 : BitVec 32 := 10#32
  let v2074 : BitVec 1 := Scalar.cmpi .sle v1299 c10_i32_936
  let v2075 : BitVec 32 := Scalar.extui v2074
  let v2076 : BitVec 32 := Scalar.addi c10_i32_937 v2075
  let c256_i32_938 : BitVec 32 := 256#32
  let v2079 : BitVec 32 := Scalar.muli v2076 c256_i32_938
  v2079
def k0_mult61 (i : grid0.Coords) : BitVec 32 :=
  let c11_i32_969 : BitVec 32 := 11#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c11_i32_968 : BitVec 32 := 11#32
  let v2144 : BitVec 1 := Scalar.cmpi .sle v1299 c11_i32_968
  let v2145 : BitVec 32 := Scalar.extui v2144
  let v2146 : BitVec 32 := Scalar.addi c11_i32_969 v2145
  let c256_i32_970 : BitVec 32 := 256#32
  let v2149 : BitVec 32 := Scalar.muli v2146 c256_i32_970
  v2149
def k0_mult62 (i : grid0.Coords) : BitVec 32 :=
  let c12_i32_1001 : BitVec 32 := 12#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c12_i32_1000 : BitVec 32 := 12#32
  let v2214 : BitVec 1 := Scalar.cmpi .sle v1299 c12_i32_1000
  let v2215 : BitVec 32 := Scalar.extui v2214
  let v2216 : BitVec 32 := Scalar.addi c12_i32_1001 v2215
  let c256_i32_1002 : BitVec 32 := 256#32
  let v2219 : BitVec 32 := Scalar.muli v2216 c256_i32_1002
  v2219
def k0_mult63 (i : grid0.Coords) : BitVec 32 :=
  let c13_i32_1060 : BitVec 32 := 13#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c13_i32_1059 : BitVec 32 := 13#32
  let v2340 : BitVec 1 := Scalar.cmpi .sle v1299 c13_i32_1059
  let v2341 : BitVec 32 := Scalar.extui v2340
  let v2342 : BitVec 32 := Scalar.addi c13_i32_1060 v2341
  let c256_i32_1061 : BitVec 32 := 256#32
  let v2345 : BitVec 32 := Scalar.muli v2342 c256_i32_1061
  v2345
def k0_mult64 (i : grid0.Coords) : BitVec 32 :=
  let c14_i32_1076 : BitVec 32 := 14#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c14_i32_1075 : BitVec 32 := 14#32
  let v2380 : BitVec 1 := Scalar.cmpi .sle v1299 c14_i32_1075
  let v2381 : BitVec 32 := Scalar.extui v2380
  let v2382 : BitVec 32 := Scalar.addi c14_i32_1076 v2381
  let c256_i32_1077 : BitVec 32 := 256#32
  let v2385 : BitVec 32 := Scalar.muli v2382 c256_i32_1077
  v2385
def k0_cond3 (i : grid0.Coords) : BitVec 1 :=
  let arg0 : BitVec 32 := BitVec.ofNat 32 (i 0).val
  let c0_i32 : BitVec 32 := 0#32
  let v0 : BitVec 1 := Scalar.cmpi .sgt arg0 c0_i32
  let c512_i32 : BitVec 32 := 512#32
  let v1 : BitVec 1 := Scalar.cmpi .slt arg0 c512_i32
  let v2 : BitVec 1 := Scalar.andi v0 v1
  let c1_i32_4 : BitVec 32 := 1#32
  let v11 : BitVec 32 := Scalar.andi arg0 c1_i32_4
  let c1_i32_5 : BitVec 32 := 1#32
  let v12 : BitVec 1 := Scalar.cmpi .eq v11 c1_i32_5
  let v13 : BitVec 1 := Scalar.andi v2 v12
  let v14 : BitVec 32 := Scalar.extui v13
  let c0_i32_6 : BitVec 32 := 0#32
  let v15 : BitVec 1 := Scalar.cmpi .ne v14 c0_i32_6
  v15

def k0_off20 (i : grid0.Coords) (c0_i32_10 : BitVec 32) : Fin 1 → Nat :=
  let arg0 : BitVec 32 := BitVec.ofNat 32 (i 0).val
  let c1_i32_9 : BitVec 32 := 1#32
  let v19 : BitVec 32 := Scalar.subi arg0 c1_i32_9
  let c2_i32 : BitVec 32 := 2#32
  let v20 : BitVec 32 := Scalar.muli v19 c2_i32
  let v21 : BitVec 32 := Scalar.addi v20 c0_i32_10
  let c4_i32 : BitVec 32 := 4#32
  let v28 : BitVec 32 := Scalar.shrsi v21 c4_i32
  let c7_i32 : BitVec 32 := 7#32
  let v31 : BitVec 32 := Scalar.andi v28 c7_i32
  let v32 : Index := Scalar.indexCast v31
  ![v32.toNat]
def k0_off21 (i : grid0.Coords) (c0_i32_14 : BitVec 32) : Fin 1 → Nat :=
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c4_i32_43 : BitVec 32 := 4#32
  let v90 : BitVec 32 := Scalar.shrsi v25 c4_i32_43
  let c7_i32_46 : BitVec 32 := 7#32
  let v93 : BitVec 32 := Scalar.andi v90 c7_i32_46
  let v94 : Index := Scalar.indexCast v93
  ![v94.toNat]
def k0_mult65 (i : grid0.Coords) : BitVec 32 :=
  let c0_i32_56 : BitVec 32 := 0#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c0_i32_55 : BitVec 32 := 0#32
  let v109 : BitVec 1 := Scalar.cmpi .sle v96 c0_i32_55
  let v110 : BitVec 32 := Scalar.extui v109
  let v111 : BitVec 32 := Scalar.addi c0_i32_56 v110
  let c256_i32_57 : BitVec 32 := 256#32
  let v114 : BitVec 32 := Scalar.muli v111 c256_i32_57
  v114
def k0_off22 (i : grid0.Coords) (c0_i32_56 : BitVec 32) (c0_i32_14 : BitVec 32) (c0_i32_55 : BitVec 32) : Fin 2 → Nat :=
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let v109 : BitVec 1 := Scalar.cmpi .sle v96 c0_i32_55
  let v110 : BitVec 32 := Scalar.extui v109
  let v111 : BitVec 32 := Scalar.addi c0_i32_56 v110
  let c256_i32_57 : BitVec 32 := 256#32
  let v114 : BitVec 32 := Scalar.muli v111 c256_i32_57
  let v115 : BitVec 32 := v114
  let v116 : Index := Scalar.indexCast v115
  let c0_58 : Index := 0#32
  ![v116.toNat, 0]
def k0_off22_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_off23 (i : grid0.Coords) (c0_i32_56 : BitVec 32) (c0_i32_14 : BitVec 32) (c0_i32_55 : BitVec 32) : Fin 3 → Nat :=
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let v109 : BitVec 1 := Scalar.cmpi .sle v96 c0_i32_55
  let v110 : BitVec 32 := Scalar.extui v109
  let v111 : BitVec 32 := Scalar.addi c0_i32_56 v110
  let v112 : BitVec 1 := Scalar.cmpi .sgt v111 v96
  let v113 : BitVec 32 := Scalar.extui v112
  let v119 : Index := Scalar.indexCast v113
  let c0_59 : Index := 0#32
  let c0_60 : Index := 0#32
  ![v119.toNat, 0, 0]
def k0_off23_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_off24 (i : grid0.Coords) (c0_i32_56 : BitVec 32) (c0_i32_14 : BitVec 32) (c0_i32_55 : BitVec 32) : Fin 3 → Nat :=
  let c0_65 : Index := 0#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let v109 : BitVec 1 := Scalar.cmpi .sle v96 c0_i32_55
  let v110 : BitVec 32 := Scalar.extui v109
  let v111 : BitVec 32 := Scalar.addi c0_i32_56 v110
  let c256_i32_57 : BitVec 32 := 256#32
  let v114 : BitVec 32 := Scalar.muli v111 c256_i32_57
  let v115 : BitVec 32 := v114
  let v131 : Index := Scalar.indexCast v115
  let c0_66 : Index := 0#32
  ![0, v131.toNat, 0]
def k0_off24_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_off25 (i : grid0.Coords) (c0_i32_56 : BitVec 32) (c0_i32_14 : BitVec 32) (c0_i32_55 : BitVec 32) : Fin 3 → Nat :=
  let c1_67 : Index := 1#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let v109 : BitVec 1 := Scalar.cmpi .sle v96 c0_i32_55
  let v110 : BitVec 32 := Scalar.extui v109
  let v111 : BitVec 32 := Scalar.addi c0_i32_56 v110
  let c256_i32_57 : BitVec 32 := 256#32
  let v114 : BitVec 32 := Scalar.muli v111 c256_i32_57
  let v115 : BitVec 32 := v114
  let v135 : Index := Scalar.indexCast v115
  let c0_68 : Index := 0#32
  ![1, v135.toNat, 0]
def k0_off25_at (r : Fin 30) : BitVec 32 × BitVec 32 × BitVec 32 :=
  if r.val < 15 then
    if r.val < 7 then
      if r.val < 3 then
        if r.val < 1 then
          (0#32, 0#32, 0#32)
        else
          if r.val < 2 then
            (1#32, 0#32, 1#32)
          else
            (2#32, 0#32, 2#32)
      else
        if r.val < 5 then
          if r.val < 4 then
            (3#32, 0#32, 3#32)
          else
            (4#32, 0#32, 4#32)
        else
          if r.val < 6 then
            (5#32, 0#32, 5#32)
          else
            (6#32, 0#32, 6#32)
    else
      if r.val < 11 then
        if r.val < 9 then
          if r.val < 8 then
            (7#32, 0#32, 7#32)
          else
            (8#32, 0#32, 8#32)
        else
          if r.val < 10 then
            (9#32, 0#32, 9#32)
          else
            (10#32, 0#32, 10#32)
      else
        if r.val < 13 then
          if r.val < 12 then
            (11#32, 0#32, 11#32)
          else
            (12#32, 0#32, 12#32)
        else
          if r.val < 14 then
            (13#32, 0#32, 13#32)
          else
            (14#32, 0#32, 14#32)
  else
    if r.val < 22 then
      if r.val < 18 then
        if r.val < 16 then
          (0#32, 1#32, 0#32)
        else
          if r.val < 17 then
            (1#32, 1#32, 1#32)
          else
            (2#32, 1#32, 2#32)
      else
        if r.val < 20 then
          if r.val < 19 then
            (3#32, 1#32, 3#32)
          else
            (4#32, 1#32, 4#32)
        else
          if r.val < 21 then
            (5#32, 1#32, 5#32)
          else
            (6#32, 1#32, 6#32)
    else
      if r.val < 26 then
        if r.val < 24 then
          if r.val < 23 then
            (7#32, 1#32, 7#32)
          else
            (8#32, 1#32, 8#32)
        else
          if r.val < 25 then
            (9#32, 1#32, 9#32)
          else
            (10#32, 1#32, 10#32)
      else
        if r.val < 28 then
          if r.val < 27 then
            (11#32, 1#32, 11#32)
          else
            (12#32, 1#32, 12#32)
        else
          if r.val < 29 then
            (13#32, 1#32, 13#32)
          else
            (14#32, 1#32, 14#32)
def k0_mult66 (i : grid0.Coords) : BitVec 32 :=
  let c1_i32_87 : BitVec 32 := 1#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c1_i32_86 : BitVec 32 := 1#32
  let v179 : BitVec 1 := Scalar.cmpi .sle v96 c1_i32_86
  let v180 : BitVec 32 := Scalar.extui v179
  let v181 : BitVec 32 := Scalar.addi c1_i32_87 v180
  let c256_i32_88 : BitVec 32 := 256#32
  let v184 : BitVec 32 := Scalar.muli v181 c256_i32_88
  v184
def k0_mult67 (i : grid0.Coords) : BitVec 32 :=
  let c2_i32_116 : BitVec 32 := 2#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c2_i32_115 : BitVec 32 := 2#32
  let v249 : BitVec 1 := Scalar.cmpi .sle v96 c2_i32_115
  let v250 : BitVec 32 := Scalar.extui v249
  let v251 : BitVec 32 := Scalar.addi c2_i32_116 v250
  let c256_i32_117 : BitVec 32 := 256#32
  let v254 : BitVec 32 := Scalar.muli v251 c256_i32_117
  v254
def k0_mult68 (i : grid0.Coords) : BitVec 32 :=
  let c3_i32_146 : BitVec 32 := 3#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c3_i32_145 : BitVec 32 := 3#32
  let v319 : BitVec 1 := Scalar.cmpi .sle v96 c3_i32_145
  let v320 : BitVec 32 := Scalar.extui v319
  let v321 : BitVec 32 := Scalar.addi c3_i32_146 v320
  let c256_i32_147 : BitVec 32 := 256#32
  let v324 : BitVec 32 := Scalar.muli v321 c256_i32_147
  v324
def k0_mult69 (i : grid0.Coords) : BitVec 32 :=
  let c4_i32_175 : BitVec 32 := 4#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c4_i32_174 : BitVec 32 := 4#32
  let v389 : BitVec 1 := Scalar.cmpi .sle v96 c4_i32_174
  let v390 : BitVec 32 := Scalar.extui v389
  let v391 : BitVec 32 := Scalar.addi c4_i32_175 v390
  let c256_i32_176 : BitVec 32 := 256#32
  let v394 : BitVec 32 := Scalar.muli v391 c256_i32_176
  v394
def k0_mult70 (i : grid0.Coords) : BitVec 32 :=
  let c5_i32_204 : BitVec 32 := 5#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c5_i32_203 : BitVec 32 := 5#32
  let v459 : BitVec 1 := Scalar.cmpi .sle v96 c5_i32_203
  let v460 : BitVec 32 := Scalar.extui v459
  let v461 : BitVec 32 := Scalar.addi c5_i32_204 v460
  let c256_i32_205 : BitVec 32 := 256#32
  let v464 : BitVec 32 := Scalar.muli v461 c256_i32_205
  v464
def k0_mult71 (i : grid0.Coords) : BitVec 32 :=
  let c6_i32_234 : BitVec 32 := 6#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c6_i32_233 : BitVec 32 := 6#32
  let v529 : BitVec 1 := Scalar.cmpi .sle v96 c6_i32_233
  let v530 : BitVec 32 := Scalar.extui v529
  let v531 : BitVec 32 := Scalar.addi c6_i32_234 v530
  let c256_i32_235 : BitVec 32 := 256#32
  let v534 : BitVec 32 := Scalar.muli v531 c256_i32_235
  v534
def k0_mult72 (i : grid0.Coords) : BitVec 32 :=
  let c7_i32_264 : BitVec 32 := 7#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c7_i32_263 : BitVec 32 := 7#32
  let v599 : BitVec 1 := Scalar.cmpi .sle v96 c7_i32_263
  let v600 : BitVec 32 := Scalar.extui v599
  let v601 : BitVec 32 := Scalar.addi c7_i32_264 v600
  let c256_i32_265 : BitVec 32 := 256#32
  let v604 : BitVec 32 := Scalar.muli v601 c256_i32_265
  v604
def k0_mult73 (i : grid0.Coords) : BitVec 32 :=
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c256_i32_292 : BitVec 32 := 256#32
  let v669 : BitVec 32 := Scalar.muli v96 c256_i32_292
  v669
def k0_off26 (i : grid0.Coords) (c0_i32_14 : BitVec 32) : Fin 4 → Nat :=
  let c0_295 : Index := 0#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_293 : BitVec 32 := 8#32
  let v671 : BitVec 32 := Scalar.shrsi v92 c8_i32_293
  let c0_i32_294 : BitVec 32 := 0#32
  let v672 : BitVec 32 := Scalar.andi v671 c0_i32_294
  let v673 : Index := Scalar.indexCast v672
  let c0_296 : Index := 0#32
  let c0_297 : Index := 0#32
  ![0, v673.toNat, 0, 0]
def k0_off27 (i : grid0.Coords) (c0_i32_14 : BitVec 32) : Fin 2 → Nat :=
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c256_i32_292 : BitVec 32 := 256#32
  let v669 : BitVec 32 := Scalar.muli v96 c256_i32_292
  let v670 : BitVec 32 := v669
  let v676 : Index := Scalar.indexCast v670
  let c0_298 : Index := 0#32
  ![v676.toNat, 0]
def k0_off28 (i : grid0.Coords) (c0_i32_14 : BitVec 32) : Fin 3 → Nat :=
  let c0_301 : Index := 0#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c256_i32_292 : BitVec 32 := 256#32
  let v669 : BitVec 32 := Scalar.muli v96 c256_i32_292
  let v670 : BitVec 32 := v669
  let v683 : Index := Scalar.indexCast v670
  let c0_302 : Index := 0#32
  ![0, v683.toNat, 0]
def k0_off29 (i : grid0.Coords) (c0_i32_14 : BitVec 32) : Fin 3 → Nat :=
  let c1_303 : Index := 1#32
  let arg0 : BitVec 32 := BitVec.ofNat 32 (i 0).val
  let c2_i32_13 : BitVec 32 := 2#32
  let v24 : BitVec 32 := Scalar.muli arg0 c2_i32_13
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c256_i32_292 : BitVec 32 := 256#32
  let v669 : BitVec 32 := Scalar.muli v96 c256_i32_292
  let v670 : BitVec 32 := v669
  let v687 : Index := Scalar.indexCast v670
  let c0_304 : Index := 0#32
  ![1, v687.toNat, 0]
def k0_mult74 (i : grid0.Coords) : BitVec 32 :=
  let c8_i32_323 : BitVec 32 := 8#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c8_i32_322 : BitVec 32 := 8#32
  let v731 : BitVec 1 := Scalar.cmpi .sle v96 c8_i32_322
  let v732 : BitVec 32 := Scalar.extui v731
  let v733 : BitVec 32 := Scalar.addi c8_i32_323 v732
  let c256_i32_324 : BitVec 32 := 256#32
  let v736 : BitVec 32 := Scalar.muli v733 c256_i32_324
  v736
def k0_mult75 (i : grid0.Coords) : BitVec 32 :=
  let c9_i32_352 : BitVec 32 := 9#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c9_i32_351 : BitVec 32 := 9#32
  let v801 : BitVec 1 := Scalar.cmpi .sle v96 c9_i32_351
  let v802 : BitVec 32 := Scalar.extui v801
  let v803 : BitVec 32 := Scalar.addi c9_i32_352 v802
  let c256_i32_353 : BitVec 32 := 256#32
  let v806 : BitVec 32 := Scalar.muli v803 c256_i32_353
  v806
def k0_mult76 (i : grid0.Coords) : BitVec 32 :=
  let c10_i32_381 : BitVec 32 := 10#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c10_i32_380 : BitVec 32 := 10#32
  let v871 : BitVec 1 := Scalar.cmpi .sle v96 c10_i32_380
  let v872 : BitVec 32 := Scalar.extui v871
  let v873 : BitVec 32 := Scalar.addi c10_i32_381 v872
  let c256_i32_382 : BitVec 32 := 256#32
  let v876 : BitVec 32 := Scalar.muli v873 c256_i32_382
  v876
def k0_mult77 (i : grid0.Coords) : BitVec 32 :=
  let c11_i32_410 : BitVec 32 := 11#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c11_i32_409 : BitVec 32 := 11#32
  let v941 : BitVec 1 := Scalar.cmpi .sle v96 c11_i32_409
  let v942 : BitVec 32 := Scalar.extui v941
  let v943 : BitVec 32 := Scalar.addi c11_i32_410 v942
  let c256_i32_411 : BitVec 32 := 256#32
  let v946 : BitVec 32 := Scalar.muli v943 c256_i32_411
  v946
def k0_mult78 (i : grid0.Coords) : BitVec 32 :=
  let c12_i32_439 : BitVec 32 := 12#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c12_i32_438 : BitVec 32 := 12#32
  let v1011 : BitVec 1 := Scalar.cmpi .sle v96 c12_i32_438
  let v1012 : BitVec 32 := Scalar.extui v1011
  let v1013 : BitVec 32 := Scalar.addi c12_i32_439 v1012
  let c256_i32_440 : BitVec 32 := 256#32
  let v1016 : BitVec 32 := Scalar.muli v1013 c256_i32_440
  v1016
def k0_mult79 (i : grid0.Coords) : BitVec 32 :=
  let c13_i32_496 : BitVec 32 := 13#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c13_i32_495 : BitVec 32 := 13#32
  let v1137 : BitVec 1 := Scalar.cmpi .sle v96 c13_i32_495
  let v1138 : BitVec 32 := Scalar.extui v1137
  let v1139 : BitVec 32 := Scalar.addi c13_i32_496 v1138
  let c256_i32_497 : BitVec 32 := 256#32
  let v1142 : BitVec 32 := Scalar.muli v1139 c256_i32_497
  v1142
def k0_mult80 (i : grid0.Coords) : BitVec 32 :=
  let c14_i32_536 : BitVec 32 := 14#32
  let arg0 : BitVec 32 := BitVec.ofNat 32 (i 0).val
  let c2_i32_13 : BitVec 32 := 2#32
  let v24 : BitVec 32 := Scalar.muli arg0 c2_i32_13
  let c0_i32_14 : BitVec 32 := 0#32
  let v25 : BitVec 32 := Scalar.addi v24 c0_i32_14
  let c15_i32_44 : BitVec 32 := 15#32
  let v91 : BitVec 32 := Scalar.andi v25 c15_i32_44
  let c256_i32_45 : BitVec 32 := 256#32
  let v92 : BitVec 32 := Scalar.muli v91 c256_i32_45
  let c8_i32_47 : BitVec 32 := 8#32
  let v96 : BitVec 32 := Scalar.shrsi v92 c8_i32_47
  let c14_i32_535 : BitVec 32 := 14#32
  let v1215 : BitVec 1 := Scalar.cmpi .sle v96 c14_i32_535
  let v1216 : BitVec 32 := Scalar.extui v1215
  let v1217 : BitVec 32 := Scalar.addi c14_i32_536 v1216
  let c256_i32_537 : BitVec 32 := 256#32
  let v1220 : BitVec 32 := Scalar.muli v1217 c256_i32_537
  v1220
def k0_mult81 (i : grid0.Coords) : BitVec 32 :=
  let c0_i32_584 : BitVec 32 := 0#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c0_i32_583 : BitVec 32 := 0#32
  let v1312 : BitVec 1 := Scalar.cmpi .sle v1299 c0_i32_583
  let v1313 : BitVec 32 := Scalar.extui v1312
  let v1314 : BitVec 32 := Scalar.addi c0_i32_584 v1313
  let c256_i32_585 : BitVec 32 := 256#32
  let v1317 : BitVec 32 := Scalar.muli v1314 c256_i32_585
  v1317
def k0_mult82 (i : grid0.Coords) : BitVec 32 :=
  let c1_i32_616 : BitVec 32 := 1#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c1_i32_615 : BitVec 32 := 1#32
  let v1382 : BitVec 1 := Scalar.cmpi .sle v1299 c1_i32_615
  let v1383 : BitVec 32 := Scalar.extui v1382
  let v1384 : BitVec 32 := Scalar.addi c1_i32_616 v1383
  let c256_i32_617 : BitVec 32 := 256#32
  let v1387 : BitVec 32 := Scalar.muli v1384 c256_i32_617
  v1387
def k0_mult83 (i : grid0.Coords) : BitVec 32 :=
  let c2_i32_648 : BitVec 32 := 2#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c2_i32_647 : BitVec 32 := 2#32
  let v1452 : BitVec 1 := Scalar.cmpi .sle v1299 c2_i32_647
  let v1453 : BitVec 32 := Scalar.extui v1452
  let v1454 : BitVec 32 := Scalar.addi c2_i32_648 v1453
  let c256_i32_649 : BitVec 32 := 256#32
  let v1457 : BitVec 32 := Scalar.muli v1454 c256_i32_649
  v1457
def k0_mult84 (i : grid0.Coords) : BitVec 32 :=
  let c3_i32_680 : BitVec 32 := 3#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c3_i32_679 : BitVec 32 := 3#32
  let v1522 : BitVec 1 := Scalar.cmpi .sle v1299 c3_i32_679
  let v1523 : BitVec 32 := Scalar.extui v1522
  let v1524 : BitVec 32 := Scalar.addi c3_i32_680 v1523
  let c256_i32_681 : BitVec 32 := 256#32
  let v1527 : BitVec 32 := Scalar.muli v1524 c256_i32_681
  v1527
def k0_mult85 (i : grid0.Coords) : BitVec 32 :=
  let c4_i32_712 : BitVec 32 := 4#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c4_i32_711 : BitVec 32 := 4#32
  let v1592 : BitVec 1 := Scalar.cmpi .sle v1299 c4_i32_711
  let v1593 : BitVec 32 := Scalar.extui v1592
  let v1594 : BitVec 32 := Scalar.addi c4_i32_712 v1593
  let c256_i32_713 : BitVec 32 := 256#32
  let v1597 : BitVec 32 := Scalar.muli v1594 c256_i32_713
  v1597
def k0_mult86 (i : grid0.Coords) : BitVec 32 :=
  let c5_i32_744 : BitVec 32 := 5#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c5_i32_743 : BitVec 32 := 5#32
  let v1662 : BitVec 1 := Scalar.cmpi .sle v1299 c5_i32_743
  let v1663 : BitVec 32 := Scalar.extui v1662
  let v1664 : BitVec 32 := Scalar.addi c5_i32_744 v1663
  let c256_i32_745 : BitVec 32 := 256#32
  let v1667 : BitVec 32 := Scalar.muli v1664 c256_i32_745
  v1667
def k0_mult87 (i : grid0.Coords) : BitVec 32 :=
  let c6_i32_776 : BitVec 32 := 6#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c6_i32_775 : BitVec 32 := 6#32
  let v1732 : BitVec 1 := Scalar.cmpi .sle v1299 c6_i32_775
  let v1733 : BitVec 32 := Scalar.extui v1732
  let v1734 : BitVec 32 := Scalar.addi c6_i32_776 v1733
  let c256_i32_777 : BitVec 32 := 256#32
  let v1737 : BitVec 32 := Scalar.muli v1734 c256_i32_777
  v1737
def k0_mult88 (i : grid0.Coords) : BitVec 32 :=
  let c7_i32_808 : BitVec 32 := 7#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c7_i32_807 : BitVec 32 := 7#32
  let v1802 : BitVec 1 := Scalar.cmpi .sle v1299 c7_i32_807
  let v1803 : BitVec 32 := Scalar.extui v1802
  let v1804 : BitVec 32 := Scalar.addi c7_i32_808 v1803
  let c256_i32_809 : BitVec 32 := 256#32
  let v1807 : BitVec 32 := Scalar.muli v1804 c256_i32_809
  v1807
def k0_mult89 (i : grid0.Coords) : BitVec 32 :=
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c256_i32_839 : BitVec 32 := 256#32
  let v1872 : BitVec 32 := Scalar.muli v1299 c256_i32_839
  v1872
def k0_mult90 (i : grid0.Coords) : BitVec 32 :=
  let c8_i32_873 : BitVec 32 := 8#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c8_i32_872 : BitVec 32 := 8#32
  let v1934 : BitVec 1 := Scalar.cmpi .sle v1299 c8_i32_872
  let v1935 : BitVec 32 := Scalar.extui v1934
  let v1936 : BitVec 32 := Scalar.addi c8_i32_873 v1935
  let c256_i32_874 : BitVec 32 := 256#32
  let v1939 : BitVec 32 := Scalar.muli v1936 c256_i32_874
  v1939
def k0_mult91 (i : grid0.Coords) : BitVec 32 :=
  let c9_i32_905 : BitVec 32 := 9#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c9_i32_904 : BitVec 32 := 9#32
  let v2004 : BitVec 1 := Scalar.cmpi .sle v1299 c9_i32_904
  let v2005 : BitVec 32 := Scalar.extui v2004
  let v2006 : BitVec 32 := Scalar.addi c9_i32_905 v2005
  let c256_i32_906 : BitVec 32 := 256#32
  let v2009 : BitVec 32 := Scalar.muli v2006 c256_i32_906
  v2009
def k0_mult92 (i : grid0.Coords) : BitVec 32 :=
  let c10_i32_937 : BitVec 32 := 10#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c10_i32_936 : BitVec 32 := 10#32
  let v2074 : BitVec 1 := Scalar.cmpi .sle v1299 c10_i32_936
  let v2075 : BitVec 32 := Scalar.extui v2074
  let v2076 : BitVec 32 := Scalar.addi c10_i32_937 v2075
  let c256_i32_938 : BitVec 32 := 256#32
  let v2079 : BitVec 32 := Scalar.muli v2076 c256_i32_938
  v2079
def k0_mult93 (i : grid0.Coords) : BitVec 32 :=
  let c11_i32_969 : BitVec 32 := 11#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c11_i32_968 : BitVec 32 := 11#32
  let v2144 : BitVec 1 := Scalar.cmpi .sle v1299 c11_i32_968
  let v2145 : BitVec 32 := Scalar.extui v2144
  let v2146 : BitVec 32 := Scalar.addi c11_i32_969 v2145
  let c256_i32_970 : BitVec 32 := 256#32
  let v2149 : BitVec 32 := Scalar.muli v2146 c256_i32_970
  v2149
def k0_mult94 (i : grid0.Coords) : BitVec 32 :=
  let c12_i32_1001 : BitVec 32 := 12#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c12_i32_1000 : BitVec 32 := 12#32
  let v2214 : BitVec 1 := Scalar.cmpi .sle v1299 c12_i32_1000
  let v2215 : BitVec 32 := Scalar.extui v2214
  let v2216 : BitVec 32 := Scalar.addi c12_i32_1001 v2215
  let c256_i32_1002 : BitVec 32 := 256#32
  let v2219 : BitVec 32 := Scalar.muli v2216 c256_i32_1002
  v2219
def k0_mult95 (i : grid0.Coords) : BitVec 32 :=
  let c13_i32_1060 : BitVec 32 := 13#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c13_i32_1059 : BitVec 32 := 13#32
  let v2340 : BitVec 1 := Scalar.cmpi .sle v1299 c13_i32_1059
  let v2341 : BitVec 32 := Scalar.extui v2340
  let v2342 : BitVec 32 := Scalar.addi c13_i32_1060 v2341
  let c256_i32_1061 : BitVec 32 := 256#32
  let v2345 : BitVec 32 := Scalar.muli v2342 c256_i32_1061
  v2345
def k0_mult96 (i : grid0.Coords) : BitVec 32 :=
  let c14_i32_1076 : BitVec 32 := 14#32
  let arg0 : BitVec 32 := BitVec.ofNat 32 (i 0).val
  let c2_i32_15 : BitVec 32 := 2#32
  let v26 : BitVec 32 := Scalar.muli arg0 c2_i32_15
  let c1_i32_16 : BitVec 32 := 1#32
  let v27 : BitVec 32 := Scalar.addi v26 c1_i32_16
  let c15_i32_572 : BitVec 32 := 15#32
  let v1294 : BitVec 32 := Scalar.andi v27 c15_i32_572
  let c256_i32_573 : BitVec 32 := 256#32
  let v1295 : BitVec 32 := Scalar.muli v1294 c256_i32_573
  let c8_i32_575 : BitVec 32 := 8#32
  let v1299 : BitVec 32 := Scalar.shrsi v1295 c8_i32_575
  let c14_i32_1075 : BitVec 32 := 14#32
  let v2380 : BitVec 1 := Scalar.cmpi .sle v1299 c14_i32_1075
  let v2381 : BitVec 32 := Scalar.extui v2380
  let v2382 : BitVec 32 := Scalar.addi c14_i32_1076 v2381
  let c256_i32_1077 : BitVec 32 := 256#32
  let v2385 : BitVec 32 := Scalar.muli v2382 c256_i32_1077
  v2385
def k0_cond4 (i : grid0.Coords) : BitVec 1 :=
  let arg0 : BitVec 32 := BitVec.ofNat 32 (i 0).val
  let c512_i32_7 : BitVec 32 := 512#32
  let v16 : BitVec 1 := Scalar.cmpi .eq arg0 c512_i32_7
  let v17 : BitVec 32 := Scalar.extui v16
  let c0_i32_8 : BitVec 32 := 0#32
  let v18 : BitVec 1 := Scalar.cmpi .ne v17 c0_i32_8
  v18

def k0_off30 (i : grid0.Coords) (c0_i32_10 : BitVec 32) : Fin 1 → Nat :=
  let arg0 : BitVec 32 := BitVec.ofNat 32 (i 0).val
  let c1_i32_9 : BitVec 32 := 1#32
  let v19 : BitVec 32 := Scalar.subi arg0 c1_i32_9
  let c2_i32 : BitVec 32 := 2#32
  let v20 : BitVec 32 := Scalar.muli v19 c2_i32
  let v21 : BitVec 32 := Scalar.addi v20 c0_i32_10
  let c4_i32 : BitVec 32 := 4#32
  let v24 : BitVec 32 := Scalar.shrsi v21 c4_i32
  let c7_i32 : BitVec 32 := 7#32
  let v27 : BitVec 32 := Scalar.andi v24 c7_i32
  let v28 : Index := Scalar.indexCast v27
  ![v28.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c511_i32 : BitVec 32 := 511#32
  let v0 : BitVec 32 := Scalar.minsi arg0 c511_i32
  let c3_i32 : BitVec 32 := 3#32
  let v1 : BitVec 32 := Scalar.shrsi v0 c3_i32
  let c7_i32 : BitVec 32 := 7#32
  let v2 : BitVec 32 := Scalar.andi v0 c7_i32
  let c3_i32_0 : BitVec 32 := 3#32
  let v3 : BitVec 32 := Scalar.shrsi v1 c3_i32_0
  let c7_i32_1 : BitVec 32 := 7#32
  let v4 : BitVec 32 := Scalar.andi v1 c7_i32_1
  let c511_i32_2 : BitVec 32 := 511#32
  let v5 : BitVec 32 := Scalar.minsi arg0 c511_i32_2
  let c3_i32_3 : BitVec 32 := 3#32
  let v6 : BitVec 32 := Scalar.shrsi v5 c3_i32_3
  let c7_i32_4 : BitVec 32 := 7#32
  let v7 : BitVec 32 := Scalar.andi v5 c7_i32_4
  let c3_i32_5 : BitVec 32 := 3#32
  let v8 : BitVec 32 := Scalar.shrsi v6 c3_i32_5
  let c7_i32_6 : BitVec 32 := 7#32
  let v9 : BitVec 32 := Scalar.andi v6 c7_i32_6
  let c8_i32 : BitVec 32 := 8#32
  let v10 : BitVec 32 := Scalar.muli v8 c8_i32
  let c511_i32_7 : BitVec 32 := 511#32
  let v11 : BitVec 32 := Scalar.minsi arg0 c511_i32_7
  let c3_i32_8 : BitVec 32 := 3#32
  let v12 : BitVec 32 := Scalar.shrsi v11 c3_i32_8
  let c7_i32_9 : BitVec 32 := 7#32
  let v13 : BitVec 32 := Scalar.andi v11 c7_i32_9
  let c3_i32_10 : BitVec 32 := 3#32
  let v14 : BitVec 32 := Scalar.shrsi v12 c3_i32_10
  let c7_i32_11 : BitVec 32 := 7#32
  let v15 : BitVec 32 := Scalar.andi v12 c7_i32_11
  let v16 : BitVec 32 := Scalar.addi v10 v13
  let c0_i32 : BitVec 32 := 0#32
  ![v4.toNat, v16.toNat]

def cc0_transform_2 (i : grid0.Coords) : Fin 2 → Nat :=
  let arg0 : BitVec 32 := BitVec.ofNat 32 (i 0).val
  let c511_i32 : BitVec 32 := 511#32
  let v0 : BitVec 32 := Scalar.minsi arg0 c511_i32
  let c3_i32 : BitVec 32 := 3#32
  let v1 : BitVec 32 := Scalar.shrsi v0 c3_i32
  let c7_i32 : BitVec 32 := 7#32
  let v2 : BitVec 32 := Scalar.andi v0 c7_i32
  let c3_i32_0 : BitVec 32 := 3#32
  let v3 : BitVec 32 := Scalar.shrsi v1 c3_i32_0
  let c7_i32_1 : BitVec 32 := 7#32
  let v4 : BitVec 32 := Scalar.andi v1 c7_i32_1
  let c511_i32_2 : BitVec 32 := 511#32
  let v5 : BitVec 32 := Scalar.minsi arg0 c511_i32_2
  let c3_i32_3 : BitVec 32 := 3#32
  let v6 : BitVec 32 := Scalar.shrsi v5 c3_i32_3
  let c7_i32_4 : BitVec 32 := 7#32
  let v7 : BitVec 32 := Scalar.andi v5 c7_i32_4
  let c3_i32_5 : BitVec 32 := 3#32
  let v8 : BitVec 32 := Scalar.shrsi v6 c3_i32_5
  let c7_i32_6 : BitVec 32 := 7#32
  let v9 : BitVec 32 := Scalar.andi v6 c7_i32_6
  let c0_i32 : BitVec 32 := 0#32
  ![v3.toNat, v9.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.shrsi v1 c3_i32
  let c7_i32 : BitVec 32 := 7#32
  let v3 : BitVec 32 := Scalar.andi v1 c7_i32
  let c3_i32_0 : BitVec 32 := 3#32
  let v4 : BitVec 32 := Scalar.shrsi v2 c3_i32_0
  let c7_i32_1 : BitVec 32 := 7#32
  let v5 : BitVec 32 := Scalar.andi v2 c7_i32_1
  let c1_i32_2 : BitVec 32 := 1#32
  let v6 : BitVec 32 := Scalar.subi arg0 c1_i32_2
  let c0_i32_3 : BitVec 32 := 0#32
  let v7 : BitVec 32 := Scalar.maxsi v6 c0_i32_3
  let c3_i32_4 : BitVec 32 := 3#32
  let v8 : BitVec 32 := Scalar.shrsi v7 c3_i32_4
  let c7_i32_5 : BitVec 32 := 7#32
  let v9 : BitVec 32 := Scalar.andi v7 c7_i32_5
  let c3_i32_6 : BitVec 32 := 3#32
  let v10 : BitVec 32 := Scalar.shrsi v8 c3_i32_6
  let c7_i32_7 : BitVec 32 := 7#32
  let v11 : BitVec 32 := Scalar.andi v8 c7_i32_7
  let c0_i32_8 : BitVec 32 := 0#32
  ![v5.toNat, v10.toNat]

def cc0_transform_4 (i : grid0.Coords) : Fin 3 → Nat :=
  let arg0 : BitVec 32 := BitVec.ofNat 32 (i 0).val
  let c511_i32 : BitVec 32 := 511#32
  let v0 : BitVec 32 := Scalar.minsi arg0 c511_i32
  let c3_i32 : BitVec 32 := 3#32
  let v1 : BitVec 32 := Scalar.shrsi v0 c3_i32
  let c7_i32 : BitVec 32 := 7#32
  let v2 : BitVec 32 := Scalar.andi v0 c7_i32
  let c3_i32_0 : BitVec 32 := 3#32
  let v3 : BitVec 32 := Scalar.shrsi v1 c3_i32_0
  let c7_i32_1 : BitVec 32 := 7#32
  let v4 : BitVec 32 := Scalar.andi v1 c7_i32_1
  let c0_i32 : BitVec 32 := 0#32
  let c0_i32_2 : BitVec 32 := 0#32
  let c0_i32_3 : BitVec 32 := 0#32
  ![v4.toNat, c0_i32.toNat, c0_i32_2.toNat]

def cc0_transform_5 (i : grid0.Coords) : Fin 3 → Nat :=
  let arg0 : BitVec 32 := BitVec.ofNat 32 (i 0).val
  let c511_i32 : BitVec 32 := 511#32
  let v0 : BitVec 32 := Scalar.minsi arg0 c511_i32
  let c3_i32 : BitVec 32 := 3#32
  let v1 : BitVec 32 := Scalar.shrsi v0 c3_i32
  let c7_i32 : BitVec 32 := 7#32
  let v2 : BitVec 32 := Scalar.andi v0 c7_i32
  let c3_i32_0 : BitVec 32 := 3#32
  let v3 : BitVec 32 := Scalar.shrsi v1 c3_i32_0
  let c7_i32_1 : BitVec 32 := 7#32
  let v4 : BitVec 32 := Scalar.andi v1 c7_i32_1
  let c0_i32 : BitVec 32 := 0#32
  let c0_i32_2 : BitVec 32 := 0#32
  let c0_i32_3 : BitVec 32 := 0#32
  ![v4.toNat, c0_i32.toNat, c0_i32_2.toNat]

def cc0_transform_6 (i : grid0.Coords) : Fin 4 → Nat :=
  let arg0 : BitVec 32 := BitVec.ofNat 32 (i 0).val
  let c511_i32 : BitVec 32 := 511#32
  let v0 : BitVec 32 := Scalar.minsi arg0 c511_i32
  let c3_i32 : BitVec 32 := 3#32
  let v1 : BitVec 32 := Scalar.shrsi v0 c3_i32
  let c7_i32 : BitVec 32 := 7#32
  let v2 : BitVec 32 := Scalar.andi v0 c7_i32
  let c3_i32_0 : BitVec 32 := 3#32
  let v3 : BitVec 32 := Scalar.shrsi v1 c3_i32_0
  let c7_i32_1 : BitVec 32 := 7#32
  let v4 : BitVec 32 := Scalar.andi v1 c7_i32_1
  let c0_i32 : BitVec 32 := 0#32
  let c0_i32_2 : BitVec 32 := 0#32
  let c0_i32_3 : BitVec 32 := 0#32
  let c0_i32_4 : BitVec 32 := 0#32
  ![v4.toNat, c0_i32.toNat, c0_i32_2.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.shrsi v1 c3_i32
  let c7_i32 : BitVec 32 := 7#32
  let v3 : BitVec 32 := Scalar.andi v1 c7_i32
  let c3_i32_0 : BitVec 32 := 3#32
  let v4 : BitVec 32 := Scalar.shrsi v2 c3_i32_0
  let c7_i32_1 : BitVec 32 := 7#32
  let v5 : BitVec 32 := Scalar.andi v2 c7_i32_1
  let c8_i32 : BitVec 32 := 8#32
  let v6 : BitVec 32 := Scalar.muli v4 c8_i32
  let c1_i32_2 : BitVec 32 := 1#32
  let v7 : BitVec 32 := Scalar.subi arg0 c1_i32_2
  let c0_i32_3 : BitVec 32 := 0#32
  let v8 : BitVec 32 := Scalar.maxsi v7 c0_i32_3
  let c3_i32_4 : BitVec 32 := 3#32
  let v9 : BitVec 32 := Scalar.shrsi v8 c3_i32_4
  let c7_i32_5 : BitVec 32 := 7#32
  let v10 : BitVec 32 := Scalar.andi v8 c7_i32_5
  let c3_i32_6 : BitVec 32 := 3#32
  let v11 : BitVec 32 := Scalar.shrsi v9 c3_i32_6
  let c7_i32_7 : BitVec 32 := 7#32
  let v12 : BitVec 32 := Scalar.andi v9 c7_i32_7
  let v13 : BitVec 32 := Scalar.addi v6 v10
  let c1_i32_8 : BitVec 32 := 1#32
  let v14 : BitVec 32 := Scalar.subi arg0 c1_i32_8
  let c0_i32_9 : BitVec 32 := 0#32
  let v15 : BitVec 32 := Scalar.maxsi v14 c0_i32_9
  let c3_i32_10 : BitVec 32 := 3#32
  let v16 : BitVec 32 := Scalar.shrsi v15 c3_i32_10
  let c7_i32_11 : BitVec 32 := 7#32
  let v17 : BitVec 32 := Scalar.andi v15 c7_i32_11
  let c3_i32_12 : BitVec 32 := 3#32
  let v18 : BitVec 32 := Scalar.shrsi v16 c3_i32_12
  let c7_i32_13 : BitVec 32 := 7#32
  let v19 : BitVec 32 := Scalar.andi v16 c7_i32_13
  let c0_i32_14 : BitVec 32 := 0#32
  ![v13.toNat, v19.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x4096x1024 : Shape := ⟨3, ![8, 4096, 1024]⟩
abbrev S1x64 : Shape := ⟨2, ![1, 64]⟩
abbrev S1x128 : Shape := ⟨2, ![1, 128]⟩
abbrev S8x4096x8x2x64 : Shape := ⟨5, ![8, 4096, 8, 2, 64]⟩
abbrev S8x4096x8x128 : Shape := ⟨4, ![8, 4096, 8, 128]⟩
abbrev S64 : Shape := ⟨1, ![64]⟩
abbrev S_ : Shape := ⟨0, ![]⟩
abbrev S4096 : Shape := ⟨1, ![4096]⟩
abbrev S8 : Shape := ⟨1, ![8]⟩
abbrev S8x1x1 : Shape := ⟨3, ![8, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096x4096 : Shape := ⟨3, ![8, 4096, 4096]⟩
abbrev S8x8x2x4096x4096 : Shape := ⟨5, ![8, 8, 2, 4096, 4096]⟩
abbrev S1x8x1x4096x4096 : Shape := ⟨5, ![1, 8, 1, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x128x4096 : Shape := ⟨4, ![8, 8, 128, 4096]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S32768x1024 : Shape := ⟨2, ![32768, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8x4096x8x2x64, .f32⟩
  | .hbm, ⟨9, _⟩ => ⟨S8x4096x8x2x64, .f32⟩
  | .hbm, ⟨10, _⟩ => ⟨S8x4096x8x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8x1x1, .f32⟩
  | .hbm, ⟨41, _⟩ => ⟨S8x1x1, .f32⟩
  | .hbm, ⟨42, _⟩ => ⟨S4096x1, .f32⟩
  | .hbm, ⟨43, _⟩ => ⟨S1x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S1x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x8x2x4096x4096, .f32⟩
  | .hbm, ⟨53, _⟩ => ⟨S_, .f32⟩
  | .hbm, ⟨54, _⟩ => ⟨S8x8x2x4096x4096, .f32⟩
  | .hbm, ⟨55, _⟩ => ⟨S8x8x2x4096x4096, .f32⟩
  | .hbm, ⟨56, _⟩ => ⟨S1x8x1x4096x4096, .f32⟩
  | .hbm, ⟨57, _⟩ => ⟨S8x8x2x4096x4096, .f32⟩
  | .hbm, ⟨58, _⟩ => ⟨S8x8x2x4096x4096, .f32⟩
  | .hbm, ⟨59, _⟩ => ⟨S_, .f32⟩
  | .hbm, ⟨60, _⟩ => ⟨S8x8x2x4096, .f32⟩
  | .hbm, ⟨61, _⟩ => ⟨S_, .f32⟩
  | .hbm, ⟨62, _⟩ => ⟨S8x8x2x4096, .f32⟩
  | .hbm, ⟨63, _⟩ => ⟨S8x8x2x4096, .f32⟩
  | .hbm, ⟨64, _⟩ => ⟨S8x8x2x4096x1, .f32⟩
  | .hbm, ⟨65, _⟩ => ⟨S8x8x2x4096x4096, .f32⟩
  | .hbm, ⟨66, _⟩ => ⟨S8x8x2x4096x4096, .f32⟩
  | .hbm, ⟨67, _⟩ => ⟨S8x8x2x4096x4096, .f32⟩
  | .hbm, ⟨68, _⟩ => ⟨S_, .f32⟩
  | .hbm, ⟨69, _⟩ => ⟨S8x8x2x4096, .f32⟩
  | .hbm, ⟨70, _⟩ => ⟨S8x8x2x4096x1, .f32⟩
  | .hbm, ⟨71, _⟩ => ⟨S8x8x2x4096x4096, .f32⟩
  | .hbm, ⟨72, _⟩ => ⟨S8x8x2x4096x4096, .f32⟩
  | .hbm, ⟨73, _⟩ => ⟨S8x8x1x4096x4096, .f32⟩
  | .hbm, ⟨74, _⟩ => ⟨S8x8x4096x4096, .f32⟩
  | .hbm, ⟨75, _⟩ => ⟨S8x8x1x4096x4096, .f32⟩
  | .hbm, ⟨76, _⟩ => ⟨S8x8x4096x4096, .f32⟩
  | .hbm, ⟨77, _⟩ => ⟨S8x8x4096x4096, .f32⟩
  | .hbm, ⟨78, _⟩ => ⟨S8x8x4096x4096, .f32⟩
  | .hbm, ⟨79, _⟩ => ⟨S8x8x4096x4096, .f32⟩
  | .hbm, ⟨80, _⟩ => ⟨S8x8x128x4096, .f32⟩
  | .hbm, ⟨81, _⟩ => ⟨S8x4096x8x128, .f32⟩
  | .hbm, ⟨82, _⟩ => ⟨S128, .f32⟩
  | .hbm, ⟨83, _⟩ => ⟨S8x4096x8x128, .f32⟩
  | .hbm, ⟨84, _⟩ => ⟨S_, .f32⟩
  | .hbm, ⟨85, _⟩ => ⟨S8x4096x8, .f32⟩
  | .hbm, ⟨86, _⟩ => ⟨S8x4096x8x1, .f32⟩
  | .hbm, ⟨87, _⟩ => ⟨S_, .f32⟩
  | .hbm, ⟨88, _⟩ => ⟨S8x4096x8x1, .f32⟩
  | .hbm, ⟨89, _⟩ => ⟨S8x4096x8x1, .f32⟩
  | .hbm, ⟨90, _⟩ => ⟨S_, .f32⟩
  | .hbm, ⟨91, _⟩ => ⟨S8x4096x8x1, .f32⟩
  | .hbm, ⟨92, _⟩ => ⟨S8x4096x8x1, .f32⟩
  | .hbm, ⟨93, _⟩ => ⟨S8x4096x8x1, .f32⟩
  | .hbm, ⟨94, _⟩ => ⟨S8x4096x8x128, .f32⟩
  | .hbm, ⟨95, _⟩ => ⟨S8x4096x8x128, .f32⟩
  | .hbm, ⟨96, _⟩ => ⟨S1x1x1x128, .f32⟩
  | .hbm, ⟨97, _⟩ => ⟨S8x4096x8x128, .f32⟩
  | .hbm, ⟨98, _⟩ => ⟨S8x4096x8x128, .f32⟩
  | .hbm, ⟨99, _⟩ => ⟨S_, .f32⟩
  | .hbm, ⟨100, _⟩ => ⟨S8x4096x8x128, .f32⟩
  | .hbm, ⟨101, _⟩ => ⟨S8x4096x8x128, .f32⟩
  | .hbm, ⟨102, _⟩ => ⟨S32768x1024, .f32⟩
  | .hbm, ⟨103, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== Tail.lean ====
abbrev S8x4096x1024 : Shape := ⟨3, ![8, 4096, 1024]⟩
abbrev S1x8x4096x256 : Shape := ⟨4, ![1, 8, 4096, 256]⟩
abbrev S1x1024 : Shape := ⟨2, ![1, 1024]⟩
abbrev S1x1024x2048 : Shape := ⟨3, ![1, 1024, 2048]⟩
abbrev S1x2048 : Shape := ⟨2, ![1, 2048]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S32768x1024 : Shape := ⟨2, ![32768, 1024]⟩
abbrev S8x4096x256 : Shape := ⟨3, ![8, 4096, 256]⟩
abbrev S32768x256 : Shape := ⟨2, ![32768, 256]⟩
abbrev S1024x2048 : Shape := ⟨2, ![1024, 2048]⟩
abbrev S2048 : Shape := ⟨1, ![2048]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S512x2816 : Shape := ⟨2, ![512, 2816]⟩

abbrev nBuf : Space → Nat
  | .hbm => 49
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1x8x4096x256, .f32⟩
  | .hbm, ⟨4, _⟩ => ⟨S1x1024, .f32⟩
  | .hbm, ⟨5, _⟩ => ⟨S1x1024x2048, .f32⟩
  | .hbm, ⟨6, _⟩ => ⟨S1x2048, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1x1024, .f32⟩
  | .hbm, ⟨14, _⟩ => ⟨S1x1024x1024, .f32⟩
  | .hbm, ⟨15, _⟩ => ⟨S1x256x1024, .f32⟩
  | .hbm, ⟨16, _⟩ => ⟨S1024, .f32⟩
  | .hbm, ⟨17, _⟩ => ⟨S32768x1024, .f32⟩
  | .hbm, ⟨18, _⟩ => ⟨S8x4096x256, .f32⟩
  | .hbm, ⟨19, _⟩ => ⟨S32768x256, .f32⟩
  | .hbm, ⟨20, _⟩ => ⟨S32768x1024, .f32⟩
  | .hbm, ⟨21, _⟩ => ⟨S32768x1024, .f32⟩
  | .hbm, ⟨22, _⟩ => ⟨S32768x1024, .bf16⟩
  | .hbm, ⟨23, _⟩ => ⟨S1024, .f32⟩
  | .hbm, ⟨24, _⟩ => ⟨S1x1024, .f32⟩
  | .hbm, ⟨25, _⟩ => ⟨S1024x2048, .f32⟩
  | .hbm, ⟨26, _⟩ => ⟨S1024x2048, .bf16⟩
  | .hbm, ⟨27, _⟩ => ⟨S2048, .f32⟩
  | .hbm, ⟨28, _⟩ => ⟨S1x2048, .f32⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S1024, .f32⟩
  | .hbm, ⟨34, _⟩ => ⟨S1x1024, .f32⟩
  | .hbm, ⟨35, _⟩ => ⟨S1024x2816, .f32⟩
  | .hbm, ⟨36, _⟩ => ⟨S1024x2816, .bf16⟩
  | .hbm, ⟨37, _⟩ => ⟨S1024x2816, .f32⟩
  | .hbm, ⟨38, _⟩ => ⟨S1024x2816, .bf16⟩
  | .hbm, ⟨39, _⟩ => ⟨S2816x1024, .f32⟩
  | .hbm, ⟨40, _⟩ => ⟨S2816x1024, .bf16⟩
  | .hbm, ⟨41, _⟩ => ⟨S1024, .f32⟩
  | .hbm, ⟨42, _⟩ => ⟨S1x1024, .f32⟩
  | .hbm, ⟨43, _⟩ => ⟨S1024x1024, .f32⟩
  | .hbm, ⟨44, _⟩ => ⟨S1024x1024, .bf16⟩
  | .hbm, ⟨45, _⟩ => ⟨S256x1024, .f32⟩
  | .hbm, ⟨46, _⟩ => ⟨S256x1024, .bf16⟩
  | .hbm, ⟨47, _⟩ => ⟨S1x1024, .f32⟩
  | .hbm, ⟨48, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x2048, .bf16⟩
  | .local _ .vmem, ⟨10, _⟩ => ⟨S1x2048, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== TailReferenceIdeal.lean ====
abbrev S8x4096x1024 : Shape := ⟨3, ![8, 4096, 1024]⟩
abbrev S1x8x4096x256 : Shape := ⟨4, ![1, 8, 4096, 256]⟩
abbrev S1x1024 : Shape := ⟨2, ![1, 1024]⟩
abbrev S1x1024x2048 : Shape := ⟨3, ![1, 1024, 2048]⟩
abbrev S1x2048 : Shape := ⟨2, ![1, 2048]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1024 : Shape := ⟨2, ![1024, 1024]⟩
abbrev S1024x2048 : Shape := ⟨2, ![1024, 2048]⟩
abbrev S8x4096x2048 : Shape := ⟨3, ![8, 4096, 2048]⟩
abbrev S2048 : Shape := ⟨1, ![2048]⟩
abbrev S1x1x2048 : Shape := ⟨3, ![1, 1, 2048]⟩
abbrev S8x4096x2x1024 : Shape := ⟨4, ![8, 4096, 2, 1024]⟩
abbrev S8x4096x1x1024 : Shape := ⟨4, ![8, 4096, 1, 1024]⟩
abbrev S1024x2816 : Shape := ⟨2, ![1024, 2816]⟩
abbrev S8x4096x2816 : Shape := ⟨3, ![8, 4096, 2816]⟩
abbrev S2816x1024 : Shape := ⟨2, ![2816, 1024]⟩
abbrev S8x4096x256 : Shape := ⟨3, ![8, 4096, 256]⟩
abbrev S256x1024 : Shape := ⟨2, ![256, 1024]⟩
abbrev S32768x1024 : Shape := ⟨2, ![32768, 1024]⟩

abbrev nBuf : Space → Nat
  | .hbm => 144
  | .vmem => 0
  | .smem => 0
  | _ => 0

abbrev hbmTy0_0 (i : Nat) : BufTy := match i % 128 with
  | 0 => ⟨S8x4096x1024, .f32⟩
  | 1 => ⟨S8x4096x1024, .f32⟩
  | 2 => ⟨S8x4096x1024, .f32⟩
  | 3 => ⟨S1x8x4096x256, .f32⟩
  | 4 => ⟨S1x1024, .f32⟩
  | 5 => ⟨S1x1024x2048, .f32⟩
  | 6 => ⟨S1x2048, .f32⟩
  | 7 => ⟨S1x1024x1024, .f32⟩
  | 8 => ⟨S1x1024x1024, .f32⟩
  | 9 => ⟨S1x1024, .f32⟩
  | 10 => ⟨S1x1024x2816, .f32⟩
  | 11 => ⟨S1x1024x2816, .f32⟩
  | 12 => ⟨S1x2816x1024, .f32⟩
  | 13 => ⟨S1x1024, .f32⟩
  | 14 => ⟨S1x1024x1024, .f32⟩
  | 15 => ⟨S1x256x1024, .f32⟩
  | 16 => ⟨S1024, .f32⟩
  | 17 => ⟨S1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S1024x1024, .f32⟩
  | 35 => ⟨S8x4096x1024, .f32⟩
  | 36 => ⟨S1024x2048, .f32⟩
  | 37 => ⟨S8x4096x2048, .f32⟩
  | 38 => ⟨S2048, .f32⟩
  | 39 => ⟨S1x1x2048, .f32⟩
  | 40 => ⟨S8x4096x2048, .f32⟩
  | 41 => ⟨S8x4096x2048, .f32⟩
  | 42 => ⟨S8x4096x2048, .f32⟩
  | 43 => ⟨S8x4096x2048, .f32⟩
  | 44 => ⟨S_, .f32⟩
  | 45 => ⟨S8x4096x2048, .f32⟩
  | 46 => ⟨S8x4096x2048, .f32⟩
  | 47 => ⟨S_, .f32⟩
  | 48 => ⟨S8x4096x2048, .f32⟩
  | 49 => ⟨S8x4096x2048, .f32⟩
  | 50 => ⟨S8x4096x2x1024, .f32⟩
  | 51 => ⟨S8x4096x1x1024, .f32⟩
  | 52 => ⟨S8x4096x1024, .f32⟩
  | 53 => ⟨S8x4096x1024, .f32⟩
  | 54 => ⟨S8x4096x1x1024, .f32⟩
  | 55 => ⟨S8x4096x1024, .f32⟩
  | 56 => ⟨S8x4096x1024, .f32⟩
  | 57 => ⟨S8x4096x1024, .f32⟩
  | 58 => ⟨S1024x1024, .f32⟩
  | 59 => ⟨S8x4096x1024, .f32⟩
  | 60 => ⟨S8x4096x1024, .f32⟩
  | 61 => ⟨S1024, .f32⟩
  | 62 => ⟨S8x4096x1024, .f32⟩
  | 63 => ⟨S_, .f32⟩
  | 64 => ⟨S8x4096, .f32⟩
  | 65 => ⟨S8x4096x1, .f32⟩
  | 66 => ⟨S_, .f32⟩
  | 67 => ⟨S8x4096x1, .f32⟩
  | 68 => ⟨S8x4096x1, .f32⟩
  | 69 => ⟨S_, .f32⟩
  | 70 => ⟨S8x4096x1, .f32⟩
  | 71 => ⟨S8x4096x1, .f32⟩
  | 72 => ⟨S8x4096x1, .f32⟩
  | 73 => ⟨S8x4096x1024, .f32⟩
  | 74 => ⟨S8x4096x1024, .f32⟩
  | 75 => ⟨S1x1x1024, .f32⟩
  | 76 => ⟨S8x4096x1024, .f32⟩
  | 77 => ⟨S8x4096x1024, .f32⟩
  | 78 => ⟨S1024x2816, .f32⟩
  | 79 => ⟨S8x4096x2816, .f32⟩
  | 80 => ⟨S8x4096x2816, .f32⟩
  | 81 => ⟨S8x4096x2816, .f32⟩
  | 82 => ⟨S_, .f32⟩
  | 83 => ⟨S8x4096x2816, .f32⟩
  | 84 => ⟨S8x4096x2816, .f32⟩
  | 85 => ⟨S_, .f32⟩
  | 86 => ⟨S8x4096x2816, .f32⟩
  | 87 => ⟨S8x4096x2816, .f32⟩
  | 88 => ⟨S8x4096x2816, .f32⟩
  | 89 => ⟨S1024x2816, .f32⟩
  | 90 => ⟨S8x4096x2816, .f32⟩
  | 91 => ⟨S8x4096x2816, .f32⟩
  | 92 => ⟨S2816x1024, .f32⟩
  | 93 => ⟨S8x4096x1024, .f32⟩
  | 94 => ⟨S8x4096x1024, .f32⟩
  | 95 => ⟨S1024, .f32⟩
  | 96 => ⟨S8x4096x1024, .f32⟩
  | 97 => ⟨S_, .f32⟩
  | 98 => ⟨S8x4096, .f32⟩
  | 99 => ⟨S8x4096x1, .f32⟩
  | 100 => ⟨S_, .f32⟩
  | 101 => ⟨S8x4096x1, .f32⟩
  | 102 => ⟨S8x4096x1, .f32⟩
  | 103 => ⟨S_, .f32⟩
  | 104 => ⟨S8x4096x1, .f32⟩
  | 105 => ⟨S8x4096x1, .f32⟩
  | 106 => ⟨S8x4096x1, .f32⟩
  | 107 => ⟨S8x4096x1024, .f32⟩
  | 108 => ⟨S8x4096x1024, .f32⟩
  | 109 => ⟨S1x1x1024, .f32⟩
  | 110 => ⟨S8x4096x1024, .f32⟩
  | 111 => ⟨S8x4096x1024, .f32⟩
  | 112 => ⟨S1024x1024, .f32⟩
  | 113 => ⟨S8x4096x1024, .f32⟩
  | 114 => ⟨S8x4096x1024, .f32⟩
  | 115 => ⟨S8x4096x1024, .f32⟩
  | 116 => ⟨S_, .f32⟩
  | 117 => ⟨S8x4096x1024, .f32⟩
  | 118 => ⟨S8x4096x1024, .f32⟩
  | 119 => ⟨S_, .f32⟩
  | 120 => ⟨S8x4096x1024, .f32⟩
  | 121 => ⟨S8x4096x1024, .f32⟩
  | 122 => ⟨S8x4096x256, .f32⟩
  | 123 => ⟨S256x1024, .f32⟩
  | 124 => ⟨S8x4096x1024, .f32⟩
  | 125 => ⟨S8x4096x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S_, .f32⟩
  | 1 => ⟨S8x4096, .f32⟩
  | 2 => ⟨S8x4096x1, .f32⟩
  | 3 => ⟨S_, .f32⟩
  | 4 => ⟨S8x4096x1, .f32⟩
  | 5 => ⟨S8x4096x1, .f32⟩
  | 6 => ⟨S_, .f32⟩
  | 7 => ⟨S8x4096x1, .f32⟩
  | 8 => ⟨S8x4096x1, .f32⟩
  | 9 => ⟨S8x4096x1, .f32⟩
  | 10 => ⟨S8x4096x1024, .f32⟩
  | 11 => ⟨S8x4096x1024, .f32⟩
  | 12 => ⟨S1x1x1024, .f32⟩
  | 13 => ⟨S8x4096x1024, .f32⟩
  | 14 => ⟨S8x4096x1024, .f32⟩
  | 15 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_7 : Ref sig .tc := ⟨.hbm, 97, rfl⟩
abbrev main_v64 : Ref sig .tc := ⟨.hbm, 98, rfl⟩
abbrev main_v65 : Ref sig .tc := ⟨.hbm, 99, rfl⟩
abbrev main_cst_8 : Ref sig .tc := ⟨.hbm, 100, rfl⟩
abbrev main_v66 : Ref sig .tc := ⟨.hbm, 101, rfl⟩
abbrev main_v67 : Ref sig .tc := ⟨.hbm, 102, rfl⟩
abbrev main_cst_9 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_10 : Ref sig .tc := ⟨.hbm, 116, rfl⟩
abbrev main_v80 : Ref sig .tc := ⟨.hbm, 117, rfl⟩
abbrev main_v81 : Ref sig .tc := ⟨.hbm, 118, rfl⟩
abbrev main_cst_11 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_12 : Ref sig .tc := ⟨.hbm, 128, rfl⟩
abbrev main_v90 : Ref sig .tc := ⟨.hbm, 129, rfl⟩
abbrev main_v91 : Ref sig .tc := ⟨.hbm, 130, rfl⟩
abbrev main_cst_13 : Ref sig .tc := ⟨.hbm, 131, rfl⟩
abbrev main_v92 : Ref sig .tc := ⟨.hbm, 132, rfl⟩
abbrev main_v93 : Ref sig .tc := ⟨.hbm, 133, rfl⟩
abbrev main_cst_14 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]
-- ==== Proof.Steps.lean ====
/-
  The attention kernel's body, written as a program of steps: one tile's first pass (scores of each key chunk stored
  in a scratch array, with a running maximum) and its second pass (the stored scores exponentiated against the maximum
  and multiplied with the values), each step stated once for every chunk, tile and scratch set.
-/
module

public import proofs.«01_k».proof.Proof.Gen.KernelIdeal

@[expose] public section

set_option maxRecDepth 16384

noncomputable section

namespace Cert.KernelIdeal.Attn

open Idealize.ShloMosaic Idealize.SL.Sem
open Cert.KernelIdeal.Gen

variable {F : FTy → Type} [FloatOps F]

/-- The programs of the TensorCore over a float type. -/
abbrev Pg (F : FTy → Type) (α : Type) : Type 1 := Prog (TpuEff nD τ sig (Elt F) Λ₀ .tc) α

/-! ## Words -/

/-- The tile's number from the group's word and its place in the group. -/
def gW (a tile : BitVec 32) : BitVec 32 := Scalar.addi (Scalar.muli a 2#32) tile
/-- The tile's head. -/
def hW (g : BitVec 32) : BitVec 32 := Scalar.andi (Scalar.shrsi g 4#32) 7#32
/-- The first query position of the tile in its sequence. -/
def jW (g : BitVec 32) : BitVec 32 := Scalar.muli (Scalar.andi g 15#32) 256#32
/-- The key chunk that holds the tile's own positions. -/
def cdW (g : BitVec 32) : BitVec 32 := Scalar.shrsi (jW g) 8#32
/-- The `ci`-th of the other chunks. -/
def chW (g ci : BitVec 32) : BitVec 32 := Scalar.addi ci (Scalar.extui (Scalar.cmpi .sle (cdW g) ci))
/-- Whether that chunk lies after the tile's own. -/
def afW (g ci : BitVec 32) : BitVec 32 := Scalar.extui (Scalar.cmpi .sgt (chW g ci) (cdW g))
/-- The chunk's first key position. -/
def kW (g ci : BitVec 32) : BitVec 32 := Scalar.muli (chW g ci) 256#32
/-- The own chunk's first key position. -/
def kOwnW (g : BitVec 32) : BitVec 32 := Scalar.muli (cdW g) 256#32
/-- The word the first pass scales the slope by. -/
def offW (g ci : BitVec 32) : BitVec 32 :=
  Scalar.muli (Scalar.subi (kW g ci) (jW g)) (Scalar.subi 1#32 (Scalar.muli 2#32 (afW g ci)))
/-- The word the second pass scales the slope by at chunk `c`. -/
def sideW (g c : BitVec 32) : BitVec 32 :=
  Scalar.muli (Scalar.select (Scalar.cmpi .sgt (cdW g) c) 1#32 (Scalar.select (Scalar.cmpi .slt (cdW g) c) 4294967295#32 0#32))
    (Scalar.subi (Scalar.muli c 256#32) (jW g))

theorem and15_lt (g : BitVec 32) : ∃ n : Fin 16, Scalar.andi g 15#32 = BitVec.ofNat 32 n.val := by
  refine ⟨⟨(g &&& 15#32).toNat, ?_⟩, ?_⟩
  · simp only [BitVec.toNat_and]; exact Nat.lt_of_le_of_lt Nat.and_le_right (by decide)
  · show g &&& 15#32 = _
    simp

theorem and7_lt (g : BitVec 32) : ∃ n : Fin 8, Scalar.andi g 7#32 = BitVec.ofNat 32 n.val := by
  refine ⟨⟨(g &&& 7#32).toNat, ?_⟩, ?_⟩
  · simp only [BitVec.toNat_and]; exact Nat.lt_of_le_of_lt Nat.and_le_right (by decide)
  · show g &&& 7#32 = _
    simp

/-- The own chunk as a number. -/
def cd (g : BitVec 32) : Fin 16 := ⟨(Scalar.andi g 15#32).toNat, by
  obtain ⟨n, h⟩ := and15_lt g
  rw [h]; exact (by decide : ∀ n : Fin 16, (BitVec.ofNat 32 n.val).toNat < 16) n⟩

/-- The `ci`-th of the chunks other than `d`. -/
def other (d : Fin 16) (ci : Fin 15) : Fin 16 :=
  if d.val ≤ ci.val then ⟨ci.val + 1, by omega⟩ else ⟨ci.val, by omega⟩

theorem and15_eq (g : BitVec 32) : Scalar.andi g 15#32 = BitVec.ofNat 32 (cd g).val := by
  simp [cd]

theorem jW_eq (g : BitVec 32) : jW g = BitVec.ofNat 32 (256 * (cd g).val) := by
  rw [jW, and15_eq]
  exact (by decide : ∀ n : Fin 16, Scalar.muli (BitVec.ofNat 32 n.val) 256#32 = BitVec.ofNat 32 (256 * n.val)) _

theorem cdW_eq (g : BitVec 32) : cdW g = BitVec.ofNat 32 (cd g).val := by
  rw [cdW, jW_eq]
  exact (by decide : ∀ n : Fin 16, Scalar.shrsi (BitVec.ofNat 32 (256 * n.val)) 8#32 = BitVec.ofNat 32 n.val) _

theorem chW_eq (g : BitVec 32) (ci : Fin 15) : chW g (BitVec.ofNat 32 ci.val) = BitVec.ofNat 32 (other (cd g) ci).val := by
  rw [chW, cdW_eq]
  exact (by decide +kernel : ∀ (n : Fin 16) (ci : Fin 15), Scalar.addi (BitVec.ofNat 32 ci.val)
    (Scalar.extui (Scalar.cmpi .sle (BitVec.ofNat 32 n.val) (BitVec.ofNat 32 ci.val)))
      = BitVec.ofNat 32 (other n ci).val) _ _

theorem kW_eq (g : BitVec 32) (ci : Fin 15) : kW g (BitVec.ofNat 32 ci.val) = BitVec.ofNat 32 (256 * (other (cd g) ci).val) := by
  rw [kW, chW_eq]
  exact (by decide : ∀ n : Fin 16, Scalar.muli (BitVec.ofNat 32 n.val) 256#32 = BitVec.ofNat 32 (256 * n.val)) _

theorem kOwnW_eq (g : BitVec 32) : kOwnW g = BitVec.ofNat 32 (256 * (cd g).val) := by
  rw [kOwnW, cdW_eq]
  exact (by decide : ∀ n : Fin 16, Scalar.muli (BitVec.ofNat 32 n.val) 256#32 = BitVec.ofNat 32 (256 * n.val)) _

/-- Whether chunk `c` lies after chunk `d`. -/
def aft (d c : Fin 16) : Fin 2 := if d.val < c.val then 1 else 0

theorem afW_eq (g : BitVec 32) (ci : Fin 15) :
    afW g (BitVec.ofNat 32 ci.val) = BitVec.ofNat 32 (aft (cd g) (other (cd g) ci)).val := by
  rw [afW, chW_eq, cdW_eq]
  exact (by decide +kernel : ∀ (n m : Fin 16), Scalar.extui (Scalar.cmpi .sgt (BitVec.ofNat 32 m.val) (BitVec.ofNat 32 n.val))
      = BitVec.ofNat 32 (aft n m).val) _ _

theorem idx256 (n : Fin 16) : (Scalar.indexCast (BitVec.ofNat 32 (256 * n.val))).toNat = 256 * n.val := by
  revert n; decide

/-! ## Where a step reads and writes -/

def offC (g : BitVec 32) : Fin 1 → Nat := ![(Scalar.indexCast (hW g)).toNat]
def offK (k : BitVec 32) : Fin 2 → Nat := ![(Scalar.indexCast k).toNat, 0]
def offA (a : BitVec 32) : Fin 3 → Nat := ![(Scalar.indexCast a).toNat, 0, 0]
def offS (h : Nat) (k : BitVec 32) : Fin 3 → Nat := ![h, (Scalar.indexCast k).toNat, 0]
def offB (g : BitVec 32) : Fin 4 → Nat :=
  ![0, (Scalar.indexCast (Scalar.andi (Scalar.shrsi (jW g) 8#32) 0#32)).toNat, 0, 0]

theorem offC_inb (g : BitVec 32) : ∀ a, offC g a + S1.size a ≤ S8.size a := by
  obtain ⟨n, h⟩ := and7_lt (Scalar.shrsi g 4#32)
  rw [offC, hW, h]; clear h; revert n; decide

theorem offK_inb (n : Fin 16) (k : BitVec 32) (hk : k = BitVec.ofNat 32 (256 * n.val)) :
    ∀ a, offK k a + S256x128.size a ≤ S4096x128.size a := by
  subst hk; revert n; decide

theorem offA_inb (n : Fin 2) (k : BitVec 32) (hk : k = BitVec.ofNat 32 n.val) :
    ∀ a, offA k a + S1x256x128.size a ≤ S2x256x128.size a := by
  subst hk; revert n; decide

theorem offS_inb (h : Fin 2) (n : Fin 16) (k : BitVec 32) (hk : k = BitVec.ofNat 32 (256 * n.val)) :
    ∀ a, offS h.val k a + S1x256x256.size a ≤ S2x4096x256.size a := by
  subst hk; revert n h; decide

theorem offB_inb (g : BitVec 32) : ∀ a, offB g a + S1x1x256x256.size a ≤ S1x1x256x256.size a := by
  rw [offB, jW_eq]; generalize cd g = n; revert n; decide

theorem offT_inb (n : Fin 2) : ∀ a, (![0, 256 * n.val] : Fin 2 → Nat) a + S128x256.size a ≤ S128x512.size a := by
  revert n; decide

theorem offP_inb (h : Fin 2) (n : Fin 16) :
    ∀ a, (![h.val, 256 * n.val, 0] : Fin 3 → Nat) a + S1x256x256.size a ≤ S2x4096x256.size a := by
  revert n h; decide

theorem offV_inb (n : Fin 16) : ∀ a, (![0, 256 * n.val] : Fin 2 → Nat) a + S144x256.size a ≤ S144x4096.size a := by
  revert n; decide

theorem offM_inb (h : Fin 2) : ∀ a, (![h.val, 0, 0] : Fin 3 → Nat) a + S1x8x256.size a ≤ S2x8x256.size a := by
  revert h; decide

theorem offO_inb (n : Fin 2) : ∀ a, (![256 * n.val, 0] : Fin 2 → Nat) a + S256x128.size a ≤ S512x128.size a := by
  revert n; decide

/-! ## The first pass -/

/-- What the first pass holds of its tile: the slope, the two maps' queries, and the same with the bias rows below. -/
structure Q1 (F : FTy → Type) where
  ch : F .f32
  qa : FVec F S128x256 .bf16
  qb : FVec F S128x256 .bf16
  w1 : FVec F S256x256 .bf16
  w2 : FVec F S256x256 .bf16

/-- The queries of a tile as the steps take them, from the loaded blocks. -/
def mkQ1 (ch : F .f32) (q : FVec F S128x256 .bf16) (ag : FVec F S1x128x256 .bf16) : Q1 F :=
  let q' := shapeCast S128x256 q shapeCasts_S128x256_S128x256
  let z : FVec F S64x256 .bf16 := broadcast S64x256 (Scalar.ofBits .bf16 0x0000#16)
  let qa := concatenate S128x256 0 [⟨S64x256, extractStridedSlice S64x256 ![0, 0] q' slices_S128x256_o0_0_S64x256⟩, ⟨S64x256, z⟩] concatenates_S64x256_S64x256_S128x256_d0
  let qb := concatenate S128x256 0 [⟨S64x256, z⟩, ⟨S64x256, extractStridedSlice S64x256 ![64, 0] q' slices_S128x256_o64_0_S64x256⟩] concatenates_S64x256_S64x256_S128x256_d0
  let ag' := shapeCast S128x256 ag shapeCasts_S1x128x256_S128x256
  { ch := ch, qa := qa, qb := qb
    w1 := concatenate S256x256 0 [⟨S128x256, qa⟩, ⟨S128x256, ag'⟩] concatenates_S128x256_S128x256_S256x256_d0
    w2 := concatenate S256x256 0 [⟨S128x256, qb⟩, ⟨S128x256, ag'⟩] concatenates_S128x256_S128x256_S256x256_d0 }

/-- A chunk's keys beside their bias columns. -/
def lhsOf (k : FVec F S256x128 .bf16) (ak : FVec F S1x256x128 .bf16) : FVec F S256x256 .bf16 :=
  concatenate S256x256 1 [⟨S256x128, shapeCast S256x128 k shapeCasts_S256x128_S256x128⟩, ⟨S256x128, shapeCast S256x128 ak shapeCasts_S1x256x128_S256x128⟩] concatenates_S256x128_S256x128_S256x256_d1

/-- A chunk's scores. -/
def scOf (k : FVec F S256x128 .bf16) (ak : FVec F S1x256x128 .bf16) (w : FVec F S256x256 .bf16) : FVec F S256x256 .f32 :=
  matmul dot_S256x256_S256x256_S256x256_1_0_0_1_n_n none (lhsOf k ak) w (constant S256x256 .f32 0x00000000#32)

/-- The own chunk's scores. -/
def scOwn (k : FVec F S256x128 .bf16) (b : FVec F S1x1x256x256 .f32) (q : FVec F S128x256 .bf16) : FVec F S256x256 .f32 :=
  addf (matmul dot_S256x128_S128x256_S256x256_1_0_0_1_n_n none (shapeCast S256x128 k shapeCasts_S256x128_S256x128) q (constant S256x256 .f32 0x00000000#32))
    (shapeCast S256x256 b shapeCasts_S1x1x256x256_S256x256)

/-- The running maximum after a chunk's scores. -/
def mxOf (m : FVec F S8x256 .f32) (s : FVec F S256x256 .f32) (off : F .f32) : FVec F S8x256 .f32 :=
  maximumf m (addf (multiReduction .maximumf [0] S8x256 (shapeCast S32x8x256 s shapeCasts_S256x256_S32x8x256) 0xFF800000#32 reduces_S32x8x256_S8x256 (.inl rfl) rfl)
    (broadcast S8x256 off))

/-- The maximum the first pass begins at. -/
def m0 : FVec F S8x256 .f32 := broadcast S8x256 (Scalar.ofBits .f32 0xF149F2CA#32)

/-- The offset of a chunk's maximum. -/
def off1 (g ci : BitVec 32) (ch : F .f32) : F .f32 := Scalar.mulf ch (Scalar.sitofp .f32 (offW g ci))

/-- The maximum over the eight rows, in each of them. -/
def mFin (m : FVec F S8x256 .f32) : FVec F S1x8x256 .f32 :=
  shapeCast S1x8x256 (broadcastTo S8x256 (shapeCast S1x256 (shapeCast S1x256 (multiReduction .maximumf [0] S256 m 0xFF800000#32 reduces_S8x256_S256 (.inl rfl) rfl) shapeCasts_S256_S1x256) shapeCasts_S1x256_S1x256) broadcasts_S1x256_S8x256) shapeCasts_S8x256_S1x8x256

/-- The two maps' running maxima. -/
abbrev MM (F : FTy → Type) : Type := FVec F S8x256 .f32 × FVec F S8x256 .f32

section One
variable (a1 : Memref sig .tc .smem S8 .f32) (a2 : Memref sig .tc .vmem S128x512 .bf16)
  (a3 : Memref sig .tc .vmem S4096x128 .bf16) (a5 : Memref sig .tc .vmem S2x256x128 .bf16)
  (a6 : Memref sig .tc .vmem S1x128x256 .bf16) (a7 : Memref sig .tc .vmem S1x1x256x256 .f32)
  (sS : Memref sig .tc .vmem S2x4096x256 .f32) (sM : Memref sig .tc .vmem S2x8x256 .f32)

/-- Load the slope of the tile's head. -/
def ldC (g : BitVec 32) : Pg F (Elt F .f32) :=
  smemLoad a1 (Rect.unit (s := S8) (offC g) S1.size (offC_inb g)) numel1_S1 rfl

/-- Prepare a tile's first pass. -/
def pre1 (g : BitVec 32) (tile : Fin 2) : Pg F (Q1 F) := do
  let ch : Elt F .f32 ← ldC a1 g
  let q : Vec F S128x256 .bf16 ← Prog.lift (.load a2 (Rect.unit (s := S128x512) ![0, 256 * tile.val] S128x256.size (offT_inb tile)).toLoadRect (View.loadsAt_vmem h_S128x256))
  let ag : Vec F S1x128x256 .bf16 ← Prog.lift (.load a6 (Rect.unit (s := S1x128x256) ![0, 0, 0] S1x128x256.size inb_S1x128x256_S1x128x256_0_0_0).toLoadRect (View.loadsAt_vmem h_S1x128x256))
  pure (mkQ1 ch q ag)

/-- Store a chunk's scores of one map. -/
def stS (h : Fin 2) (n : Fin 16) (k : BitVec 32) (hk : k = BitVec.ofNat 32 (256 * n.val)) (s : FVec F S256x256 .f32) : Pg F PUnit := do
  let _ : Vec F S1x256x256 .f32 ← Prog.lift (.load sS (Rect.unit (s := S2x4096x256) (offS h.val k) S1x256x256.size (offS_inb h n k hk)).toLoadRect (View.loadsAt_vmem h_S1x256x256))
  Prog.lift (.store sS (Rect.unit (s := S2x4096x256) (offS h.val k) S1x256x256.size (offS_inb h n k hk)) (shapeCast S1x256x256 s shapeCasts_S256x256_S1x256x256) Finset.univ (View.stores_vmem_bits_univ h_S1x256x256 rfl) (.inl rfl))

/-- One chunk of the first pass, other than the tile's own. -/
def step1 (g : BitVec 32) (e : Q1 F) (ci : Fin 15) (m : MM F) : Pg F (MM F) := do
  let k : Vec F S256x128 .bf16 ← Prog.lift (.load a3 (Rect.unit (s := S4096x128) (offK (kW g (BitVec.ofNat 32 ci.val))) S256x128.size (offK_inb _ _ (kW_eq g ci))).toLoadRect (View.loadsAt_vmem h_S256x128))
  let ak : Vec F S1x256x128 .bf16 ← Prog.lift (.load a5 (Rect.unit (s := S2x256x128) (offA (afW g (BitVec.ofNat 32 ci.val))) S1x256x128.size (offA_inb _ _ (afW_eq g ci))).toLoadRect (View.loadsAt_vmem h_S1x256x128))
  stS sS 0 _ _ (kW_eq g ci) (scOf k ak e.w1)
  stS sS 1 _ _ (kW_eq g ci) (scOf k ak e.w2)
  pure (mxOf m.1 (scOf k ak e.w1) (off1 g (BitVec.ofNat 32 ci.val) e.ch), mxOf m.2 (scOf k ak e.w2) (off1 g (BitVec.ofNat 32 ci.val) e.ch))

/-- The tile's own chunk. -/
def own1 (g : BitVec 32) (e : Q1 F) (m : MM F) : Pg F (MM F) := do
  let b : Vec F S1x1x256x256 .f32 ← Prog.lift (.load a7 (Rect.unit (s := S1x1x256x256) (offB g) S1x1x256x256.size (offB_inb g)).toLoadRect (View.loadsAt_vmem h_S1x1x256x256))
  let k : Vec F S256x128 .bf16 ← Prog.lift (.load a3 (Rect.unit (s := S4096x128) (offK (kOwnW g)) S256x128.size (offK_inb _ _ (kOwnW_eq g))).toLoadRect (View.loadsAt_vmem h_S256x128))
  stS sS 0 _ _ (kOwnW_eq g) (scOwn k b e.qa)
  stS sS 1 _ _ (kOwnW_eq g) (scOwn k b e.qb)
  pure (mxOf m.1 (scOwn k b e.qa) (Scalar.ofBits .f32 0x00000000#32), mxOf m.2 (scOwn k b e.qb) (Scalar.ofBits .f32 0x00000000#32))

/-- Store a map's maximum. -/
def stM (h : Fin 2) (m : FVec F S8x256 .f32) : Pg F PUnit := do
  let _ : Vec F S1x8x256 .f32 ← Prog.lift (.load sM (Rect.unit (s := S2x8x256) ![h.val, 0, 0] S1x8x256.size (offM_inb h)).toLoadRect (View.loadsAt_vmem h_S1x8x256))
  Prog.lift (.store sM (Rect.unit (s := S2x8x256) ![h.val, 0, 0] S1x8x256.size (offM_inb h)) (mFin m) Finset.univ (View.stores_vmem_bits_univ h_S1x8x256 rfl) (.inl rfl))

/-- Store the maxima of a tile. -/
def fin1 (m : MM F) : Pg F PUnit := do
  stM sM 0 m.1
  stM sM 1 m.2

end One

/-! ## The second pass -/

/-- What the second pass holds of its tile: the slope and the two maps' maxima. -/
structure Q2 (F : FTy → Type) where
  ch : F .f32
  m1 : FVec F S1x256 .f32
  m2 : FVec F S1x256 .f32

/-- The first row of a stored maximum. -/
def mRow (m : FVec F S1x8x256 .f32) : FVec F S1x256 .f32 :=
  extractStridedSlice S1x256 ![0, 0] (shapeCast S8x256 m shapeCasts_S1x8x256_S8x256) slices_S8x256_o0_0_S1x256

/-- The weights of a chunk, from its stored scores. -/
def pOf (s : FVec F S1x256x256 .f32) (m : FVec F S1x256 .f32) (off : F .f32) : FVec F S256x256 .bf16 :=
  truncf .bf16 (exp2 (subf (shapeCast S256x256 s shapeCasts_S1x256x256_S256x256) (broadcastTo S256x256 (subf m (broadcast S1x256 off)) broadcasts_S1x256_S256x256))) bitsLt_bf16_f32

/-- The offset the second pass takes at chunk `c`. -/
def off2 (g c : BitVec 32) (ch : F .f32) : F .f32 := Scalar.mulf ch (Scalar.sitofp .f32 (sideW g c))

/-- The two maps' weights of a chunk. -/
abbrev PP (F : FTy → Type) : Type := FVec F S256x256 .bf16 × FVec F S256x256 .bf16
/-- The two maps' sums. -/
abbrev AA (F : FTy → Type) : Type := FVec F S144x256 .f32 × FVec F S144x256 .f32

def acc0 : FVec F S144x256 .f32 := broadcast S144x256 (Scalar.ofBits .f32 0x00000000#32)

/-- A chunk's values against its weights, added. -/
def accOf (acc : FVec F S144x256 .f32) (v : FVec F S144x256 .bf16) (p : FVec F S256x256 .bf16) : FVec F S144x256 .f32 :=
  addf acc (matmul dot_S144x256_S256x256_S144x256_1_0_0_1_n_n none (shapeCast S144x256 v shapeCasts_S144x256_S144x256) p (constant S144x256 .f32 0x00000000#32))

/-- The exponential of a product's sum. -/
def elOf (a b : FVec F S1x64 .f32) : FVec F S1x1 .f32 :=
  exp (shapeCast S1x1 (multiReduction .add [1] S1 (mulf a b) 0x00000000#32 reduces_S1x64_S1 (.inl rfl) rfl) shapeCasts_S1_S1x1)

/-- The differential weight. -/
def lamOf (a b c d : FVec F S1x64 .f32) : FVec F S1x1 .f32 :=
  addf (subf (elOf a b) (elOf c d)) (broadcast S1x1 (Scalar.ofBits .f32 0x3E4CCCCD#32))

/-- A map's output: the weighted values over the weights' sum. -/
def oOf (acc : FVec F S144x256 .f32) : FVec F S128x256 .f32 :=
  divf (extractStridedSlice S128x256 ![0, 0] acc slices_S144x256_o0_0_S128x256)
    (broadcastTo S128x256 (extractStridedSlice S1x256 ![128, 0] acc slices_S144x256_o128_0_S1x256) broadcasts_S1x256_S128x256)

/-- The difference of the two maps. -/
def dOf (acc : AA F) (lam : FVec F S1x1 .f32) : FVec F S128x256 .f32 :=
  subf (oOf acc.1) (mulf (broadcastTo S128x256 lam broadcasts_S1x1_S128x256) (oOf acc.2))

/-- The difference normalised over the head's width. -/
def nOf (o : FVec F S128x256 .f32) : FVec F S128x256 .f32 :=
  mulf o (broadcastTo S128x256 (rsqrt (addf (divf (shapeCast S1x256 (multiReduction .add [0] S256 (mulf o o) 0x00000000#32 reduces_S128x256_S256 (.inl rfl) rfl) shapeCasts_S256_S1x256)
    (broadcast S1x256 (Scalar.ofBits .f32 0x43000000#32))) (broadcast S1x256 (Scalar.ofBits .f32 0x358637BD#32)))) broadcasts_S1x256_S128x256)

/-- The tile's result. -/
def resOf (n : FVec F S128x256 .f32) (gs : FVec F S1x128 .f32) : FVec F S256x128 .bf16 :=
  truncf .bf16 (mulf (transpose S256x128 [1, 0] n transposes_S128x256_p1_0_S256x128)
    (broadcastTo S256x128 (mulf gs (broadcast S1x128 (Scalar.ofBits .f32 0x3F4CCCCD#32))) broadcasts_S1x128_S256x128)) bitsLt_bf16_f32

section Two
variable (a1 : Memref sig .tc .smem S8 .f32) (a4 : Memref sig .tc .vmem S144x4096 .bf16)
  (a8 a9 a10 a11 : Memref sig .tc .vmem S1x64 .f32) (a12 : Memref sig .tc .vmem S1x128 .f32)
  (a13 : Memref sig .tc .vmem S512x128 .bf16) (h13 : a13.IsWhole)
  (sS : Memref sig .tc .vmem S2x4096x256 .f32) (sM : Memref sig .tc .vmem S2x8x256 .f32)

/-- Load a map's maximum. -/
def ldM (h : Fin 2) : Pg F (FVec F S1x256 .f32) := do
  let m : Vec F S1x8x256 .f32 ← Prog.lift (.load sM (Rect.unit (s := S2x8x256) ![h.val, 0, 0] S1x8x256.size (offM_inb h)).toLoadRect (View.loadsAt_vmem h_S1x8x256))
  pure (mRow m)

/-- Prepare a tile's second pass. -/
def pre2 (g : BitVec 32) : Pg F (Q2 F) := do
  let ch : Elt F .f32 ← ldC a1 g
  let m1 ← ldM sM 0
  let m2 ← ldM sM 1
  pure ⟨ch, m1, m2⟩

/-- The weights of chunk `c`. -/
def step2 (g : BitVec 32) (e : Q2 F) (c : Fin 16) : Pg F (PP F) := do
  let s1 : Vec F S1x256x256 .f32 ← Prog.lift (.load sS (Rect.unit (s := S2x4096x256) ![(0 : Fin 2).val, 256 * c.val, 0] S1x256x256.size (offP_inb 0 c)).toLoadRect (View.loadsAt_vmem h_S1x256x256))
  let s2 : Vec F S1x256x256 .f32 ← Prog.lift (.load sS (Rect.unit (s := S2x4096x256) ![(1 : Fin 2).val, 256 * c.val, 0] S1x256x256.size (offP_inb 1 c)).toLoadRect (View.loadsAt_vmem h_S1x256x256))
  pure (pOf s1 e.m1 (off2 g (BitVec.ofNat 32 c.val) e.ch), pOf s2 e.m2 (off2 g (BitVec.ofNat 32 c.val) e.ch))

/-- The sums after chunk `c`. -/
def val2 (c : Fin 16) (p : PP F) (acc : AA F) : Pg F (AA F) := do
  let v : Vec F S144x256 .bf16 ← Prog.lift (.load a4 (Rect.unit (s := S144x4096) ![0, 256 * c.val] S144x256.size (offV_inb c)).toLoadRect (View.loadsAt_vmem h_S144x256))
  pure (accOf acc.1 v p.1, accOf acc.2 v p.2)

/-- Load one of the four lambda vectors. -/
def ldL (a : Memref sig .tc .vmem S1x64 .f32) : Pg F (FVec F S1x64 .f32) := do
  let l : Vec F S1x64 .f32 ← Prog.lift (.load a (Rect.unit (s := S1x64) ![0, 0] S1x64.size inb_S1x64_S1x64_0_0).toLoadRect (View.loadsAt_vmem h_S1x64))
  pure l

/-- Where a tile's result goes is whole words. -/
theorem offO_packed : ∀ tile : Fin 2, (Rect.unit (s := S512x128) ![256 * tile.val, 0] S256x128.size (offO_inb tile)).PackedRows (EltTy.packing .bf16)
  | 0 => packedbf16_S512x128_S256x128_0_0
  | 1 => packedbf16_S512x128_S256x128_256_0

/-- Normalise and store the tile's result. -/
def fin2 (tile : Fin 2) (acc : AA F) : Pg F PUnit := do
  let l1 ← ldL a8
  let l2 ← ldL a9
  let l3 ← ldL a10
  let l4 ← ldL a11
  let gs : Vec F S1x128 .f32 ← Prog.lift (.load a12 (Rect.unit (s := S1x128) ![0, 0] S1x128.size inb_S1x128_S1x128_0_0).toLoadRect (View.loadsAt_vmem h_S1x128))
  let _ : Vec F S256x128 .bf16 ← Prog.lift (.load a13 (Rect.unit (s := S512x128) ![256 * tile.val, 0] S256x128.size (offO_inb tile)).toLoadRect (View.loadsAt_vmem h_S256x128))
  Prog.lift (.store a13 (Rect.unit (s := S512x128) ![256 * tile.val, 0] S256x128.size (offO_inb tile)) (resOf (nOf (dOf acc (lamOf l1 l2 l3 l4))) gs) Finset.univ (View.stores_vmem h_S256x128 (h13.storeExact_slice rfl _ (offO_packed tile)) (fun _ => rfl)) (.inl rfl))

end Two

/-! ## The body -/

/-- Run the steps of a list in order. -/
def loop {α σ : Type} (f : α → σ → Pg F σ) : List α → σ → Pg F σ
  | [], s => pure s
  | a :: l, s => f a s >>= loop f l

section Body
variable (a1 : Memref sig .tc .smem S8 .f32) (a2 : Memref sig .tc .vmem S128x512 .bf16)
  (a3 : Memref sig .tc .vmem S4096x128 .bf16) (a4 : Memref sig .tc .vmem S144x4096 .bf16)
  (a5 : Memref sig .tc .vmem S2x256x128 .bf16)
  (a6 : Memref sig .tc .vmem S1x128x256 .bf16) (a7 : Memref sig .tc .vmem S1x1x256x256 .f32)
  (a8 a9 a10 a11 : Memref sig .tc .vmem S1x64 .f32) (a12 : Memref sig .tc .vmem S1x128 .f32)
  (a13 : Memref sig .tc .vmem S512x128 .bf16) (h13 : a13.IsWhole)

/-- The first pass of one tile. -/
def pass1 (sS : Memref sig .tc .vmem S2x4096x256 .f32) (sM : Memref sig .tc .vmem S2x8x256 .f32) (g : BitVec 32) (tile : Fin 2) : Pg F PUnit := do
  let e ← pre1 a1 a2 a6 g tile
  let m ← loop (step1 a3 a5 sS g e) [0, 1, 2, 3, 4, 5, 6, 7] (m0, m0)
  let m ← own1 a3 a7 sS g e m
  let m ← loop (step1 a3 a5 sS g e) [8, 9, 10, 11, 12, 13, 14] m
  fin1 sM m

/-- The state of a second pass under way: the sums, and the weights of the two last chunks. -/
abbrev P2 (F : FTy → Type) : Type := AA F × PP F × PP F

/-- One chunk of the second pass past the second. -/
def next2 (sS : Memref sig .tc .vmem S2x4096x256 .f32) (g : BitVec 32) (e : Q2 F) (c : Fin 14) (s : P2 F) : Pg F (P2 F) := do
  let p ← step2 sS g e ⟨c.val + 2, by omega⟩
  let a ← val2 a4 ⟨c.val, by omega⟩ s.2.1 s.1
  pure (a, s.2.2, p)

/-- The end of a second pass. -/
def end2 (tile : Fin 2) (s : P2 F) : Pg F PUnit := do
  let a ← val2 a4 14 s.2.1 s.1
  let a ← val2 a4 15 s.2.2 a
  fin2 a8 a9 a10 a11 a12 a13 h13 tile a

/-- The second pass of one tile. -/
def pass2 (sS : Memref sig .tc .vmem S2x4096x256 .f32) (sM : Memref sig .tc .vmem S2x8x256 .f32) (g : BitVec 32) (tile : Fin 2) : Pg F PUnit := do
  let e ← pre2 a1 sM g
  let p0 ← step2 sS g e 0
  let p1 ← step2 sS g e 1
  let s ← loop (next2 a4 sS g e) [0, 1, 2, 3, 4, 5, 6, 7, 8, 9, 10, 11, 12, 13] ((acc0, acc0), p0, p1)
  end2 a4 a8 a9 a10 a11 a12 a13 h13 tile s

/-- A chunk of the second pass, then a chunk of the first. -/
def both (sS sS' : Memref sig .tc .vmem S2x4096x256 .f32) (g g' : BitVec 32) (e : Q1 F) (e' : Q2 F) (c : Fin 14 × Fin 15) (s : MM F × P2 F) : Pg F (MM F × P2 F) := do
  let t ← next2 a4 sS' g' e' c.1 s.2
  let m ← step1 a3 a5 sS g e c.2 s.1
  pure (m, t)

/-- The second pass of a tile from its second chunk on, between the chunks of another tile's first pass up to the last. -/
def half (sS sS' : Memref sig .tc .vmem S2x4096x256 .f32) (g g' : BitVec 32) (tile : Fin 2) (e' : Q2 F) (p0 : PP F) : Pg F (Q1 F × MM F) := do
  let p1 ← step2 sS' g' e' 1
  let e ← pre1 a1 a2 a6 g tile
  let m ← step1 a3 a5 sS g e 0 (m0, m0)
  let s ← loop (both a3 a4 a5 sS sS' g g' e e') [(0, 1), (1, 2), (2, 3), (3, 4), (4, 5), (5, 6), (6, 7)] (m, (acc0, acc0), p0, p1)
  let t ← next2 a4 sS' g' e' 7 s.2
  let m ← own1 a3 a7 sS g e s.1
  let s ← loop (both a3 a4 a5 sS sS' g g' e e') [(8, 8), (9, 9), (10, 10), (11, 11), (12, 12)] (m, t)
  let t ← next2 a4 sS' g' e' 13 s.2
  end2 a4 a8 a9 a10 a11 a12 a13 h13 tile t
  let m ← step1 a3 a5 sS g e 13 s.1
  pure (e, m)

/-- Both passes of a group: the second of the older tiles between the chunks of the first of the newer. -/
def inner (sA sB sA' sB' : Memref sig .tc .vmem S2x4096x256 .f32) (mA mB mA' mB' : Memref sig .tc .vmem S2x8x256 .f32) (a a' : BitVec 32) : Pg F PUnit := do
  let e' ← pre2 a1 mA' (gW a' 0#32)
  let p ← step2 sA' (gW a' 0#32) e' 0
  let r ← half a1 a2 a3 a4 a5 a6 a7 a8 a9 a10 a11 a12 a13 h13 sA sA' (gW a 0#32) (gW a' 0#32) 0 e' p
  let e' ← pre2 a1 mB' (gW a' 1#32)
  let p ← step2 sB' (gW a' 1#32) e' 0
  let m ← step1 a3 a5 sA (gW a 0#32) r.1 14 r.2
  fin1 mA m
  let r ← half a1 a2 a3 a4 a5 a6 a7 a8 a9 a10 a11 a12 a13 h13 sB sB' (gW a 1#32) (gW a' 1#32) 1 e' p
  let m ← step1 a3 a5 sB (gW a 1#32) r.1 14 r.2
  fin1 mB m

end Body

/-- The kernel's body. -/
def body (i : grid0.Coords) (a1 : Memref sig .tc .smem S8 .f32) (a2 : Memref sig .tc .vmem S128x512 .bf16)
    (a3 : Memref sig .tc .vmem S4096x128 .bf16) (a4 : Memref sig .tc .vmem S144x4096 .bf16)
    (a5 : Memref sig .tc .vmem S2x256x128 .bf16)
    (a6 : Memref sig .tc .vmem S1x128x256 .bf16) (a7 : Memref sig .tc .vmem S1x1x256x256 .f32)
    (a8 a9 a10 a11 : Memref sig .tc .vmem S1x64 .f32) (a12 : Memref sig .tc .vmem S1x128 .f32)
    (a13 : Memref sig .tc .vmem S512x128 .bf16) (h13 : a13.IsWhole)
    (s0 s1 s2 s3 : Memref sig .tc .vmem S2x4096x256 .f32) (n0 n1 n2 n3 : Memref sig .tc .vmem S2x8x256 .f32) : Pg F PUnit := do
  if k0_cond1 i = 1#1 then do
    pass1 a1 a2 a3 a5 a6 a7 s0 n0 (gW (BitVec.ofNat 32 (i 0).val) 0#32) 0
    pass1 a1 a2 a3 a5 a6 a7 s1 n1 (gW (BitVec.ofNat 32 (i 0).val) 1#32) 1
  else pure ⟨⟩
  if k0_cond2 i = 1#1 then
    inner a1 a2 a3 a4 a5 a6 a7 a8 a9 a10 a11 a12 a13 h13 s0 s1 s2 s3 n0 n1 n2 n3 (BitVec.ofNat 32 (i 0).val) (Scalar.subi (BitVec.ofNat 32 (i 0).val) 1#32)
  else pure ⟨⟩
  if k0_cond3 i = 1#1 then
    inner a1 a2 a3 a4 a5 a6 a7 a8 a9 a10 a11 a12 a13 h13 s2 s3 s0 s1 n2 n3 n0 n1 (BitVec.ofNat 32 (i 0).val) (Scalar.subi (BitVec.ofNat 32 (i 0).val) 1#32)
  else pure ⟨⟩
  if k0_cond4 i = 1#1 then do
    pass2 a1 a4 a8 a9 a10 a11 a12 a13 h13 s2 n2 (gW (Scalar.subi (BitVec.ofNat 32 (i 0).val) 1#32) 0#32) 0
    pass2 a1 a4 a8 a9 a10 a11 a12 a13 h13 s3 n3 (gW (Scalar.subi (BitVec.ofNat 32 (i 0).val) 1#32) 1#32) 1
  else pure ⟨⟩

end Cert.KernelIdeal.Attn
-- ==== Proof.Runs.lean ====
/-
  Deterministic runs: a program that, from some resources, ends with one value and other resources. Steps are put
  together by `bind`, resources a step does not touch are framed, and reading or writing a rectangle of an owned
  memref is one step.
-/
module

public import proofs.«01_k».proof.Proof.Gen.KernelIdeal.Frame
public import proofs.«01_k».proof.Proof.Steps
public import Idealize.ShloMosaic.Lib.MemrefSat

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

abbrev 𝒱₀ : Variants := Variants.none

variable (c : Dev nD)

/-- The weakest precondition of a body program on core `c`. -/
abbrev Wp {α : Type} (p : Pg F α) (Q : α → sProp 𝕄) : sProp 𝕄 :=
  wp frame (wpE (defs₀ (F := F)) 𝒱₀ (c : Thread nD τ) none) Set.univ p Q

/-- From `P`, `p` ends with the value `v` and `P'`. -/
def Run {α : Type} (P : sProp 𝕄) (p : Pg F α) (v : α) (P' : sProp 𝕄) : Prop :=
  P ⊢ Wp c p (fun a => iprop(⌜a = v⌝ ∗ P'))

variable {c}
variable {α β σ : Type} {P P' P'' : sProp (MT nD τ sig Unit (Elt F) ℕ (UR sig nD τ) ℕ)}

theorem run_bind {p : Pg F α} {k : α → Pg F β} {v : α} {w : β} (h : Run c P p v P') (h' : Run c P' (k v) w P'') :
    Run c P (p >>= k) w P'' := by
  unfold Run Wp at *
  rw [wp_bind]
  refine h.trans (wp_mono _ _ _ fun a => ?_)
  iintro ⟨%ha, H⟩
  subst ha
  iapply h' $$ H

theorem run_pure (v : α) : Run c P (Pure.pure v : Pg F α) v P := by
  unfold Run Wp
  refine BIBase.Entails.trans ?_ (le_wp_ret _ _ _ v _)
  iintro H
  isplitr
  · ipureintro; rfl
  · iexact H

theorem run_frame {p : Pg F α} {v : α} (R : sProp 𝕄) (h : Run c P p v P') : Run c iprop(P ∗ R) p v iprop(P' ∗ R) := by
  unfold Run Wp at *
  refine (sep_mono_left h).trans ((wp_frame_r _ _ _).trans (wp_mono _ _ _ fun a => ?_))
  iintro ⟨⟨%ha, H⟩, HR⟩
  isplitr
  · ipureintro; exact ha
  · isplitl [H]
    · iexact H
    · iexact HR

/-- A run inside larger resources. -/
theorem run_on {p : Pg F α} {v : α} {G G' : sProp 𝕄} (R : sProp 𝕄) (h : Run c P p v P') (e : G = iprop(P ∗ R)) (e' : G' = iprop(P' ∗ R)) :
    Run c G p v G' := by
  rw [e, e']; exact run_frame R h

theorem run_conseq {p : Pg F α} {v : α} {G G' : sProp 𝕄} (h : Run c P p v P') (e : G ⊢ P) (e' : P' ⊢ G') : Run c G p v G' := by
  unfold Run Wp at *
  refine e.trans (h.trans (wp_mono _ _ _ fun a => ?_))
  iintro ⟨%ha, H⟩
  isplitr
  · ipureintro; exact ha
  · iapply e' $$ H

/-- A list's steps in order, from the state and the done list. -/
theorem run_loop {ι : Type} {f : ι → σ → Pg F σ} {fp : ι → σ → σ} {G : List ι → sProp 𝕄}
    (h : ∀ i s done, Run c (G done) (f i s) (fp i s) (G (i :: done))) :
    ∀ (l : List ι) (s : σ) (done : List ι), Run c (G done) (loop f l s) (l.foldl (fun s i => fp i s) s) (G (l.reverse ++ done))
  | [], s, done => run_pure s
  | i :: l, s, done => by
    rw [List.reverse_cons, List.append_assoc]
    exact run_bind (h i s done) (run_loop h l (fp i s) (i :: done))

instance : Std.Commutative (α := sProp 𝕄) (fun P Q => iprop(P ∗ Q)) := ⟨fun P Q => equiv_iff.mp ⟨BI.sep_comm, BI.sep_comm⟩⟩
instance : Std.Associative (α := sProp 𝕄) (fun P Q => iprop(P ∗ Q)) := ⟨fun P Q R => equiv_iff.mp ⟨BI.sep_assoc, BI.sep_assoc'⟩⟩

/-- The entries a rectangle names. -/
def cut {s : Shape} {α : Type} (r : Rect s) (X : s.Idx → α) : r.shape.Idx → α := fun x => X (r.idx x)

variable {cs : CoreSpace} {s : Shape} {e : EltTy}

/-- Reading a rectangle of an owned memref. -/
theorem run_load (a : Memref sig .tc cs s e) (X : s.Idx → Elt F e) (r : Rect s) (hl : a.view.LoadsAt r.toLoadRect) :
    Run (F := F) c (owns (c : Thread nD τ) a fullShare X) (Prog.lift (.load a r.toLoadRect hl)) (cut r X) (owns (c : Thread nD τ) a fullShare X) := by
  unfold Run Wp owns
  iintro ⟨%f, %hf, H⟩
  iapply (wp_load 𝒱₀ (c : Thread nD τ) none Set.univ (m := a) (r := r.toLoadRect) (View.setOn_subset_set _ _)) $$ H
  iintro H
  rw [wp_ret]
  imodintro
  isplitr
  · ipureintro; rw [← hf]; rfl
  · iexists f
    isplitr
    · ipureintro; exact hf
    · iexact H

/-- Reading a rectangle of a memref of which something is known. -/
theorem run_load_sat (a : Memref sig .tc cs s e) (Φ : (s.Idx → Elt F e) → Prop) (r : Rect s) (hl : a.view.LoadsAt r.toLoadRect) (w : r.shape.Idx → Elt F e)
    (hw : ∀ X, Φ X → cut r X = w) :
    Run (F := F) c (ownsSat (c : Thread nD τ) a fullShare Φ) (Prog.lift (.load a r.toLoadRect hl)) w (ownsSat (c : Thread nD τ) a fullShare Φ) := by
  unfold Run Wp ownsSat
  iintro ⟨%f, %hf, H⟩
  iapply (wp_load 𝒱₀ (c : Thread nD τ) none Set.univ (m := a) (r := r.toLoadRect) (View.setOn_subset_set _ _)) $$ H
  iintro H
  rw [wp_ret]
  imodintro
  isplitr
  · ipureintro; rw [← hw _ hf]; rfl
  · iexists f
    isplitr
    · ipureintro; exact hf
    · iexact H

/-- Writing a rectangle of a memref: afterwards it holds what was written there and what it held elsewhere. The
    program reads the rectangle first and drops what it read. -/
theorem run_store_sat (a : Memref sig .tc cs s e) (Φ Ψ : (s.Idx → Elt F e) → Prop) (r : Rect s) (hl : a.view.LoadsAt r.toLoadRect) (w : r.shape.Idx → Elt F e)
    (hx : (a.access r).Stores Finset.univ) (hm : Finset.univ = Finset.univ ∨ ∀ a, r.stride a = 1)
    (hw : ∀ X Y, Φ X → cut r Y = w → (∀ y, (∀ x, r.idx x ≠ y) → Y y = X y) → Ψ Y) :
    Run (F := F) c (ownsSat (c : Thread nD τ) a fullShare Φ)
      (Prog.lift (.load a r.toLoadRect hl) >>= fun _ => Prog.lift (.store a r w Finset.univ hx hm)) ⟨⟩ (ownsSat (c : Thread nD τ) a fullShare Ψ) := by
  unfold Run Wp ownsSat
  iintro ⟨%f, %hf, H⟩
  iapply (wp_load 𝒱₀ (c : Thread nD τ) none Set.univ (m := a) (r := r.toLoadRect) (View.setOn_subset_set _ _)) $$ H
  iintro H
  iapply (wp_store 𝒱₀ (c : Thread nD τ) none Set.univ (m := a) (r := r) (Mk := Finset.univ) (S := a.view.set)
    (by rw [View.setOn_univ, View.set_slice]; exact View.setOn_subset_set _ _)) $$ H
  iintro H
  rw [wp_ret]
  imodintro
  isplitr
  · ipureintro; rfl
  · iexists ((a.access r).write (Elt F) f w Finset.univ)
    isplitr
    · ipureintro
      refine hw _ ((a.view.read (Elt F)) ((a.access r).write (Elt F) f w Finset.univ)) hf ?_ ?_
      · funext x
        exact View.read_slice_write_emb _ _ _ (Finset.mem_univ x)
      · intro y hy
        refine View.read_slice_write_of_not_mem _ _ _ _ fun hmem => ?_
        obtain ⟨x, -, hx⟩ := Finset.mem_map.mp hmem
        exact hy x hx
    · iexact H

end Cert.KernelIdeal.Attn
-- ==== Proof.Values.lean ====
/-
  What the attention kernel's body computes, as functions of its operand blocks: a tile's scores chunk by chunk, its
  running maxima, its sums, and its result; and what the scratch arrays hold meanwhile.
-/
module

public import proofs.«01_k».proof.Proof.Runs
public import Idealize.ShloMosaic.Lib.Pipeline.ValueKit.Tiles

@[expose] public section

set_option maxRecDepth 16384

noncomputable section

namespace Cert.KernelIdeal.Attn

open Idealize.ShloMosaic Idealize.SL.Sem
open Cert.KernelIdeal.Gen

variable {F : FTy → Type} [FloatOps F]

/-- The operand blocks of a grid point. -/
structure Blocks (F : FTy → Type) where
  x1 : Vec F S8 .f32
  x2 : Vec F S128x512 .bf16
  x3 : Vec F S4096x128 .bf16
  x4 : Vec F S144x4096 .bf16
  x5 : Vec F S2x256x128 .bf16
  x6 : Vec F S1x128x256 .bf16
  x7 : Vec F S1x1x256x256 .f32
  x8 : Vec F S1x64 .f32
  x9 : Vec F S1x64 .f32
  x10 : Vec F S1x64 .f32
  x11 : Vec F S1x64 .f32
  x12 : Vec F S1x128 .f32

variable (X X' : Blocks F) (g g' : BitVec 32)

theorem cut_congr {s : Shape} {α : Type} {off off' size : Fin s.rank → Nat} (h : off = off') (i i') (Y : s.Idx → α) :
    cut (Rect.unit off size i) Y = cut (Rect.unit off' size i') Y := by
  subst h; rfl

/-! ## The blocks' parts -/

/-- The slope of the tile's head. -/
def chV : Elt F .f32 :=
  cut (Rect.unit (s := S8) (offC g) S1.size (offC_inb g)) X.x1 (Shape.Idx.first (numel1_S1.symm ▸ Nat.one_pos))
/-- The tile's queries. -/
def qV (tile : Fin 2) : Vec F S128x256 .bf16 := cut (Rect.unit (s := S128x512) ![0, 256 * tile.val] S128x256.size (offT_inb tile)) X.x2
/-- The queries' bias columns. -/
def agV : Vec F S1x128x256 .bf16 := cut (Rect.unit (s := S1x128x256) ![0, 0, 0] S1x128x256.size inb_S1x128x256_S1x128x256_0_0_0) X.x6
theorem offKn_inb (n : Fin 16) : ∀ a, (![256 * n.val, 0] : Fin 2 → Nat) a + S256x128.size a ≤ S4096x128.size a := by
  revert n; decide
/-- The keys of chunk `n`. -/
def kV (n : Fin 16) : Vec F S256x128 .bf16 := cut (Rect.unit (s := S4096x128) ![256 * n.val, 0] S256x128.size (offKn_inb n)) X.x3
theorem offAn_inb (n : Fin 2) : ∀ a, (![n.val, 0, 0] : Fin 3 → Nat) a + S1x256x128.size a ≤ S2x256x128.size a := by
  revert n; decide
/-- The keys' bias columns, before or after the tile's own chunk. -/
def akV (n : Fin 2) : Vec F S1x256x128 .bf16 := cut (Rect.unit (s := S2x256x128) ![n.val, 0, 0] S1x256x128.size (offAn_inb n)) X.x5
/-- The own chunk's bias. -/
def bV : Vec F S1x1x256x256 .f32 := cut (Rect.unit (s := S1x1x256x256) (offB g) S1x1x256x256.size (offB_inb g)) X.x7
/-- The values of chunk `n`. -/
def vV (n : Fin 16) : Vec F S144x256 .bf16 := cut (Rect.unit (s := S144x4096) ![0, 256 * n.val] S144x256.size (offV_inb n)) X.x4
/-- A lambda vector, whole. -/
def lV (Y : Vec F S1x64 .f32) : Vec F S1x64 .f32 := cut (Rect.unit (s := S1x64) ![0, 0] S1x64.size inb_S1x64_S1x64_0_0) Y
/-- The scale of the normalised heads. -/
def gsV : Vec F S1x128 .f32 := cut (Rect.unit (s := S1x128) ![0, 0] S1x128.size inb_S1x128_S1x128_0_0) X.x12

/-! ## The first pass -/

/-- The prepared queries of a tile. -/
def eV (tile : Fin 2) : Q1 F := mkQ1 (chV X g) (qV X tile) (agV X)

/-- The scores of map `h` at chunk `n`. -/
def sc (e : Q1 F) (n : Fin 16) (h : Fin 2) : FVec F S256x256 .f32 :=
  if n = cd g then scOwn (kV X n) (bV X g) (if h = 0 then e.qa else e.qb)
  else scOf (kV X n) (akV X (aft (cd g) n)) (if h = 0 then e.w1 else e.w2)

/-- The maxima after one more chunk. -/
def nextM (e : Q1 F) (ci : Fin 15) (m : MM F) : MM F :=
  (mxOf m.1 (sc X g e (other (cd g) ci) 0) (off1 g (BitVec.ofNat 32 ci.val) e.ch),
   mxOf m.2 (sc X g e (other (cd g) ci) 1) (off1 g (BitVec.ofNat 32 ci.val) e.ch))
/-- The maxima after the own chunk. -/
def ownM (e : Q1 F) (m : MM F) : MM F :=
  (mxOf m.1 (sc X g e (cd g) 0) (Scalar.ofBits .f32 0x00000000#32), mxOf m.2 (sc X g e (cd g) 1) (Scalar.ofBits .f32 0x00000000#32))
/-- The maxima of the whole pass. -/
def allM (e : Q1 F) : MM F :=
  ([8, 9, 10, 11, 12, 13, 14] : List (Fin 15)).foldl (fun m i => nextM X g e i m)
    (ownM X g e (([0, 1, 2, 3, 4, 5, 6, 7] : List (Fin 15)).foldl (fun m i => nextM X g e i m) (m0, m0)))

/-- Where map `h`'s scores at chunk `n` are stored. -/
abbrev rS (h : Fin 2) (n : Fin 16) : Rect S2x4096x256 := Rect.unit (s := S2x4096x256) ![h.val, 256 * n.val, 0] S1x256x256.size (offP_inb h n)
/-- Where map `h`'s maximum is stored. -/
abbrev rM (h : Fin 2) : Rect S2x8x256 := Rect.unit (s := S2x8x256) ![h.val, 0, 0] S1x8x256.size (offM_inb h)
/-- Where a tile's result is stored. -/
abbrev rO (tile : Fin 2) : Rect S512x128 := Rect.unit (s := S512x128) ![256 * tile.val, 0] S256x128.size (offO_inb tile)

/-- The scores of the chunks of `l` are stored. -/
def HasS (e : Q1 F) (l : List (Fin 16)) (Y : Vec F S2x4096x256 .f32) : Prop :=
  ∀ n ∈ l, ∀ h, cut (rS h n) Y = shapeCast S1x256x256 (sc X g e n h) shapeCasts_S256x256_S1x256x256

/-- The maxima are stored. -/
def HasM (m : MM F) (Y : Vec F S2x8x256 .f32) : Prop :=
  cut (rM 0) Y = mFin m.1 ∧ cut (rM 1) Y = mFin m.2

theorem rS_ne {h h' : Fin 2} {n n' : Fin 16} (hne : ¬ (h = h' ∧ n = n')) (x y) : (rS h n).idx x ≠ (rS h' n').idx y := by
  intro hxy
  have h0 := congrArg Fin.val (congrFun hxy 0)
  have h1 := congrArg Fin.val (congrFun hxy 1)
  rw [Rect.idx_unit_val, Rect.idx_unit_val] at h0 h1
  have e0 : (x 0).val < 1 := (x 0).isLt
  have e0' : (y 0).val < 1 := (y 0).isLt
  have e1 : (x 1).val < 256 := (x 1).isLt
  have e1' : (y 1).val < 256 := (y 1).isLt
  change h.val + (x 0).val = h'.val + (y 0).val at h0
  change 256 * n.val + (x 1).val = 256 * n'.val + (y 1).val at h1
  exact hne ⟨Fin.ext (by omega), Fin.ext (by omega)⟩

theorem rM_ne {h h' : Fin 2} (hne : h ≠ h') (x y) : (rM h).idx x ≠ (rM h').idx y := by
  intro hxy
  have h0 := congrArg Fin.val (congrFun hxy 0)
  rw [Rect.idx_unit_val, Rect.idx_unit_val] at h0
  have e0 : (x 0).val < 1 := (x 0).isLt
  have e0' : (y 0).val < 1 := (y 0).isLt
  change h.val + (x 0).val = h'.val + (y 0).val at h0
  exact hne (Fin.ext (by omega))

theorem rO_ne {h h' : Fin 2} (hne : h ≠ h') (x y) : (rO h).idx x ≠ (rO h').idx y := by
  intro hxy
  have h0 := congrArg Fin.val (congrFun hxy 0)
  rw [Rect.idx_unit_val, Rect.idx_unit_val] at h0
  have e0 : (x 0).val < 256 := (x 0).isLt
  have e0' : (y 0).val < 256 := (y 0).isLt
  change 256 * h.val + (x 0).val = 256 * h'.val + (y 0).val at h0
  exact hne (Fin.ext (by omega))

theorem other_ne (d : Fin 16) (ci : Fin 15) : other d ci ≠ d := by revert d ci; decide

/-- Every chunk is one of the tile's. -/
def chunks (d : Fin 16) : List (Fin 16) :=
  ([8, 9, 10, 11, 12, 13, 14] : List (Fin 15)).reverse.map (other d) ++ (d :: ([0, 1, 2, 3, 4, 5, 6, 7] : List (Fin 15)).reverse.map (other d))
theorem mem_chunks (d n : Fin 16) : n ∈ chunks d := by revert d n; decide

/-! ## The second pass -/

/-- What the second pass holds of its tile. -/
def e2V (m : MM F) : Q2 F := ⟨chV X g, mRow (mFin m.1), mRow (mFin m.2)⟩
/-- The weights at chunk `n`, from the scores of the pass before. -/
def pV (e : Q1 F) (e2 : Q2 F) (n : Fin 16) : PP F :=
  (pOf (shapeCast S1x256x256 (sc X g e n 0) shapeCasts_S256x256_S1x256x256) e2.m1 (off2 g (BitVec.ofNat 32 n.val) e2.ch),
   pOf (shapeCast S1x256x256 (sc X g e n 1) shapeCasts_S256x256_S1x256x256) e2.m2 (off2 g (BitVec.ofNat 32 n.val) e2.ch))
/-- The sums after chunk `n`. -/
def aV (n : Fin 16) (p : PP F) (a : AA F) : AA F := (accOf a.1 (vV X n) p.1, accOf a.2 (vV X n) p.2)
/-- The state after chunk `n` past the second; `X'` are the blocks the scores came from. -/
def nextP (e : Q1 F) (e2 : Q2 F) (n : Fin 14) (s : P2 F) : P2 F :=
  (aV X ⟨n.val, by omega⟩ s.2.1 s.1, s.2.2, pV X' g e e2 ⟨n.val + 2, by omega⟩)
/-- The sums over all chunks. -/
def allA (e : Q1 F) (e2 : Q2 F) : AA F :=
  ([0, 1, 2, 3, 4, 5, 6, 7, 8, 9, 10, 11, 12, 13, 14, 15] : List (Fin 16)).foldl (fun a n => aV X n (pV X' g e e2 n) a) (acc0, acc0)
/-- The lambda of the blocks. -/
def lamV : FVec F S1x1 .f32 := lamOf (lV X.x8) (lV X.x9) (lV X.x10) (lV X.x11)
/-- The tile's result from its sums. -/
def rV (a : AA F) : FVec F S256x128 .bf16 := resOf (nOf (dOf a (lamV X))) (gsV X)

/-- A tile's result: `X'` the blocks of its first pass, `X` those of its second. -/
def tileV (tile : Fin 2) : FVec F S256x128 .bf16 :=
  rV X (allA X X' g (eV X' g tile) (e2V X g (allM X' g (eV X' g tile))))

/-- The results of the tiles of `l` are stored. -/
def HasO (r : Fin 2 → FVec F S256x128 .bf16) (l : List (Fin 2)) (Y : Vec F S512x128 .bf16) : Prop := ∀ t ∈ l, cut (rO t) Y = r t

end Cert.KernelIdeal.Attn
-- ==== Proof.Pass.lean ====
/-
  The steps of the attention kernel's body as deterministic runs over the operand blocks and the scratch arrays.
-/
module

public import proofs.«01_k».proof.Proof.Values

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The operands of the body. -/
structure Args where
  a1 : Memref sig .tc .smem S8 .f32
  a2 : Memref sig .tc .vmem S128x512 .bf16
  a3 : Memref sig .tc .vmem S4096x128 .bf16
  a4 : Memref sig .tc .vmem S144x4096 .bf16
  a5 : Memref sig .tc .vmem S2x256x128 .bf16
  a6 : Memref sig .tc .vmem S1x128x256 .bf16
  a7 : Memref sig .tc .vmem S1x1x256x256 .f32
  a8 : Memref sig .tc .vmem S1x64 .f32
  a9 : Memref sig .tc .vmem S1x64 .f32
  a10 : Memref sig .tc .vmem S1x64 .f32
  a11 : Memref sig .tc .vmem S1x64 .f32
  a12 : Memref sig .tc .vmem S1x128 .f32

variable (c : Dev nD) (A : Args) (X X' : Blocks F)

/-- The operands hold the blocks. -/
def Ins : sProp 𝕄 :=
  iprop(owns (c : Thread nD τ) A.a1 fullShare X.x1 ∗ owns (c : Thread nD τ) A.a2 fullShare X.x2 ∗ owns (c : Thread nD τ) A.a3 fullShare X.x3
    ∗ owns (c : Thread nD τ) A.a4 fullShare X.x4 ∗ owns (c : Thread nD τ) A.a5 fullShare X.x5 ∗ owns (c : Thread nD τ) A.a6 fullShare X.x6
    ∗ owns (c : Thread nD τ) A.a7 fullShare X.x7 ∗ owns (c : Thread nD τ) A.a8 fullShare X.x8 ∗ owns (c : Thread nD τ) A.a9 fullShare X.x9
    ∗ owns (c : Thread nD τ) A.a10 fullShare X.x10 ∗ owns (c : Thread nD τ) A.a11 fullShare X.x11 ∗ owns (c : Thread nD τ) A.a12 fullShare X.x12)

variable {c A X X'}

theorem run_l {α : Type} {P P' : sProp 𝕄} {p : Pg F α} {v : α} (R : sProp 𝕄) (h : Run c P p v P') : Run c iprop(P ∗ R) p v iprop(P' ∗ R) := run_frame R h
theorem run_r {α : Type} {P P' : sProp 𝕄} {p : Pg F α} {v : α} (R : sProp 𝕄) (h : Run c P p v P') : Run c iprop(R ∗ P) p v iprop(R ∗ P') :=
  run_on R h (equiv_iff.mp ⟨BI.sep_comm, BI.sep_comm⟩) (equiv_iff.mp ⟨BI.sep_comm, BI.sep_comm⟩)

theorem ins1 (r : Rect _) (hl : A.a1.view.LoadsAt r.toLoadRect) : Run (F := F) c (Ins c A X) (Prog.lift (.load A.a1 r.toLoadRect hl)) (cut r X.x1) (Ins c A X) := by
  unfold Ins; exact run_l _ (run_load A.a1 X.x1 r hl)
theorem ins2 (r : Rect _) (hl : A.a2.view.LoadsAt r.toLoadRect) : Run (F := F) c (Ins c A X) (Prog.lift (.load A.a2 r.toLoadRect hl)) (cut r X.x2) (Ins c A X) := by
  unfold Ins; exact run_r _ (run_l _ (run_load A.a2 X.x2 r hl))
theorem ins3 (r : Rect _) (hl : A.a3.view.LoadsAt r.toLoadRect) : Run (F := F) c (Ins c A X) (Prog.lift (.load A.a3 r.toLoadRect hl)) (cut r X.x3) (Ins c A X) := by
  unfold Ins; exact run_r _ (run_r _ (run_l _ (run_load A.a3 X.x3 r hl)))
theorem ins4 (r : Rect _) (hl : A.a4.view.LoadsAt r.toLoadRect) : Run (F := F) c (Ins c A X) (Prog.lift (.load A.a4 r.toLoadRect hl)) (cut r X.x4) (Ins c A X) := by
  unfold Ins; exact run_r _ (run_r _ (run_r _ (run_l _ (run_load A.a4 X.x4 r hl))))
theorem ins5 (r : Rect _) (hl : A.a5.view.LoadsAt r.toLoadRect) : Run (F := F) c (Ins c A X) (Prog.lift (.load A.a5 r.toLoadRect hl)) (cut r X.x5) (Ins c A X) := by
  unfold Ins; exact run_r _ (run_r _ (run_r _ (run_r _ (run_l _ (run_load A.a5 X.x5 r hl)))))
theorem ins6 (r : Rect _) (hl : A.a6.view.LoadsAt r.toLoadRect) : Run (F := F) c (Ins c A X) (Prog.lift (.load A.a6 r.toLoadRect hl)) (cut r X.x6) (Ins c A X) := by
  unfold Ins; exact run_r _ (run_r _ (run_r _ (run_r _ (run_r _ (run_l _ (run_load A.a6 X.x6 r hl))))))
theorem ins7 (r : Rect _) (hl : A.a7.view.LoadsAt r.toLoadRect) : Run (F := F) c (Ins c A X) (Prog.lift (.load A.a7 r.toLoadRect hl)) (cut r X.x7) (Ins c A X) := by
  unfold Ins; exact run_r _ (run_r _ (run_r _ (run_r _ (run_r _ (run_r _ (run_l _ (run_load A.a7 X.x7 r hl)))))))
theorem ins8 (r : Rect _) (hl : A.a8.view.LoadsAt r.toLoadRect) : Run (F := F) c (Ins c A X) (Prog.lift (.load A.a8 r.toLoadRect hl)) (cut r X.x8) (Ins c A X) := by
  unfold Ins; exact run_r _ (run_r _ (run_r _ (run_r _ (run_r _ (run_r _ (run_r _ (run_l _ (run_load A.a8 X.x8 r hl))))))))
theorem ins9 (r : Rect _) (hl : A.a9.view.LoadsAt r.toLoadRect) : Run (F := F) c (Ins c A X) (Prog.lift (.load A.a9 r.toLoadRect hl)) (cut r X.x9) (Ins c A X) := by
  unfold Ins; exact run_r _ (run_r _ (run_r _ (run_r _ (run_r _ (run_r _ (run_r _ (run_r _ (run_l _ (run_load A.a9 X.x9 r hl)))))))))
theorem ins10 (r : Rect _) (hl : A.a10.view.LoadsAt r.toLoadRect) : Run (F := F) c (Ins c A X) (Prog.lift (.load A.a10 r.toLoadRect hl)) (cut r X.x10) (Ins c A X) := by
  unfold Ins; exact run_r _ (run_r _ (run_r _ (run_r _ (run_r _ (run_r _ (run_r _ (run_r _ (run_r _ (run_l _ (run_load A.a10 X.x10 r hl))))))))))
theorem ins11 (r : Rect _) (hl : A.a11.view.LoadsAt r.toLoadRect) : Run (F := F) c (Ins c A X) (Prog.lift (.load A.a11 r.toLoadRect hl)) (cut r X.x11) (Ins c A X) := by
  unfold Ins; exact run_r _ (run_r _ (run_r _ (run_r _ (run_r _ (run_r _ (run_r _ (run_r _ (run_r _ (run_r _ (run_l _ (run_load A.a11 X.x11 r hl)))))))))))
theorem ins12 (r : Rect _) (hl : A.a12.view.LoadsAt r.toLoadRect) : Run (F := F) c (Ins c A X) (Prog.lift (.load A.a12 r.toLoadRect hl)) (cut r X.x12) (Ins c A X) := by
  unfold Ins; exact run_r _ (run_r _ (run_r _ (run_r _ (run_r _ (run_r _ (run_r _ (run_r _ (run_r _ (run_r _ (run_r _ (run_load A.a12 X.x12 r hl)))))))))))

/-! ## The first pass -/

theorem run_ldC (g : BitVec 32) : Run (F := F) c (Ins c A X) (ldC A.a1 g) (chV X g) (Ins c A X) := by
  unfold ldC smemLoad smemLoadElt chV
  exact run_bind (p := Prog.lift (.load A.a1 (Rect.unit (s := S8) (offC g) S1.size (offC_inb g)).toLoadRect (View.loadsAt_rect (View.loads_smem_one rfl numel1_S1))))
    (k := fun f => Pure.pure (f (Shape.Idx.first (numel1_S1.symm ▸ Nat.one_pos))))
    (ins1 (Rect.unit (s := S8) (offC g) S1.size (offC_inb g)) _) (run_pure _)

theorem run_pre1 (g : BitVec 32) (tile : Fin 2) : Run (F := F) c (Ins c A X) (pre1 A.a1 A.a2 A.a6 g tile) (eV X g tile) (Ins c A X) := by
  unfold pre1 eV
  refine run_bind (run_ldC g) ?_
  exact run_bind (ins2 _ _) (run_bind (ins6 _ _) (run_pure _))

variable {sS : Memref sig .tc .vmem S2x4096x256 .f32} {sM : Memref sig .tc .vmem S2x8x256 .f32}
  {a13 : Memref sig .tc .vmem S512x128 .bf16} {h13 : a13.IsWhole}

/-- A scratch array of scores of which `Φ` holds. -/
abbrev SS (c : Dev nD) (sS : Memref sig .tc .vmem S2x4096x256 .f32) (Φ : Vec F S2x4096x256 .f32 → Prop) : sProp 𝕄 := ownsSat (c : Thread nD τ) sS fullShare Φ
/-- A scratch array of maxima of which `Φ` holds. -/
abbrev SM (c : Dev nD) (sM : Memref sig .tc .vmem S2x8x256 .f32) (Φ : Vec F S2x8x256 .f32 → Prop) : sProp 𝕄 := ownsSat (c : Thread nD τ) sM fullShare Φ
/-- The result's block of which `Φ` holds. -/
abbrev SO (c : Dev nD) (a13 : Memref sig .tc .vmem S512x128 .bf16) (Φ : Vec F S512x128 .bf16 → Prop) : sProp 𝕄 := ownsSat (c : Thread nD τ) a13 fullShare Φ

theorem run_stS (Φ Ψ : Vec F S2x4096x256 .f32 → Prop) (h : Fin 2) (n : Fin 16) (k : BitVec 32) (hk : k = BitVec.ofNat 32 (256 * n.val)) (s : FVec F S256x256 .f32)
    (hw : ∀ Y Z, Φ Y → cut (rS h n) Z = shapeCast S1x256x256 s shapeCasts_S256x256_S1x256x256 →
      (∀ h' n', ¬ (h' = h ∧ n' = n) → cut (rS h' n') Z = cut (rS h' n') Y) → Ψ Z) :
    Run c (SS c sS Φ) (stS sS h n k hk s) ⟨⟩ (SS c sS Ψ) := by
  have ho : offS h.val k = (![h.val, 256 * n.val, 0] : Fin 3 → Nat) := by subst hk; rw [offS, idx256]
  unfold stS
  refine run_store_sat sS Φ Ψ _ _ _ _ _ fun Y Z hY h1 h2 => hw Y Z hY ?_ ?_
  · rw [← h1]; exact (cut_congr (s := S2x4096x256) ho _ _ Z).symm
  · intro h' n' hne
    funext x
    refine h2 _ fun y hy => rS_ne hne x y ?_
    rw [← hy]
    funext a; apply Fin.ext
    rw [Rect.idx_unit_val, Rect.idx_unit_val]; exact congrArg (· + (y a).val) (congrFun ho a)

/-- Both maps' scores of a chunk stored. -/
theorem run_stS2 (g : BitVec 32) (e : Q1 F) (l : List (Fin 16)) (n : Fin 16) (k : BitVec 32) (hk : k = BitVec.ofNat 32 (256 * n.val)) (s1 s2 : FVec F S256x256 .f32)
    (h1 : s1 = sc X g e n 0) (h2 : s2 = sc X g e n 1) :
    Run c (SS c sS (HasS X g e l)) (stS sS 0 n k hk s1 >>= fun _ => stS sS 1 n k hk s2) ⟨⟩ (SS c sS (HasS X g e (n :: l))) := by
  subst h1; subst h2
  refine run_bind (run_stS (sS := sS) _ (fun Z => (∀ m ∈ l, m ≠ n → ∀ h, cut (rS h m) Z = shapeCast S1x256x256 (sc X g e m h) shapeCasts_S256x256_S1x256x256)
      ∧ cut (rS 0 n) Z = shapeCast S1x256x256 (sc X g e n 0) shapeCasts_S256x256_S1x256x256) 0 n k hk _ ?_) (run_stS _ _ 1 n k hk _ ?_)
  · intro Y Z hY hz ho
    refine ⟨fun m hm hne h => ?_, hz⟩
    rw [ho h m (fun hh => hne hh.2)]; exact hY m hm h
  · intro Y Z hY hz ho m hm h
    by_cases hn : m = n
    · subst hn
      match h with
      | 0 => rw [ho 0 m (fun hh => absurd hh.1 (by decide))]; exact hY.2
      | 1 => exact hz
    · rw [ho h m (fun hh => hn hh.2)]
      exact hY.1 m ((List.mem_cons.mp hm).resolve_left hn) hn h

theorem run_step1 (g : BitVec 32) (e : Q1 F) (l : List (Fin 16)) (ci : Fin 15) (m : MM F) :
    Run c iprop(Ins c A X ∗ SS c sS (HasS X g e l)) (step1 A.a3 A.a5 sS g e ci m) (nextM X g e ci m)
      iprop(Ins c A X ∗ SS c sS (HasS X g e (other (cd g) ci :: l))) := by
  have hk : cut (Rect.unit (s := S4096x128) (offK (kW g (BitVec.ofNat 32 ci.val))) S256x128.size (offK_inb _ _ (kW_eq g ci))) X.x3 = kV X (other (cd g) ci) :=
    cut_congr (by rw [offK, kW_eq, idx256]) _ _ _
  have ha : cut (Rect.unit (s := S2x256x128) (offA (afW g (BitVec.ofNat 32 ci.val))) S1x256x128.size (offA_inb _ _ (afW_eq g ci))) X.x5 = akV X (aft (cd g) (other (cd g) ci)) :=
    cut_congr (by rw [offA, afW_eq]; generalize aft (cd g) (other (cd g) ci) = n; revert n; decide) _ _ _
  have hs : ∀ h, sc X g e (other (cd g) ci) h = scOf (kV X (other (cd g) ci)) (akV X (aft (cd g) (other (cd g) ci))) (if h = 0 then e.w1 else e.w2) := fun h => by
    rw [sc, if_neg (other_ne _ _)]
  have hm : nextM X g e ci m = (mxOf m.1 (scOf (kV X (other (cd g) ci)) (akV X (aft (cd g) (other (cd g) ci))) e.w1) (off1 g (BitVec.ofNat 32 ci.val) e.ch),
      mxOf m.2 (scOf (kV X (other (cd g) ci)) (akV X (aft (cd g) (other (cd g) ci))) e.w2) (off1 g (BitVec.ofNat 32 ci.val) e.ch)) := by
    unfold nextM; rw [hs 0, hs 1, if_pos rfl, if_neg (by decide)]
  unfold step1
  refine run_bind (run_l _ (ins3 _ _)) (run_bind (run_l _ (ins5 _ _)) ?_)
  rw [hk, ha]
  rw [hm]
  exact run_bind (k := fun _ => Pure.pure _) (run_r (Ins c A X) (run_stS2 (X := X) (c := c) (sS := sS) g e l (other (cd g) ci) _ (kW_eq g ci) _ _ ((hs 0).trans (if_pos rfl ▸ rfl)).symm ((hs 1).trans (if_neg (show ¬ ((1 : Fin 2) = 0) by decide) ▸ rfl)).symm))
    (run_pure _)

theorem run_own1 (g : BitVec 32) (e : Q1 F) (l : List (Fin 16)) (m : MM F) :
    Run c iprop(Ins c A X ∗ SS c sS (HasS X g e l)) (own1 A.a3 A.a7 sS g e m) (ownM X g e m)
      iprop(Ins c A X ∗ SS c sS (HasS X g e (cd g :: l))) := by
  have hk : cut (Rect.unit (s := S4096x128) (offK (kOwnW g)) S256x128.size (offK_inb _ _ (kOwnW_eq g))) X.x3 = kV X (cd g) :=
    cut_congr (by rw [offK, kOwnW_eq, idx256]) _ _ _
  have hs : ∀ h, sc X g e (cd g) h = scOwn (kV X (cd g)) (bV X g) (if h = 0 then e.qa else e.qb) := fun h => by
    rw [sc, if_pos rfl]
  have hm : ownM X g e m = (mxOf m.1 (scOwn (kV X (cd g)) (bV X g) e.qa) (Scalar.ofBits .f32 0x00000000#32),
      mxOf m.2 (scOwn (kV X (cd g)) (bV X g) e.qb) (Scalar.ofBits .f32 0x00000000#32)) := by
    unfold ownM; rw [hs 0, hs 1, if_pos rfl, if_neg (by decide)]
  unfold own1
  refine run_bind (run_l _ (ins7 _ _)) (run_bind (run_l _ (ins3 _ _)) ?_)
  rw [hk]
  rw [hm]
  exact run_bind (k := fun _ => Pure.pure _) (run_r (Ins c A X) (run_stS2 (X := X) (c := c) (sS := sS) g e l (cd g) _ (kOwnW_eq g) _ _ ((hs 0).trans (if_pos rfl ▸ rfl)).symm ((hs 1).trans (if_neg (show ¬ ((1 : Fin 2) = 0) by decide) ▸ rfl)).symm))
    (run_pure _)

theorem run_fin1 (Φ : Vec F S2x8x256 .f32 → Prop) (m : MM F) : Run c (SM c sM Φ) (fin1 sM m) ⟨⟩ (SM c sM (HasM m)) := by
  unfold fin1 stM
  refine run_bind (run_store_sat sM Φ (fun Z => cut (rM 0) Z = mFin m.1) _ _ _ _ _ fun Y Z _ h _ => h)
    (run_store_sat sM _ _ _ _ _ _ _ fun Y Z hY h h2 => ⟨?_, h⟩)
  rw [← hY]
  funext x
  exact h2 _ fun y => rM_ne (by decide) y x

/-! ## The second pass -/

theorem run_pre2 (g : BitVec 32) (m : MM F) :
    Run c iprop(Ins c A X ∗ SM c sM (HasM m)) (pre2 A.a1 sM g) (e2V X g m) iprop(Ins c A X ∗ SM c sM (HasM m)) := by
  unfold pre2 ldM
  refine run_bind (run_l _ (run_ldC g)) ?_
  refine run_bind (run_r _ (run_bind (run_load_sat sM _ _ _ (mFin m.1) fun Y h => h.1) (run_pure _))) ?_
  exact run_bind (run_r _ (run_bind (run_load_sat sM _ _ _ (mFin m.2) fun Y h => h.2) (run_pure _))) (run_pure _)

theorem run_step2 (g : BitVec 32) (e : Q1 F) (e2 : Q2 F) (l : List (Fin 16)) (n : Fin 16) (hn : n ∈ l) :
    Run c (SS c sS (HasS X' g e l)) (step2 sS g e2 n) (pV X' g e e2 n) (SS c sS (HasS X' g e l)) := by
  unfold step2
  exact run_bind (run_load_sat sS _ _ _ _ fun Y h => h n hn 0) (run_bind (run_load_sat sS _ _ _ _ fun Y h => h n hn 1) (run_pure _))

theorem run_val2 (n : Fin 16) (p : PP F) (a : AA F) : Run c (Ins c A X) (val2 A.a4 n p a) (aV X n p a) (Ins c A X) := by
  unfold val2
  exact run_bind (ins4 _ _) (run_pure _)

theorem run_next2 (g : BitVec 32) (e : Q1 F) (e2 : Q2 F) (l : List (Fin 16)) (hl : ∀ n, n ∈ l) (n : Fin 14) (s : P2 F) :
    Run c iprop(Ins c A X ∗ SS c sS (HasS X' g e l)) (next2 A.a4 sS g e2 n s) (nextP X X' g e e2 n s) iprop(Ins c A X ∗ SS c sS (HasS X' g e l)) := by
  unfold next2
  exact run_bind (run_r _ (run_step2 g e e2 l _ (hl _))) (run_bind (run_l _ (run_val2 _ _ _)) (run_pure _))

theorem run_fin2 (r : Fin 2 → FVec F S256x128 .bf16) (l : List (Fin 2)) (tile : Fin 2) (a : AA F) (hr : r tile = rV X a) :
    Run c iprop(Ins c A X ∗ SO c a13 (HasO r l)) (fin2 A.a8 A.a9 A.a10 A.a11 A.a12 a13 h13 tile a) ⟨⟩ iprop(Ins c A X ∗ SO c a13 (HasO r (tile :: l))) := by
  unfold fin2 ldL
  refine run_bind (run_l _ (run_bind (ins8 _ _) (run_pure _))) (run_bind (run_l _ (run_bind (ins9 _ _) (run_pure _)))
    (run_bind (run_l _ (run_bind (ins10 _ _) (run_pure _))) (run_bind (run_l _ (run_bind (ins11 _ _) (run_pure _)))
    (run_bind (run_l _ (ins12 _ _)) (run_r _ (run_store_sat a13 _ _ _ _ _ _ _ fun Y Z hY h h2 => ?_))))))
  intro t ht
  by_cases hn : t = tile
  · subst hn; rw [hr]; exact h
  · rw [← hY t ((List.mem_cons.mp ht).resolve_left hn)]
    funext x
    exact h2 _ fun y => rO_ne (Ne.symm hn) y x

end Cert.KernelIdeal.Attn
-- ==== Proof.Passes.lean ====
/-
  The attention kernel's two passes over a tile, apart and interleaved, as deterministic runs.
-/
module

public import proofs.«01_k».proof.Proof.Pass

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable {c : Dev nD} {A : Args} {X X' : Blocks F}
  {sS sS' : Memref sig .tc .vmem S2x4096x256 .f32} {sM sM' : Memref sig .tc .vmem S2x8x256 .f32}
  {a13 : Memref sig .tc .vmem S512x128 .bf16} {h13 : a13.IsWhole}

/-! ## The passes apart -/

theorem ss_nil (g : BitVec 32) (e : Q1 F) (Φ : Vec F S2x4096x256 .f32 → Prop) :
    SS c sS Φ ⊢ SS c sS (HasS X g e []) :=
  ownsSat_mono _ _ _ fun Y _ n hn => absurd hn (by simp)

theorem run_loop1 (g : BitVec 32) (e : Q1 F) (l : List (Fin 16)) (L : List (Fin 15)) (m : MM F) :
    Run c iprop(Ins c A X ∗ SS c sS (HasS X g e l)) (loop (step1 A.a3 A.a5 sS g e) L m) (L.foldl (fun m i => nextM X g e i m) m)
      iprop(Ins c A X ∗ SS c sS (HasS X g e (L.reverse.map (other (cd g)) ++ l))) := by
  have h := run_loop (c := c) (G := fun done => iprop(Ins c A X ∗ SS c sS (HasS X g e (done.map (other (cd g)) ++ l))))
    (fun i s done => run_step1 (A := A) (X := X) (sS := sS) g e (done.map (other (cd g)) ++ l) i s) L m []
  rw [List.append_nil] at h
  exact h

/-- The first pass of a tile leaves all its scores and its maxima. -/
theorem run_pass1 (g : BitVec 32) (tile : Fin 2) (Φ : Vec F S2x4096x256 .f32 → Prop) (Ψ : Vec F S2x8x256 .f32 → Prop) :
    Run c iprop(Ins c A X ∗ SS c sS Φ ∗ SM c sM Ψ) (pass1 A.a1 A.a2 A.a3 A.a5 A.a6 A.a7 sS sM g tile) ⟨⟩
      iprop(Ins c A X ∗ SS c sS (HasS X g (eV X g tile) (chunks (cd g))) ∗ SM c sM (HasM (allM X g (eV X g tile)))) := by
  unfold pass1
  refine run_conseq (P := iprop(Ins c A X ∗ SS c sS (HasS X g (eV X g tile) []) ∗ SM c sM Ψ)) ?_
    (sep_mono_right (sep_mono_left (ss_nil g _ Φ))) (BIBase.Entails.rfl)
  refine run_bind (run_l _ (run_pre1 g tile)) ?_
  refine run_bind (run_on (SM c sM Ψ) (run_loop1 g _ _ _ _) (by ac_rfl) rfl) ?_
  refine run_bind (run_l _ (run_own1 g _ _ _)) ?_
  refine run_bind (run_l _ (run_loop1 g _ _ _ _)) ?_
  exact run_on iprop(Ins c A X ∗ SS c sS (HasS X g (eV X g tile) (chunks (cd g)))) (run_fin1 Ψ (allM X g (eV X g tile)))
    (equiv_iff.mp ⟨BI.sep_comm, BI.sep_comm⟩) (by ac_rfl)

theorem run_end2 (r : Fin 2 → FVec F S256x128 .bf16) (l : List (Fin 2)) (tile : Fin 2) (s : P2 F)
    (hr : r tile = rV X (aV X 15 s.2.2 (aV X 14 s.2.1 s.1))) :
    Run c iprop(Ins c A X ∗ SO c a13 (HasO r l)) (end2 A.a4 A.a8 A.a9 A.a10 A.a11 A.a12 a13 h13 tile s) ⟨⟩ iprop(Ins c A X ∗ SO c a13 (HasO r (tile :: l))) := by
  unfold end2
  exact run_bind (run_l _ (run_val2 _ _ _)) (run_bind (run_l _ (run_val2 _ _ _)) (run_fin2 r l tile _ hr))

theorem run_pass2 (r : Fin 2 → FVec F S256x128 .bf16) (lo : List (Fin 2)) (g : BitVec 32) (tile : Fin 2) (hr : r tile = tileV X X' g tile) :
    Run c iprop(Ins c A X ∗ SS c sS (HasS X' g (eV X' g tile) (chunks (cd g))) ∗ SM c sM (HasM (allM X' g (eV X' g tile))) ∗ SO c a13 (HasO r lo))
      (pass2 A.a1 A.a4 A.a8 A.a9 A.a10 A.a11 A.a12 a13 h13 sS sM g tile) ⟨⟩
      iprop(Ins c A X ∗ SS c sS (HasS X' g (eV X' g tile) (chunks (cd g))) ∗ SM c sM (HasM (allM X' g (eV X' g tile))) ∗ SO c a13 (HasO r (tile :: lo))) := by
  unfold pass2
  generalize hS : SS c sS (HasS X' g (eV X' g tile) (chunks (cd g))) = S
  generalize hM : SM c sM (HasM (allM X' g (eV X' g tile))) = M
  have hmem := mem_chunks (cd g)
  have st := fun n => hS ▸ run_step2 (c := c) (sS := sS) (X' := X') g (eV X' g tile) (e2V X g (allM X' g (eV X' g tile))) (chunks (cd g)) n (hmem n)
  have nx := fun n s => hS ▸ run_next2 (c := c) (A := A) (X := X) (sS := sS) (X' := X') g (eV X' g tile) (e2V X g (allM X' g (eV X' g tile))) (chunks (cd g)) hmem n s
  refine run_bind (run_on iprop(S ∗ SO c a13 (HasO r lo)) (hM ▸ run_pre2 (A := A) (X := X) (sM := sM) g (allM X' g (eV X' g tile))) (by ac_rfl) rfl) ?_
  refine run_bind (run_on iprop(Ins c A X ∗ M ∗ SO c a13 (HasO r lo)) (st 0) (by ac_rfl) rfl) ?_
  refine run_bind (run_on iprop(Ins c A X ∗ M ∗ SO c a13 (HasO r lo)) (st 1) rfl rfl) ?_
  have lp := run_loop (c := c) (G := fun _ => iprop(Ins c A X ∗ S)) (fun i s _ => nx i s) [0, 1, 2, 3, 4, 5, 6, 7, 8, 9, 10, 11, 12, 13]
    ((acc0, acc0), pV X' g (eV X' g tile) (e2V X g (allM X' g (eV X' g tile))) 0, pV X' g (eV X' g tile) (e2V X g (allM X' g (eV X' g tile))) 1) []
  refine run_bind (run_on iprop(M ∗ SO c a13 (HasO r lo)) lp (by ac_rfl) rfl) ?_
  exact run_on iprop(S ∗ M) (run_end2 r lo tile _ hr) (by ac_rfl) (by ac_rfl)

/-! ## The passes interleaved -/

section Inter
variable (g g' : BitVec 32) (tile : Fin 2) (e1 : Q1 F) (e2 : Q2 F) (B U : sProp (MT nD τ sig Unit (Elt F) ℕ (UR sig nD τ) ℕ))

/-- The maxima before the last chunk. -/
def preM (e : Q1 F) : MM F :=
  ([8, 9, 10, 11, 12, 13] : List (Fin 15)).foldl (fun m i => nextM X g e i m)
    (ownM X g e (([0, 1, 2, 3, 4, 5, 6, 7] : List (Fin 15)).foldl (fun m i => nextM X g e i m) (m0, m0)))

theorem run_both (nx : ∀ n s, Run c iprop(Ins c A X ∗ B) (next2 A.a4 sS' g' e2 n s) (nextP X X' g' e1 e2 n s) iprop(Ins c A X ∗ B))
    (e : Q1 F) (l : List (Fin 16)) (L : List (Fin 14 × Fin 15)) (s : MM F × P2 F) :
    Run c iprop((Ins c A X ∗ SS c sS (HasS X g e l)) ∗ B ∗ U) (loop (both A.a3 A.a4 A.a5 sS sS' g g' e e2) L s)
      (L.foldl (fun s p => (nextM X g e p.2 s.1, nextP X X' g' e1 e2 p.1 s.2)) s)
      iprop((Ins c A X ∗ SS c sS (HasS X g e ((L.reverse.map fun p => other (cd g) p.2) ++ l))) ∗ B ∗ U) := by
  have h := run_loop (c := c) (f := both A.a3 A.a4 A.a5 sS sS' g g' e e2) (fp := fun p s => (nextM X g e p.2 s.1, nextP X X' g' e1 e2 p.1 s.2))
    (G := fun done => iprop((Ins c A X ∗ SS c sS (HasS X g e ((done.map fun p => other (cd g) p.2) ++ l))) ∗ B ∗ U))
    (fun p s done => by
      unfold both
      refine run_bind (run_on iprop(SS c sS (HasS X g e ((done.map fun p => other (cd g) p.2) ++ l)) ∗ U) (nx p.1 s.2) (by ac_rfl) rfl) ?_
      exact run_bind (run_on iprop(B ∗ U) (run_step1 (A := A) (X := X) (sS := sS) g e _ p.2 s.1) (by ac_rfl) (by ac_rfl)) (run_pure _)) L s []
  rw [List.append_nil] at h
  exact h

theorem run_half (r : Fin 2 → FVec F S256x128 .bf16) (lo : List (Fin 2)) (Φ : Vec F S2x4096x256 .f32 → Prop)
    (st : ∀ n, Run c B (step2 sS' g' e2 n) (pV X' g' e1 e2 n) B)
    (nx : ∀ n s, Run c iprop(Ins c A X ∗ B) (next2 A.a4 sS' g' e2 n s) (nextP X X' g' e1 e2 n s) iprop(Ins c A X ∗ B))
    (hr : r tile = rV X (allA X X' g' e1 e2)) :
    Run c iprop(Ins c A X ∗ SS c sS Φ ∗ B ∗ SO c a13 (HasO r lo))
      (half A.a1 A.a2 A.a3 A.a4 A.a5 A.a6 A.a7 A.a8 A.a9 A.a10 A.a11 A.a12 a13 h13 sS sS' g g' tile e2 (pV X' g' e1 e2 0))
      (eV X g tile, preM (X := X) g (eV X g tile))
      iprop(Ins c A X ∗ SS c sS (HasS X g (eV X g tile) (chunks (cd g)).tail) ∗ B ∗ SO c a13 (HasO r (tile :: lo))) := by
  unfold half
  refine run_conseq (P := iprop(Ins c A X ∗ SS c sS (HasS X g (eV X g tile) []) ∗ B ∗ SO c a13 (HasO r lo))) ?_
    (sep_mono_right (sep_mono_left (ss_nil g _ Φ))) (BIBase.Entails.rfl)
  refine run_bind (run_on iprop(Ins c A X ∗ SS c sS (HasS X g (eV X g tile) []) ∗ SO c a13 (HasO r lo)) (st 1) (by ac_rfl) rfl) ?_
  refine run_bind (run_on iprop(SS c sS (HasS X g (eV X g tile) []) ∗ B ∗ SO c a13 (HasO r lo)) (run_pre1 (X := X) g tile) (by ac_rfl) rfl) ?_
  refine run_bind (run_on iprop(B ∗ SO c a13 (HasO r lo)) (run_step1 (A := A) (X := X) (sS := sS) g _ [] 0 _) (by ac_rfl) rfl) ?_
  have nx' : ∀ (N U : sProp 𝕄) n s, Run c iprop((Ins c A X ∗ N) ∗ B ∗ U) (next2 A.a4 sS' g' e2 n s) (nextP X X' g' e1 e2 n s) iprop((Ins c A X ∗ N) ∗ B ∗ U) :=
    fun N U n s => run_on iprop(N ∗ U) (nx n s) (by ac_rfl) (by ac_rfl)
  have en : ∀ (N : sProp 𝕄) s, r tile = rV X (aV X 15 s.2.2 (aV X 14 s.2.1 s.1)) →
      Run c iprop((Ins c A X ∗ N) ∗ B ∗ SO c a13 (HasO r lo)) (end2 A.a4 A.a8 A.a9 A.a10 A.a11 A.a12 a13 h13 tile s) ⟨⟩
        iprop((Ins c A X ∗ N) ∗ B ∗ SO c a13 (HasO r (tile :: lo))) :=
    fun N s h => run_on iprop(N ∗ B) (run_end2 (A := A) (X := X) r lo tile s h) (by ac_rfl) (by ac_rfl)
  refine run_bind (run_both (X := X) (X' := X') g g' e1 e2 B (SO c a13 (HasO r lo)) nx _ _ _ _) ?_
  refine run_bind (nx' _ _ 7 _) ?_
  refine run_bind (run_l _ (run_own1 (A := A) (X := X) (sS := sS) g _ _ _)) ?_
  refine run_bind (run_both (X := X) (X' := X') g g' e1 e2 B (SO c a13 (HasO r lo)) nx _ _ _ _) ?_
  refine run_bind (nx' _ _ 13 _) ?_
  refine run_bind (en _ _ hr) ?_
  refine run_bind (run_l _ (run_step1 (A := A) (X := X) (sS := sS) g _ _ 13 _)) ?_
  exact run_conseq (run_pure _) BIBase.Entails.rfl (BI.sep_assoc)

/-- The interleaved passes of a group. `X` are the group's blocks, `X'` those of the group before. -/
theorem run_inner (sA sB sA' sB' : Memref sig .tc .vmem S2x4096x256 .f32) (mA mB mA' mB' : Memref sig .tc .vmem S2x8x256 .f32) (a a' : BitVec 32)
    (Φ Φ₂ : Vec F S2x4096x256 .f32 → Prop) (Ψ Ψ₂ : Vec F S2x8x256 .f32 → Prop) (r : Fin 2 → FVec F S256x128 .bf16)
    (hr0 : r 0 = tileV X X' (gW a' 0#32) 0) (hr1 : r 1 = tileV X X' (gW a' 1#32) 1) :
    Run c iprop(Ins c A X ∗ SS c sA Φ ∗ SM c mA Ψ ∗ SS c sB Φ₂ ∗ SM c mB Ψ₂
        ∗ SS c sA' (HasS X' (gW a' 0#32) (eV X' (gW a' 0#32) 0) (chunks (cd (gW a' 0#32)))) ∗ SM c mA' (HasM (allM X' (gW a' 0#32) (eV X' (gW a' 0#32) 0)))
        ∗ SS c sB' (HasS X' (gW a' 1#32) (eV X' (gW a' 1#32) 1) (chunks (cd (gW a' 1#32)))) ∗ SM c mB' (HasM (allM X' (gW a' 1#32) (eV X' (gW a' 1#32) 1)))
        ∗ SO c a13 (HasO r []))
      (inner A.a1 A.a2 A.a3 A.a4 A.a5 A.a6 A.a7 A.a8 A.a9 A.a10 A.a11 A.a12 a13 h13 sA sB sA' sB' mA mB mA' mB' a a') ⟨⟩
      iprop(Ins c A X ∗ SS c sA (HasS X (gW a 0#32) (eV X (gW a 0#32) 0) (chunks (cd (gW a 0#32)))) ∗ SM c mA (HasM (allM X (gW a 0#32) (eV X (gW a 0#32) 0)))
        ∗ SS c sB (HasS X (gW a 1#32) (eV X (gW a 1#32) 1) (chunks (cd (gW a 1#32)))) ∗ SM c mB (HasM (allM X (gW a 1#32) (eV X (gW a 1#32) 1)))
        ∗ SS c sA' (HasS X' (gW a' 0#32) (eV X' (gW a' 0#32) 0) (chunks (cd (gW a' 0#32)))) ∗ SM c mA' (HasM (allM X' (gW a' 0#32) (eV X' (gW a' 0#32) 0)))
        ∗ SS c sB' (HasS X' (gW a' 1#32) (eV X' (gW a' 1#32) 1) (chunks (cd (gW a' 1#32)))) ∗ SM c mB' (HasM (allM X' (gW a' 1#32) (eV X' (gW a' 1#32) 1)))
        ∗ SO c a13 (HasO r [1, 0])) := by
  unfold inner
  generalize gW a 0#32 = g at *
  generalize gW a 1#32 = k at *
  generalize gW a' 0#32 = g' at *
  generalize gW a' 1#32 = k' at *
  have st (sS' : Memref sig .tc .vmem S2x4096x256 .f32) (g' : BitVec 32) (tile : Fin 2) n :=
    run_step2 (c := c) (sS := sS') (X' := X') g' (eV X' g' tile) (e2V X g' (allM X' g' (eV X' g' tile))) (chunks (cd g')) n (mem_chunks (cd g') n)
  have nx (sS' : Memref sig .tc .vmem S2x4096x256 .f32) (g' : BitVec 32) (tile : Fin 2) n s :=
    run_next2 (c := c) (A := A) (X := X) (sS := sS') (X' := X') g' (eV X' g' tile) (e2V X g' (allM X' g' (eV X' g' tile))) (chunks (cd g')) (mem_chunks (cd g')) n s
  have pr (sM : Memref sig .tc .vmem S2x8x256 .f32) (g' : BitVec 32) (tile : Fin 2) :=
    run_pre2 (c := c) (A := A) (X := X) (sM := sM) g' (allM X' g' (eV X' g' tile))
  have hA := fun n => st sA' g' 0 n
  have hB := fun n => st sB' k' 1 n
  have nA := fun n s => nx sA' g' 0 n s
  have nB := fun n s => nx sB' k' 1 n s
  have pA := pr mA' g' 0
  have pB := pr mB' k' 1
  generalize SS c sA' (HasS X' g' (eV X' g' 0) (chunks (cd g'))) = SA' at *
  generalize SS c sB' (HasS X' k' (eV X' k' 1) (chunks (cd k'))) = SB' at *
  generalize SM c mA' (HasM (allM X' g' (eV X' g' 0))) = MA' at *
  generalize SM c mB' (HasM (allM X' k' (eV X' k' 1))) = MB' at *
  refine run_bind (run_on iprop(SS c sA Φ ∗ SM c mA Ψ ∗ SS c sB Φ₂ ∗ SM c mB Ψ₂ ∗ SA' ∗ SB' ∗ MB' ∗ SO c a13 (HasO r [])) pA (by ac_rfl) rfl) ?_
  refine run_bind (run_on iprop(Ins c A X ∗ SS c sA Φ ∗ SM c mA Ψ ∗ SS c sB Φ₂ ∗ SM c mB Ψ₂ ∗ MA' ∗ SB' ∗ MB' ∗ SO c a13 (HasO r [])) (hA 0) (by ac_rfl) rfl) ?_
  refine run_bind (run_on iprop(SM c mA Ψ ∗ SS c sB Φ₂ ∗ SM c mB Ψ₂ ∗ MA' ∗ SB' ∗ MB') (run_half (sS := sA) g g' 0 _ _ SA' r [] Φ hA nA hr0) (by ac_rfl) rfl) ?_
  refine run_bind (run_on iprop(SS c sA (HasS X g (eV X g 0) (chunks (cd g)).tail) ∗ SM c mA Ψ ∗ SS c sB Φ₂ ∗ SM c mB Ψ₂ ∗ SA' ∗ MA' ∗ SB' ∗ SO c a13 (HasO r [0])) pB (by ac_rfl) rfl) ?_
  refine run_bind (run_on iprop(Ins c A X ∗ SS c sA (HasS X g (eV X g 0) (chunks (cd g)).tail) ∗ SM c mA Ψ ∗ SS c sB Φ₂ ∗ SM c mB Ψ₂ ∗ SA' ∗ MA' ∗ MB' ∗ SO c a13 (HasO r [0])) (hB 0) (by ac_rfl) rfl) ?_
  refine run_bind (run_on iprop(SM c mA Ψ ∗ SS c sB Φ₂ ∗ SM c mB Ψ₂ ∗ SA' ∗ MA' ∗ SB' ∗ MB' ∗ SO c a13 (HasO r [0])) (run_step1 (A := A) (X := X) (sS := sA) g (eV X g 0) (chunks (cd g)).tail 14 _) (by ac_rfl) rfl) ?_
  change Run c iprop((Ins c A X ∗ SS c sA (HasS X g (eV X g 0) (chunks (cd g)))) ∗ _) _ _ _
  refine run_bind (run_on iprop(Ins c A X ∗ SS c sA (HasS X g (eV X g 0) (chunks (cd g))) ∗ SS c sB Φ₂ ∗ SM c mB Ψ₂ ∗ SA' ∗ MA' ∗ SB' ∗ MB' ∗ SO c a13 (HasO r [0])) (run_fin1 (sM := mA) Ψ (allM X g (eV X g 0))) (by ac_rfl) rfl) ?_
  refine run_bind (run_on iprop(SS c sA (HasS X g (eV X g 0) (chunks (cd g))) ∗ SM c mA (HasM (allM X g (eV X g 0))) ∗ SM c mB Ψ₂ ∗ SA' ∗ MA' ∗ MB') (run_half (sS := sB) k k' 1 _ _ SB' r [0] Φ₂ hB nB hr1) (by ac_rfl) rfl) ?_
  refine run_bind (run_on iprop(SS c sA (HasS X g (eV X g 0) (chunks (cd g))) ∗ SM c mA (HasM (allM X g (eV X g 0))) ∗ SM c mB Ψ₂ ∗ SA' ∗ MA' ∗ SB' ∗ MB' ∗ SO c a13 (HasO r [1, 0])) (run_step1 (A := A) (X := X) (sS := sB) k (eV X k 1) (chunks (cd k)).tail 14 _) (by ac_rfl) rfl) ?_
  change Run c iprop((Ins c A X ∗ SS c sB (HasS X k (eV X k 1) (chunks (cd k)))) ∗ _) _ _ _
  exact run_on iprop(Ins c A X ∗ SS c sA (HasS X g (eV X g 0) (chunks (cd g))) ∗ SM c mA (HasM (allM X g (eV X g 0))) ∗ SS c sB (HasS X k (eV X k 1) (chunks (cd k))) ∗ SA' ∗ MA' ∗ SB' ∗ MB' ∗ SO c a13 (HasO r [1, 0]))
    (run_fin1 (sM := mB) Ψ₂ (allM X k (eV X k 1))) (by ac_rfl) (by ac_rfl)

end Inter

end Cert.KernelIdeal.Attn
-- ==== Proof.Body.lean ====
/-
  The attention kernel's body at a grid point: the first pass of the point's group into one scratch set, and the second
  pass of the group before from the other.
-/
module

public import proofs.«01_k».proof.Proof.Passes

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The point's case -/

theorem cond1_iff : ∀ t : Fin grid0.N, k0_cond1 (grid0.coords t) = 1#1 ↔ t.val = 0 := by decide +kernel
theorem cond2_iff : ∀ t : Fin grid0.N, k0_cond2 (grid0.coords t) = 1#1 ↔ (0 < t.val ∧ t.val < 512 ∧ t.val % 2 = 0) := by decide +kernel
theorem cond3_iff : ∀ t : Fin grid0.N, k0_cond3 (grid0.coords t) = 1#1 ↔ t.val % 2 = 1 := by decide +kernel
theorem cond4_iff : ∀ t : Fin grid0.N, k0_cond4 (grid0.coords t) = 1#1 ↔ t.val = 512 := by decide +kernel
theorem coord_eq : ∀ t : Fin grid0.N, (grid0.coords t 0).val = t.val := by decide +kernel
theorem pred_eq : ∀ t : Fin grid0.N, 0 < t.val → Scalar.subi (BitVec.ofNat 32 t.val) 1#32 = BitVec.ofNat 32 (t.val - 1) := by decide +kernel

/-! ## A group's scratch set -/

/-- The word of a tile of group `k`. -/
def gw (k : ℕ) (tile : Fin 2) : BitVec 32 := gW (BitVec.ofNat 32 k) (BitVec.ofNat 32 tile.val)
/-- The scores of group `k`'s tiles, over the blocks of its first pass. -/
def gS (X : Blocks F) (k : ℕ) (tile : Fin 2) : Vec F S2x4096x256 .f32 → Prop :=
  HasS X (gw k tile) (eV X (gw k tile) tile) (chunks (cd (gw k tile)))
/-- Their maxima. -/
def gM (X : Blocks F) (k : ℕ) (tile : Fin 2) : Vec F S2x8x256 .f32 → Prop := HasM (allM X (gw k tile) (eV X (gw k tile) tile))
/-- The group's results. -/
def gR (X X' : Blocks F) (k : ℕ) (tile : Fin 2) : FVec F S256x128 .bf16 := tileV X X' (gw k tile) tile

/-- A scratch set: what the two tiles' arrays of scores and of maxima meet. -/
def Grp (c : Dev nD) (sA sB : Memref sig .tc .vmem S2x4096x256 .f32) (mA mB : Memref sig .tc .vmem S2x8x256 .f32)
    (Φ : Fin 2 → Vec F S2x4096x256 .f32 → Prop) (Ψ : Fin 2 → Vec F S2x8x256 .f32 → Prop) : sProp 𝕄 :=
  iprop(SS c sA (Φ 0) ∗ SM c mA (Ψ 0) ∗ SS c sB (Φ 1) ∗ SM c mB (Ψ 1))

theorem Grp_mono {c : Dev nD} {sA sB : Memref sig .tc .vmem S2x4096x256 .f32} {mA mB : Memref sig .tc .vmem S2x8x256 .f32}
    {Φ Φ' : Fin 2 → Vec F S2x4096x256 .f32 → Prop} {Ψ Ψ' : Fin 2 → Vec F S2x8x256 .f32 → Prop}
    (h : ∀ t Y, Φ t Y → Φ' t Y) (h' : ∀ t Y, Ψ t Y → Ψ' t Y) : Grp c sA sB mA mB Φ Ψ ⊢ Grp c sA sB mA mB Φ' Ψ' := by
  unfold Grp
  exact BI.sep_mono (ownsSat_mono _ _ _ (h 0)) (BI.sep_mono (ownsSat_mono _ _ _ (h' 0)) (BI.sep_mono (ownsSat_mono _ _ _ (h 1)) (ownsSat_mono _ _ _ (h' 1))))

variable {c : Dev nD} {A : Args} {X X' : Blocks F}
  {s0 s1 s2 s3 : Memref sig .tc .vmem S2x4096x256 .f32} {n0 n1 n2 n3 : Memref sig .tc .vmem S2x8x256 .f32}
  {a13 : Memref sig .tc .vmem S512x128 .bf16} {h13 : a13.IsWhole}
  (Φ : Fin 2 → Vec F S2x4096x256 .f32 → Prop) (Ψ : Fin 2 → Vec F S2x8x256 .f32 → Prop)

/-- The body on the bundled operands. -/
abbrev bodyA (A : Args) (a13 : Memref sig .tc .vmem S512x128 .bf16) (h13 : a13.IsWhole)
    (s0 s1 s2 s3 : Memref sig .tc .vmem S2x4096x256 .f32) (n0 n1 n2 n3 : Memref sig .tc .vmem S2x8x256 .f32) (i : grid0.Coords) : Pg F PUnit :=
  body i A.a1 A.a2 A.a3 A.a4 A.a5 A.a6 A.a7 A.a8 A.a9 A.a10 A.a11 A.a12 a13 h13 s0 s1 s2 s3 n0 n1 n2 n3

/-- Both passes of a grid point, the newer set first. -/
theorem run_inner_grp (k : ℕ) (a a' : BitVec 32) (ha : a = BitVec.ofNat 32 k) (ha' : a' = BitVec.ofNat 32 (k - 1)) :
    Run c iprop(Ins c A X ∗ Grp c s0 s1 n0 n1 Φ Ψ ∗ Grp c s2 s3 n2 n3 (gS X' (k - 1)) (gM X' (k - 1)) ∗ SO c a13 (fun _ => True))
      (inner A.a1 A.a2 A.a3 A.a4 A.a5 A.a6 A.a7 A.a8 A.a9 A.a10 A.a11 A.a12 a13 h13 s0 s1 s2 s3 n0 n1 n2 n3 a a') ⟨⟩
      iprop(Ins c A X ∗ Grp c s0 s1 n0 n1 (gS X k) (gM X k) ∗ Grp c s2 s3 n2 n3 (gS X' (k - 1)) (gM X' (k - 1)) ∗ SO c a13 (HasO (gR X X' (k - 1)) [1, 0])) := by
  subst ha; subst ha'
  have h := run_inner (c := c) (A := A) (X := X) (X' := X') (a13 := a13) (h13 := h13) s0 s1 s2 s3 n0 n1 n2 n3 (BitVec.ofNat 32 k) (BitVec.ofNat 32 (k - 1))
    (Φ 0) (Φ 1) (Ψ 0) (Ψ 1) (gR X X' (k - 1)) rfl rfl
  unfold Grp
  refine run_conseq h ?_ ?_
  · have e : SO c a13 (fun _ => True) ⊢ SO c a13 (HasO (gR X X' (k - 1)) []) := ownsSat_mono _ _ _ fun Y _ t ht => absurd ht (by simp)
    iintro ⟨H, ⟨Ha, Hb, Hc, Hd⟩, ⟨He, Hf, Hg, Hh⟩, HO⟩
    ihave HO := e $$ HO
    isplitl [H]; · iexact H
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    iexact HO
  · iintro ⟨H, Ha, Hb, Hc, Hd, He, Hf, Hg, Hh, HO⟩
    isplitl [H]; · iexact H
    isplitl [Ha Hb Hc Hd]
    · isplitl [Ha]; · iexact Ha
      isplitl [Hb]; · iexact Hb
      isplitl [Hc]; · iexact Hc
      iexact Hd
    isplitl [He Hf Hg Hh]
    · isplitl [He]; · iexact He
      isplitl [Hf]; · iexact Hf
      isplitl [Hg]; · iexact Hg
      iexact Hh
    iexact HO

variable (t : Fin grid0.N)

theorem run_first (ht : t.val = 0) :
    Run c iprop(Ins c A X ∗ Grp c s0 s1 n0 n1 Φ Ψ) (bodyA A a13 h13 s0 s1 s2 s3 n0 n1 n2 n3 (grid0.coords t)) ⟨⟩
      iprop(Ins c A X ∗ Grp c s0 s1 n0 n1 (gS X t.val) (gM X t.val)) := by
  unfold bodyA body Grp
  rw [coord_eq, if_pos ((cond1_iff t).2 ht), if_neg (mt (cond2_iff t).1 (by omega)), if_neg (mt (cond3_iff t).1 (by omega)), if_neg (mt (cond4_iff t).1 (by omega))]
  refine run_bind (run_on iprop(SS c s1 (Φ 1) ∗ SM c n1 (Ψ 1)) (run_pass1 (A := A) (X := X) (sS := s0) (sM := n0) _ 0 (Φ 0) (Ψ 0)) (by ac_rfl) rfl) ?_
  refine run_bind (v := ⟨⟩) (P' := iprop(Ins c A X ∗ SS c s0 (gS X t.val 0) ∗ SM c n0 (gM X t.val 0) ∗ SS c s1 (gS X t.val 1) ∗ SM c n1 (gM X t.val 1))) ?_ (run_pure _)
  exact run_on iprop(SS c s0 (gS X t.val 0) ∗ SM c n0 (gM X t.val 0)) (run_pass1 (A := A) (X := X) (sS := s1) (sM := n1) _ 1 (Φ 1) (Ψ 1))
    (show iprop((Ins c A X ∗ SS c s0 (gS X t.val 0) ∗ SM c n0 (gM X t.val 0)) ∗ SS c s1 (Φ 1) ∗ SM c n1 (Ψ 1)) = _ by ac_rfl)
    (show _ = iprop((Ins c A X ∗ SS c s1 (gS X t.val 1) ∗ SM c n1 (gM X t.val 1)) ∗ SS c s0 (gS X t.val 0) ∗ SM c n0 (gM X t.val 0)) by ac_rfl)

theorem run_even (ht : 0 < t.val ∧ t.val < 512 ∧ t.val % 2 = 0) :
    Run c iprop(Ins c A X ∗ Grp c s0 s1 n0 n1 Φ Ψ ∗ Grp c s2 s3 n2 n3 (gS X' (t.val - 1)) (gM X' (t.val - 1)) ∗ SO c a13 (fun _ => True))
      (bodyA A a13 h13 s0 s1 s2 s3 n0 n1 n2 n3 (grid0.coords t)) ⟨⟩
      iprop(Ins c A X ∗ Grp c s0 s1 n0 n1 (gS X t.val) (gM X t.val) ∗ Grp c s2 s3 n2 n3 (gS X' (t.val - 1)) (gM X' (t.val - 1)) ∗ SO c a13 (HasO (gR X X' (t.val - 1)) [1, 0])) := by
  unfold bodyA body
  rw [coord_eq, if_neg (mt (cond1_iff t).1 (by omega)), if_pos ((cond2_iff t).2 ht), if_neg (mt (cond3_iff t).1 (by omega)), if_neg (mt (cond4_iff t).1 (by omega))]
  exact run_bind (run_inner_grp Φ Ψ t.val _ _ rfl (pred_eq t ht.1)) (run_pure _)

theorem run_odd (ht : t.val % 2 = 1) :
    Run c iprop(Ins c A X ∗ Grp c s2 s3 n2 n3 Φ Ψ ∗ Grp c s0 s1 n0 n1 (gS X' (t.val - 1)) (gM X' (t.val - 1)) ∗ SO c a13 (fun _ => True))
      (bodyA A a13 h13 s0 s1 s2 s3 n0 n1 n2 n3 (grid0.coords t)) ⟨⟩
      iprop(Ins c A X ∗ Grp c s2 s3 n2 n3 (gS X t.val) (gM X t.val) ∗ Grp c s0 s1 n0 n1 (gS X' (t.val - 1)) (gM X' (t.val - 1)) ∗ SO c a13 (HasO (gR X X' (t.val - 1)) [1, 0])) := by
  unfold bodyA body
  rw [coord_eq, if_neg (mt (cond1_iff t).1 (by omega)), if_neg (mt (cond2_iff t).1 (by omega)), if_pos ((cond3_iff t).2 ht), if_neg (mt (cond4_iff t).1 (by omega))]
  exact run_bind (run_inner_grp Φ Ψ t.val _ _ rfl (pred_eq t (by omega))) (run_pure _)

theorem run_last (ht : t.val = 512) :
    Run c iprop(Ins c A X ∗ Grp c s2 s3 n2 n3 (gS X' (t.val - 1)) (gM X' (t.val - 1)) ∗ SO c a13 (fun _ => True))
      (bodyA A a13 h13 s0 s1 s2 s3 n0 n1 n2 n3 (grid0.coords t)) ⟨⟩
      iprop(Ins c A X ∗ Grp c s2 s3 n2 n3 (gS X' (t.val - 1)) (gM X' (t.val - 1)) ∗ SO c a13 (HasO (gR X X' (t.val - 1)) [1, 0])) := by
  unfold bodyA body
  rw [coord_eq, if_neg (mt (cond1_iff t).1 (by omega)), if_neg (mt (cond2_iff t).1 (by omega)), if_neg (mt (cond3_iff t).1 (by omega)), if_pos ((cond4_iff t).2 ht)]
  rw [pred_eq t (by omega)]
  generalize t.val - 1 = k
  have h0 := run_pass2 (c := c) (A := A) (X := X) (X' := X') (sS := s2) (sM := n2) (a13 := a13) (h13 := h13) (gR X X' k) [] (gW (BitVec.ofNat 32 k) 0#32) 0 rfl
  have h1 := run_pass2 (c := c) (A := A) (X := X) (X' := X') (sS := s3) (sM := n3) (a13 := a13) (h13 := h13) (gR X X' k) [0] (gW (BitVec.ofNat 32 k) 1#32) 1 rfl
  change Run c iprop(Ins c A X ∗ SS c s2 (gS X' k 0) ∗ SM c n2 (gM X' k 0) ∗ _) _ _ iprop(Ins c A X ∗ SS c s2 (gS X' k 0) ∗ SM c n2 (gM X' k 0) ∗ _) at h0
  change Run c iprop(Ins c A X ∗ SS c s3 (gS X' k 1) ∗ SM c n3 (gM X' k 1) ∗ _) _ _ iprop(Ins c A X ∗ SS c s3 (gS X' k 1) ∗ SM c n3 (gM X' k 1) ∗ _) at h1
  refine run_conseq (run_bind
    (run_on iprop(SS c s3 (gS X' k 1) ∗ SM c n3 (gM X' k 1)) h0 (G := iprop(Ins c A X ∗ (SS c s2 (gS X' k 0) ∗ SM c n2 (gM X' k 0) ∗ SS c s3 (gS X' k 1) ∗ SM c n3 (gM X' k 1)) ∗ SO c a13 (HasO (gR X X' k) []))) (by ac_rfl) rfl)
    (run_on iprop(SS c s2 (gS X' k 0) ∗ SM c n2 (gM X' k 0)) h1 (G' := iprop(Ins c A X ∗ (SS c s2 (gS X' k 0) ∗ SM c n2 (gM X' k 0) ∗ SS c s3 (gS X' k 1) ∗ SM c n3 (gM X' k 1)) ∗ SO c a13 (HasO (gR X X' k) [1, 0]))) (by ac_rfl) (by ac_rfl)))
    (sep_mono_right (sep_mono_right (ownsSat_mono _ _ _ fun Y _ t ht => absurd ht (by simp)))) BIBase.Entails.rfl

end Cert.KernelIdeal.Attn
-- ==== Proof.SameText.lean ====
/-
  The kernel's body as printed is the program of steps.
-/
module

public import proofs.«01_k».proof.Proof.Steps
public import Idealize.ShloMosaic.Lib.Tactic

@[expose] public section

set_option maxRecDepth 16384

noncomputable section

namespace Cert.KernelIdeal.Attn

open Idealize.ShloMosaic Idealize.SL.Sem
open Cert.KernelIdeal.Gen
open Idealize.ShloMosaic.Tactic

variable {F : FTy → Type} [FloatOps F]

theorem body_eq (i : grid0.Coords) (a1 : Memref sig .tc .smem S8 .f32) (w1 : a1.IsWhole) (a2 : Memref sig .tc .vmem S128x512 .bf16) (w2 : a2.IsWhole)
    (a3 : Memref sig .tc .vmem S4096x128 .bf16) (w3 : a3.IsWhole) (a4 : Memref sig .tc .vmem S144x4096 .bf16) (w4 : a4.IsWhole)
    (a5 : Memref sig .tc .vmem S2x256x128 .bf16) (w5 : a5.IsWhole)
    (a6 : Memref sig .tc .vmem S1x128x256 .bf16) (w6 : a6.IsWhole) (a7 : Memref sig .tc .vmem S1x1x256x256 .f32) (w7 : a7.IsWhole)
    (a8 : Memref sig .tc .vmem S1x64 .f32) (w8 : a8.IsWhole) (a9 : Memref sig .tc .vmem S1x64 .f32) (w9 : a9.IsWhole)
    (a10 : Memref sig .tc .vmem S1x64 .f32) (w10 : a10.IsWhole) (a11 : Memref sig .tc .vmem S1x64 .f32) (w11 : a11.IsWhole)
    (a12 : Memref sig .tc .vmem S1x128 .f32) (w12 : a12.IsWhole)
    (a13 : Memref sig .tc .vmem S512x128 .bf16) (w13 : a13.IsWhole)
    (s0 : Memref sig .tc .vmem S2x4096x256 .f32) (w14 : s0.IsWhole) (s1 : Memref sig .tc .vmem S2x4096x256 .f32) (w15 : s1.IsWhole)
    (s2 : Memref sig .tc .vmem S2x4096x256 .f32) (w16 : s2.IsWhole) (s3 : Memref sig .tc .vmem S2x4096x256 .f32) (w17 : s3.IsWhole)
    (n0 : Memref sig .tc .vmem S2x8x256 .f32) (w18 : n0.IsWhole) (n1 : Memref sig .tc .vmem S2x8x256 .f32) (w19 : n1.IsWhole)
    (n2 : Memref sig .tc .vmem S2x8x256 .f32) (w20 : n2.IsWhole) (n3 : Memref sig .tc .vmem S2x8x256 .f32) (w21 : n3.IsWhole) :
    cc0_diff_attn (F := F) i a1 w1 a2 w2 a3 w3 a4 w4 a5 w5 a6 w6 a7 w7 a8 w8 a9 w9 a10 w10 a11 w11 a12 w12 a13 w13 s0 w14 s1 w15 s2 w16 s3 w17 n0 w18 n1 w19 n2 w20 n3 w21
      = body i a1 a2 a3 a4 a5 a6 a7 a8 a9 a10 a11 a12 a13 w13 s0 s1 s2 s3 n0 n1 n2 n3 := by
  sl_kernel_rfl

end Cert.KernelIdeal.Attn
-- ==== Proof.Setup.lean ====
/-
  The attention kernel's pipeline: the proof data, and the body's run at each grid point between two of its states.
-/
module

public import proofs.«01_k».proof.Proof.Body
public import proofs.«01_k».proof.Proof.SameText
public import proofs.«01_k».proof.Proof.Gen.KernelIdeal.Frame
public import Idealize.ShloMosaic.Lib.Pipeline.Quiescent

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The blocks at a point -/

/-- The operands' blocks at a grid point. -/
def Xb (t : Fin cfg0.N) : Blocks F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t

/-- The point before. -/
def prev (t : Fin cfg0.N) : Fin cfg0.N := ⟨t.val - 1, lt_of_le_of_lt (Nat.sub_le _ _) t.isLt⟩

/-- The result's block of two tiles. -/
def glue (r : Fin 2 → FVec F S256x128 .bf16) : Vec F S512x128 .bf16 := fun y =>
  if h : (y 0).val < 256 then r 0 (fun | 0 => ⟨(y 0).val, h⟩ | 1 => y 1)
  else r 1 (fun | 0 => ⟨(y 0).val - 256, show _ < 256 by have h2 : (y 0).val < 512 := (y 0).isLt; omega⟩ | 1 => y 1)

theorem hasO_glue {r : Fin 2 → FVec F S256x128 .bf16} {Y : Vec F S512x128 .bf16} (h : HasO r [1, 0] Y) : Y = glue r := by
  have h0 := h 0 (by simp)
  have h1 := h 1 (by simp)
  funext y
  unfold glue
  split
  · rename_i hy
    rw [← h0]
    unfold cut
    congr 1
    funext a
    apply Fin.ext
    rw [Rect.idx_unit_val]
    match a with
    | 0 => change (y 0).val = 256 * 0 + (y 0).val; omega
    | 1 => change (y 1).val = 0 + (y 1).val; omega
  · rename_i hy
    rw [← h1]
    unfold cut
    congr 1
    funext a
    apply Fin.ext
    rw [Rect.idx_unit_val]
    match a with
    | 0 => change (y 0).val = 256 * 1 + ((y 0).val - 256); omega
    | 1 => change (y 1).val = 0 + (y 1).val; omega

/-- The result's block at a grid point: the tiles of the group before. -/
def outV (t : Fin cfg0.N) : Vec F S512x128 .bf16 := glue (gR (Xb m c t) (Xb m c (prev t)) (t.val - 1))

/-! ## The scratch sets between the points -/

/-- After `n` points, set `b` holds the scores of the last point's group if they went there. -/
def PS (b n : ℕ) (tile : Fin 2) (Y : Vec F S2x4096x256 .f32) : Prop :=
  ∀ k : Fin cfg0.N, k.val < 512 → k.val + 1 = n → k.val % 2 = b → gS (Xb m c k) k.val tile Y
/-- The same of the maxima. -/
def PM (b n : ℕ) (tile : Fin 2) (Y : Vec F S2x8x256 .f32) : Prop :=
  ∀ k : Fin cfg0.N, k.val < 512 → k.val + 1 = n → k.val % 2 = b → gM (Xb m c k) k.val tile Y

/-- Scratch set 0 and scratch set 1. -/
abbrev Set0 (Φ : Fin 2 → Vec F S2x4096x256 .f32 → Prop) (Ψ : Fin 2 → Vec F S2x8x256 .f32 → Prop) : sProp 𝕄 :=
  Grp c (Memref.whole cc0_scratch0) (Memref.whole cc0_scratch1) (Memref.whole cc0_scratch4) (Memref.whole cc0_scratch5) Φ Ψ
abbrev Set1 (Φ : Fin 2 → Vec F S2x4096x256 .f32 → Prop) (Ψ : Fin 2 → Vec F S2x8x256 .f32 → Prop) : sProp 𝕄 :=
  Grp c (Memref.whole cc0_scratch2) (Memref.whole cc0_scratch3) (Memref.whole cc0_scratch6) (Memref.whole cc0_scratch7) Φ Ψ

/-- The scratch sets after `n` points. -/
def Scr (n : ℕ) : sProp 𝕄 := iprop(Set0 c (PS m c 0 n) (PM m c 0 n) ∗ Set1 c (PS m c 1 n) (PM m c 1 n))

variable {m c}

theorem ps_of {b : ℕ} {t : Fin cfg0.N} {tile : Fin 2} {Y : Vec F S2x4096x256 .f32} (h : gS (Xb m c t) t.val tile Y) : PS m c b (t.val + 1) tile Y := by
  intro k _ hk _
  obtain rfl : k = t := Fin.ext (by omega)
  exact h
theorem pm_of {b : ℕ} {t : Fin cfg0.N} {tile : Fin 2} {Y : Vec F S2x8x256 .f32} (h : gM (Xb m c t) t.val tile Y) : PM m c b (t.val + 1) tile Y := by
  intro k _ hk _
  obtain rfl : k = t := Fin.ext (by omega)
  exact h
theorem ps_not {b : ℕ} {t : Fin cfg0.N} {tile : Fin 2} {Y : Vec F S2x4096x256 .f32} (h : t.val = 512 ∨ t.val % 2 ≠ b) : PS m c b (t.val + 1) tile Y := by
  intro k hk hk' hb
  omega
theorem pm_not {b : ℕ} {t : Fin cfg0.N} {tile : Fin 2} {Y : Vec F S2x8x256 .f32} (h : t.val = 512 ∨ t.val % 2 ≠ b) : PM m c b (t.val + 1) tile Y := by
  intro k hk hk' hb
  omega
theorem ps_get {b : ℕ} {t : Fin cfg0.N} (ht : 0 < t.val) (hb : (t.val - 1) % 2 = b) {tile : Fin 2} {Y : Vec F S2x4096x256 .f32} (h : PS m c b t.val tile Y) :
    gS (Xb m c (prev t)) (t.val - 1) tile Y := by
  have hN : t.val < 513 := t.isLt
  exact h (prev t) (show t.val - 1 < 512 by omega) (show t.val - 1 + 1 = t.val by omega) hb
theorem pm_get {b : ℕ} {t : Fin cfg0.N} (ht : 0 < t.val) (hb : (t.val - 1) % 2 = b) {tile : Fin 2} {Y : Vec F S2x8x256 .f32} (h : PM m c b t.val tile Y) :
    gM (Xb m c (prev t)) (t.val - 1) tile Y := by
  have hN : t.val < 513 := t.isLt
  exact h (prev t) (show t.val - 1 < 512 by omega) (show t.val - 1 + 1 = t.val by omega) hb

section Sets
variable {b : ℕ} {t : Fin cfg0.N} {sA sB : Memref sig .tc .vmem S2x4096x256 .f32} {mA mB : Memref sig .tc .vmem S2x8x256 .f32}
  {Φ : Fin 2 → Vec F S2x4096x256 .f32 → Prop} {Ψ : Fin 2 → Vec F S2x8x256 .f32 → Prop}

theorem grp_get (ht : 0 < t.val) (hb : (t.val - 1) % 2 = b) : Grp c sA sB mA mB (PS m c b t.val) (PM m c b t.val)
    ⊢ Grp c sA sB mA mB (gS (Xb m c (prev t)) (t.val - 1)) (gM (Xb m c (prev t)) (t.val - 1)) :=
  Grp_mono (fun _ _ h => ps_get ht hb h) (fun _ _ h => pm_get ht hb h)
theorem grp_new : Grp c sA sB mA mB (gS (Xb m c t) t.val) (gM (Xb m c t) t.val) ⊢ Grp c sA sB mA mB (PS m c b (t.val + 1)) (PM m c b (t.val + 1)) :=
  Grp_mono (fun _ _ h => ps_of h) (fun _ _ h => pm_of h)
theorem grp_old (h : t.val = 512 ∨ t.val % 2 ≠ b) : Grp c sA sB mA mB Φ Ψ ⊢ Grp c sA sB mA mB (PS m c b (t.val + 1)) (PM m c b (t.val + 1)) :=
  Grp_mono (fun _ _ _ => ps_not h) (fun _ _ _ => pm_not h)

end Sets

/-! ## A point's run -/

variable (A : Args) (a13 : Memref sig .tc .vmem S512x128 .bf16) (h13 : a13.IsWhole) (t : Fin cfg0.N)

/-- The body at a grid point, on the scratch buffers. -/
abbrev bodyS : Pg F PUnit :=
  bodyA A a13 h13 (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7) (grid0.coords t)

theorem point_first (ht : t.val = 0) :
    Run c iprop(Ins c A (Xb m c t) ∗ Scr m c t.val) (bodyS A a13 h13 t) ⟨⟩ iprop(Ins c A (Xb m c t) ∗ Scr m c (t.val + 1)) := by
  unfold Scr
  refine run_conseq (run_frame (Set1 c (PS m c 1 t.val) (PM m c 1 t.val)) (run_first (c := c) (A := A) (X := Xb m c t) (a13 := a13) (h13 := h13)
    (s0 := Memref.whole cc0_scratch0) (s1 := Memref.whole cc0_scratch1) (s2 := Memref.whole cc0_scratch2) (s3 := Memref.whole cc0_scratch3)
    (n0 := Memref.whole cc0_scratch4) (n1 := Memref.whole cc0_scratch5) (n2 := Memref.whole cc0_scratch6) (n3 := Memref.whole cc0_scratch7)
    (PS m c 0 t.val) (PM m c 0 t.val) t ht)) BI.sep_assoc' ?_
  refine BIBase.Entails.trans BI.sep_assoc (sep_mono_right (BI.sep_mono (Grp_mono (fun _ _ h => ps_of h) (fun _ _ h => pm_of h)) (Grp_mono ?_ ?_)))
  · exact fun _ _ _ => ps_not (by omega)
  · exact fun _ _ _ => pm_not (by omega)

theorem point_later (ht : t.val ≠ 0) :
    Run c iprop(Ins c A (Xb m c t) ∗ Scr m c t.val ∗ SO c a13 (fun _ => True)) (bodyS A a13 h13 t) ⟨⟩
      iprop(Ins c A (Xb m c t) ∗ Scr m c (t.val + 1) ∗ SO c a13 (· = outV m c t)) := by
  have hN : t.val < 513 := t.isLt
  have hO : SO (F := F) c a13 (HasO (gR (Xb m c t) (Xb m c (prev t)) (t.val - 1)) [1, 0]) ⊢ SO c a13 (· = outV m c t) := ownsSat_mono _ _ _ fun Y h => hasO_glue h
  unfold Scr
  by_cases hl : t.val = 512
  · refine run_conseq (run_frame (Set0 c (PS m c 0 t.val) (PM m c 0 t.val)) (run_last (c := c) (A := A) (X := Xb m c t) (X' := Xb m c (prev t)) (a13 := a13) (h13 := h13)
      (s0 := Memref.whole cc0_scratch0) (s1 := Memref.whole cc0_scratch1) (s2 := Memref.whole cc0_scratch2) (s3 := Memref.whole cc0_scratch3)
      (n0 := Memref.whole cc0_scratch4) (n1 := Memref.whole cc0_scratch5) (n2 := Memref.whole cc0_scratch6) (n3 := Memref.whole cc0_scratch7) t hl)) ?_ ?_
    · iintro ⟨HI, ⟨H0, H1⟩, HO⟩
      ihave H1 := (grp_get (by omega) (by omega)) $$ H1
      isplitl [HI H1 HO]
      · isplitl [HI]; · iexact HI
        isplitl [H1]; · iexact H1
        iexact HO
      iexact H0
    · iintro ⟨⟨HI, H1, HO⟩, H0⟩
      ihave H1 := (grp_old (m := m) (b := 1) (Or.inl hl)) $$ H1
      ihave H0 := (grp_old (m := m) (b := 0) (Or.inl hl)) $$ H0
      ihave HO := hO $$ HO
      isplitl [HI]; · iexact HI
      isplitl [H0 H1]
      · isplitl [H0]; · iexact H0
        iexact H1
      iexact HO
  by_cases ho : t.val % 2 = 1
  · refine run_conseq (run_odd (c := c) (A := A) (X := Xb m c t) (X' := Xb m c (prev t)) (a13 := a13) (h13 := h13)
      (s0 := Memref.whole cc0_scratch0) (s1 := Memref.whole cc0_scratch1) (s2 := Memref.whole cc0_scratch2) (s3 := Memref.whole cc0_scratch3)
      (n0 := Memref.whole cc0_scratch4) (n1 := Memref.whole cc0_scratch5) (n2 := Memref.whole cc0_scratch6) (n3 := Memref.whole cc0_scratch7)
      (PS m c 1 t.val) (PM m c 1 t.val) t ho) ?_ ?_
    · iintro ⟨HI, ⟨H0, H1⟩, HO⟩
      ihave H0 := (grp_get (by omega) (by omega)) $$ H0
      isplitl [HI]; · iexact HI
      isplitl [H1]; · iexact H1
      isplitl [H0]; · iexact H0
      iexact HO
    · iintro ⟨HI, H1, H0, HO⟩
      ihave H1 := (grp_new (b := 1)) $$ H1
      ihave H0 := (grp_old (m := m) (b := 0) (t := t) (Or.inr (by omega))) $$ H0
      ihave HO := hO $$ HO
      isplitl [HI]; · iexact HI
      isplitl [H0 H1]
      · isplitl [H0]; · iexact H0
        iexact H1
      iexact HO
  · refine run_conseq (run_even (c := c) (A := A) (X := Xb m c t) (X' := Xb m c (prev t)) (a13 := a13) (h13 := h13)
      (s0 := Memref.whole cc0_scratch0) (s1 := Memref.whole cc0_scratch1) (s2 := Memref.whole cc0_scratch2) (s3 := Memref.whole cc0_scratch3)
      (n0 := Memref.whole cc0_scratch4) (n1 := Memref.whole cc0_scratch5) (n2 := Memref.whole cc0_scratch6) (n3 := Memref.whole cc0_scratch7)
      (PS m c 0 t.val) (PM m c 0 t.val) t (by omega)) ?_ ?_
    · iintro ⟨HI, ⟨H0, H1⟩, HO⟩
      ihave H1 := (grp_get (by omega) (by omega)) $$ H1
      isplitl [HI]; · iexact HI
      isplitl [H0]; · iexact H0
      isplitl [H1]; · iexact H1
      iexact HO
    · iintro ⟨HI, H0, H1, HO⟩
      ihave H1 := (grp_old (m := m) (b := 1) (t := t) (Or.inr (by omega))) $$ H1
      ihave H0 := (grp_new (b := 0)) $$ H0
      ihave HO := hO $$ HO
      isplitl [HI]; · iexact HI
      isplitl [H0 H1]
      · isplitl [H0]; · iexact H0
        iexact H1
      iexact HO

/-! ## The pipeline's proof data -/

variable (m c)

/-- The arrays as the region finds them; after the body each input's buffer at its block and the result's at `outV`; the
    invariant the scratch sets and the generator's register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outV m c t
  Φ t := iprop(Scr m c t.val ∗ ∃ r, prngReg c r)
  q _ := fullShare
  owed _ := 0

theorem A_eq (w : Fin cfg0.W) : (dats m 0 c).A w = V m c (Pipeline.arrRef spec0 w) := rfl
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = iblk m c 8 t := by dsimp only [dats]
theorem after0_9 (t : Fin cfg0.N) : (dats m 0 c).after 9 t = iblk m c 9 t := by dsimp only [dats]
theorem after0_10 (t : Fin cfg0.N) : (dats m 0 c).after 10 t = iblk m c 10 t := by dsimp only [dats]
theorem after0_11 (t : Fin cfg0.N) : (dats m 0 c).after 11 t = iblk m c 11 t := by dsimp only [dats]
theorem after0_12 (t : Fin cfg0.N) : (dats m 0 c).after 12 t = outV m c t := by dsimp only [dats]

theorem before0_0 (t : Fin cfg0.N) (d) : (dats m 0 c).before 0 t d = iblk m c 0 t := before0_0_of m (dats m 0 c) (A_eq m c 0) (after0_0 m c) t d
theorem before0_1 (t : Fin cfg0.N) (d) : (dats m 0 c).before 1 t d = iblk m c 1 t := before0_1_of m (dats m 0 c) (A_eq m c 1) (after0_1 m c) t d
theorem before0_2 (t : Fin cfg0.N) (d) : (dats m 0 c).before 2 t d = iblk m c 2 t := before0_2_of m (dats m 0 c) (A_eq m c 2) (after0_2 m c) t d
theorem before0_3 (t : Fin cfg0.N) (d) : (dats m 0 c).before 3 t d = iblk m c 3 t := before0_3_of m (dats m 0 c) (A_eq m c 3) (after0_3 m c) t d
theorem before0_4 (t : Fin cfg0.N) (d) : (dats m 0 c).before 4 t d = iblk m c 4 t := before0_4_of m (dats m 0 c) (A_eq m c 4) (after0_4 m c) t d
theorem before0_5 (t : Fin cfg0.N) (d) : (dats m 0 c).before 5 t d = iblk m c 5 t := before0_5_of m (dats m 0 c) (A_eq m c 5) (after0_5 m c) t d
theorem before0_6 (t : Fin cfg0.N) (d) : (dats m 0 c).before 6 t d = iblk m c 6 t := before0_6_of m (dats m 0 c) (A_eq m c 6) (after0_6 m c) t d
theorem before0_7 (t : Fin cfg0.N) (d) : (dats m 0 c).before 7 t d = iblk m c 7 t := before0_7_of m (dats m 0 c) (A_eq m c 7) (after0_7 m c) t d
theorem before0_8 (t : Fin cfg0.N) (d) : (dats m 0 c).before 8 t d = iblk m c 8 t := before0_8_of m (dats m 0 c) (A_eq m c 8) (after0_8 m c) t d
theorem before0_9 (t : Fin cfg0.N) (d) : (dats m 0 c).before 9 t d = iblk m c 9 t := before0_9_of m (dats m 0 c) (A_eq m c 9) (after0_9 m c) t d
theorem before0_10 (t : Fin cfg0.N) (d) : (dats m 0 c).before 10 t d = iblk m c 10 t := before0_10_of m (dats m 0 c) (A_eq m c 10) (after0_10 m c) t d
theorem before0_11 (t : Fin cfg0.N) (d) : (dats m 0 c).before 11 t d = iblk m c 11 t := before0_11_of m (dats m 0 c) (A_eq m c 11) (after0_11 m c) t d

theorem phi_cast (t : Fin cfg0.N) : (dats m 0 c).Φ t.castSucc = iprop(Scr m c t.val ∗ ∃ r, prngReg c r) := by dsimp only [dats]; rfl
theorem phi_succ (t : Fin cfg0.N) : (dats m 0 c).Φ t.succ = iprop(Scr m c (t.val + 1) ∗ ∃ r, prngReg c r) := by dsimp only [dats]; rfl

/-- The result's window is idle at the first point only, and is not written back there. -/
theorem idle12 : ∀ t : Fin grid0.N, idle0 12 (grid0.coords t) = decide (t.val = 0) := by decide +kernel
theorem flush12 : ∀ t : Fin grid0.N, t.val = 0 → win0_12.flush t = false := by decide +kernel

/-- The staging memrefs of the operands at a point. -/
abbrev argsAt (t : Fin cfg0.N) : Args :=
  ⟨stage0_0 (cfg0.slots t 0), stage0_1 (cfg0.slots t 1), stage0_2 (cfg0.slots t 2), stage0_3 (cfg0.slots t 3), stage0_4 (cfg0.slots t 4),
    stage0_5 (cfg0.slots t 5), stage0_6 (cfg0.slots t 6), stage0_7 (cfg0.slots t 7), stage0_8 (cfg0.slots t 8), stage0_9 (cfg0.slots t 9),
    stage0_10 (cfg0.slots t 10), stage0_11 (cfg0.slots t 11)⟩

/-! ## The body obligation -/

theorem run_wp {P P' : sProp (MT nD τ sig Unit (Elt F) ℕ (UR sig nD τ) ℕ)} {p : Pg F PUnit} (h : Run c P p ⟨⟩ P') :
    P ⊢ wp frame (wpE (defs₀ (F := F)) 𝒱₀ (c : Thread nD τ) none) Set.univ p (fun _ => P') := by
  refine BIBase.Entails.trans h (wp_mono _ _ _ fun _ => ?_)
  iintro ⟨-, H⟩
  iexact H

section Shape
variable {S S' P O U U' R H0 H1 H2 H3 H4 H5 H6 H7 H8 H9 H10 H11 : sProp (MT nD τ sig Unit (Elt F) ℕ (UR sig nD τ) ℕ)} {D0 D1 D2 D3 D4 D5 D6 D7 D8 D9 D10 D11 : Type} {p : Pg F PUnit}

/-- The shape of the obligation where the result's window is idle. -/
theorem obl_first (h : Run c iprop((H0 ∗ H1 ∗ H2 ∗ H3 ∗ H4 ∗ H5 ∗ H6 ∗ H7 ∗ H8 ∗ H9 ∗ H10 ∗ H11) ∗ S) p ⟨⟩ iprop((H0 ∗ H1 ∗ H2 ∗ H3 ∗ H4 ∗ H5 ∗ H6 ∗ H7 ∗ H8 ∗ H9 ∗ H10 ∗ H11) ∗ S')) :
    iprop((S ∗ P) ∗ O ∗ (∃ _ : D0, H0) ∗ (∃ _ : D1, H1) ∗ (∃ _ : D2, H2) ∗ (∃ _ : D3, H3) ∗ (∃ _ : D4, H4) ∗ (∃ _ : D5, H5) ∗ (∃ _ : D6, H6) ∗ (∃ _ : D7, H7) ∗ (∃ _ : D8, H8) ∗ (∃ _ : D9, H9) ∗ (∃ _ : D10, H10) ∗ (∃ _ : D11, H11) ∗ R)
      ⊢ wp frame (wpE (defs₀ (F := F)) 𝒱₀ (c : Thread nD τ) none) Set.univ p (fun _ => iprop((S' ∗ P) ∗ O ∗ H0 ∗ H1 ∗ H2 ∗ H3 ∗ H4 ∗ H5 ∗ H6 ∗ H7 ∗ H8 ∗ H9 ∗ H10 ∗ H11 ∗ R)) := by
  refine run_wp c (run_conseq (run_frame iprop(P ∗ O ∗ R) h) ?_ ?_)
  · iintro ⟨⟨HS, HP⟩, Ho, ⟨%d0, K0⟩, ⟨%d1, K1⟩, ⟨%d2, K2⟩, ⟨%d3, K3⟩, ⟨%d4, K4⟩, ⟨%d5, K5⟩, ⟨%d6, K6⟩, ⟨%d7, K7⟩, ⟨%d8, K8⟩, ⟨%d9, K9⟩, ⟨%d10, K10⟩, ⟨%d11, K11⟩, HR⟩
    isplitl [HS K0 K1 K2 K3 K4 K5 K6 K7 K8 K9 K10 K11]
    · isplitl [K0 K1 K2 K3 K4 K5 K6 K7 K8 K9 K10 K11]
      · isplitl [K0]; · iexact K0
        isplitl [K1]; · iexact K1
        isplitl [K2]; · iexact K2
        isplitl [K3]; · iexact K3
        isplitl [K4]; · iexact K4
        isplitl [K5]; · iexact K5
        isplitl [K6]; · iexact K6
        isplitl [K7]; · iexact K7
        isplitl [K8]; · iexact K8
        isplitl [K9]; · iexact K9
        isplitl [K10]; · iexact K10
        iexact K11
      iexact HS
    isplitl [HP]; · iexact HP
    isplitl [Ho]; · iexact Ho
    iexact HR
  · iintro ⟨⟨⟨K0, K1, K2, K3, K4, K5, K6, K7, K8, K9, K10, K11⟩, HS⟩, HP, Ho, HR⟩
    isplitl [HS HP]
    · isplitl [HS]; · iexact HS
      iexact HP
    isplitl [Ho]; · iexact Ho
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    iexact HR

/-- The shape of the obligation where the body writes the result's block. -/
theorem obl_later (h : Run c iprop((H0 ∗ H1 ∗ H2 ∗ H3 ∗ H4 ∗ H5 ∗ H6 ∗ H7 ∗ H8 ∗ H9 ∗ H10 ∗ H11) ∗ S ∗ U) p ⟨⟩ iprop((H0 ∗ H1 ∗ H2 ∗ H3 ∗ H4 ∗ H5 ∗ H6 ∗ H7 ∗ H8 ∗ H9 ∗ H10 ∗ H11) ∗ S' ∗ U')) (hu : R ⊢ U) :
    iprop((S ∗ P) ∗ O ∗ (∃ _ : D0, H0) ∗ (∃ _ : D1, H1) ∗ (∃ _ : D2, H2) ∗ (∃ _ : D3, H3) ∗ (∃ _ : D4, H4) ∗ (∃ _ : D5, H5) ∗ (∃ _ : D6, H6) ∗ (∃ _ : D7, H7) ∗ (∃ _ : D8, H8) ∗ (∃ _ : D9, H9) ∗ (∃ _ : D10, H10) ∗ (∃ _ : D11, H11) ∗ R)
      ⊢ wp frame (wpE (defs₀ (F := F)) 𝒱₀ (c : Thread nD τ) none) Set.univ p (fun _ => iprop((S' ∗ P) ∗ O ∗ H0 ∗ H1 ∗ H2 ∗ H3 ∗ H4 ∗ H5 ∗ H6 ∗ H7 ∗ H8 ∗ H9 ∗ H10 ∗ H11 ∗ U')) := by
  refine run_wp c (run_conseq (run_frame iprop(P ∗ O) h) ?_ ?_)
  · iintro ⟨⟨HS, HP⟩, Ho, ⟨%d0, K0⟩, ⟨%d1, K1⟩, ⟨%d2, K2⟩, ⟨%d3, K3⟩, ⟨%d4, K4⟩, ⟨%d5, K5⟩, ⟨%d6, K6⟩, ⟨%d7, K7⟩, ⟨%d8, K8⟩, ⟨%d9, K9⟩, ⟨%d10, K10⟩, ⟨%d11, K11⟩, HR⟩
    ihave HR := hu $$ HR
    isplitl [HS HR K0 K1 K2 K3 K4 K5 K6 K7 K8 K9 K10 K11]
    · isplitl [K0 K1 K2 K3 K4 K5 K6 K7 K8 K9 K10 K11]
      · isplitl [K0]; · iexact K0
        isplitl [K1]; · iexact K1
        isplitl [K2]; · iexact K2
        isplitl [K3]; · iexact K3
        isplitl [K4]; · iexact K4
        isplitl [K5]; · iexact K5
        isplitl [K6]; · iexact K6
        isplitl [K7]; · iexact K7
        isplitl [K8]; · iexact K8
        isplitl [K9]; · iexact K9
        isplitl [K10]; · iexact K10
        iexact K11
      isplitl [HS]; · iexact HS
      iexact HR
    isplitl [HP]; · iexact HP
    iexact Ho
  · iintro ⟨⟨⟨K0, K1, K2, K3, K4, K5, K6, K7, K8, K9, K10, K11⟩, HS, HR⟩, HP, Ho⟩
    isplitl [HS HP]
    · isplitl [HS]; · iexact HS
      iexact HP
    isplitl [Ho]; · iexact Ho
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    iexact HR

end Shape

theorem any_true {D : Type} (a13 : Memref sig .tc .vmem S512x128 .bf16) (f : D → Vec F S512x128 .bf16) :
    iprop(∃ d, owns (c : Thread nD τ) a13 fullShare (f d)) ⊢ SO (F := F) c a13 (fun _ => True) := by
  iintro ⟨%d, H⟩
  ihave H := (ownsSat_intro _ _ _ (Φ := fun _ => True) trivial) $$ H
  iexact H

end Cert.KernelIdeal.Attn
-- ==== Proof.Blocks.lean ====
/-
  The blocks of the attention kernel at a grid point, as places of the host's arrays.
-/
module

public import proofs.«01_k».proof.Proof.Setup
public import Idealize.ShloMosaic.Lib.Pipeline.ValueKit
public import Idealize.ShloMosaic.Lib.Pointwise

@[expose] public section

set_option maxRecDepth 16384
noncomputable section

namespace Cert.KernelIdeal.Attn
open Idealize.ShloMosaic Idealize.ShloMosaic.TcCoe Idealize.ShloMosaic.Tactic
open Cert.KernelIdeal.Gen

variable {F : FTy → Type} [FloatOps F]
variable (m : (ℓ : Loc nD τ sig) → Buf (Elt F) ℓ) (c : Dev nD)

/-! ## The index maps -/

theorem idx0 : ∀ t : Fin cfg0.N, win0_0.index t = ![0] := (by decide +kernel : ∀ t : Fin grid0.N, _)
theorem idx1 : ∀ t : Fin cfg0.N, win0_1.index t = ![min t.val 511 / 8 % 8, min t.val 511 / 64 * 8 + min t.val 511 % 8] := (by decide +kernel : ∀ t : Fin grid0.N, _)
theorem idx2 : ∀ t : Fin cfg0.N, win0_2.index t = ![min t.val 511 / 64, min t.val 511 / 8 % 8] := (by decide +kernel : ∀ t : Fin grid0.N, _)
theorem idx3 : ∀ t : Fin cfg0.N, win0_3.index t = ![(t.val - 1) / 8 % 8, (t.val - 1) / 64] := (by decide +kernel : ∀ t : Fin grid0.N, _)
theorem idx4 : ∀ t : Fin cfg0.N, win0_4.index t = ![min t.val 511 / 8 % 8, 0, 0] := (by decide +kernel : ∀ t : Fin grid0.N, _)
theorem idx5 : ∀ t : Fin cfg0.N, win0_5.index t = ![min t.val 511 / 8 % 8, 0, 0] := (by decide +kernel : ∀ t : Fin grid0.N, _)
theorem idx6 : ∀ t : Fin cfg0.N, win0_6.index t = ![min t.val 511 / 8 % 8, 0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![(t.val - 1) / 64 * 8 + (t.val - 1) % 8, (t.val - 1) / 8 % 8] := (by decide +kernel : ∀ t : Fin grid0.N, _)

theorem covers12 : (cfg0.win 12).Covers := by decide +kernel

variable (t : Fin cfg0.N)

theorem lt_N : t.val < 513 := t.isLt

theorem x1_at (h : Fin 8) : (Xb m c t).x1 (ix1 h)
    = (V m c main_v29 : Vec F S8 .f32) (ix1 h) := by
  show V m c main_v29 (((cfg0.win 0).blk t).view.emb (ix1 h)) = V m c main_v29 _
  congr 1
  funext a; apply Fin.ext
  blk_simp [idx0]
  match a with
  | ⟨0, _⟩ => show 0 * 8 + h.val = h.val; omega

theorem x2_at (i : Fin 128) (j : Fin 512) : (Xb m c t).x2 (ix2 i j)
    = (V m c main_v7 : Vec F S1024x32768 .bf16) (ix2 ⟨min t.val 511 / 8 % 8 * 128 + i.val, by omega⟩ ⟨(min t.val 511 / 64 * 8 + min t.val 511 % 8) * 512 + j.val, by omega⟩) := by
  show V m c main_v7 (((cfg0.win 1).blk t).view.emb (ix2 i j)) = V m c main_v7 _
  congr 1
  funext a; apply Fin.ext
  blk_simp [idx1]
  match a with
  | ⟨0, _⟩ => rfl
  | ⟨1, _⟩ => rfl

theorem x3_at (i : Fin 4096) (j : Fin 128) : (Xb m c t).x3 (ix2 i j)
    = (V m c main_v9 : Vec F S32768x1024 .bf16) (ix2 ⟨min t.val 511 / 64 * 4096 + i.val, by omega⟩ ⟨min t.val 511 / 8 % 8 * 128 + j.val, by omega⟩) := by
  show V m c main_v9 (((cfg0.win 2).blk t).view.emb (ix2 i j)) = V m c main_v9 _
  congr 1
  funext a; apply Fin.ext
  blk_simp [idx2]
  match a with
  | ⟨0, _⟩ => rfl
  | ⟨1, _⟩ => rfl

theorem x4_at (i : Fin 144) (j : Fin 4096) : (Xb m c t).x4 (ix2 i j)
    = (V m c main_v16 : Vec F S1152x32768 .bf16) (ix2 ⟨(t.val - 1) / 8 % 8 * 144 + i.val, by omega⟩ ⟨(t.val - 1) / 64 * 4096 + j.val, by have := lt_N t; omega⟩) := by
  show V m c main_v16 (((cfg0.win 3).blk t).view.emb (ix2 i j)) = V m c main_v16 _
  congr 1
  funext a; apply Fin.ext
  blk_simp [idx3]
  match a with
  | ⟨0, _⟩ => rfl
  | ⟨1, _⟩ => rfl

theorem x5_at (a : Fin 2) (i : Fin 256) (j : Fin 128) : (Xb m c t).x5 (ix3 a i j)
    = (V m c main_v97 : Vec F S16x256x128 .bf16) (ix3 ⟨min t.val 511 / 8 % 8 * 2 + a.val, by omega⟩ i j) := by
  show V m c main_v97 (((cfg0.win 4).blk t).view.emb (ix3 a i j)) = V m c main_v97 _
  congr 1
  funext y; apply Fin.ext
  blk_simp [idx4]
  match y with
  | ⟨0, _⟩ => rfl
  | ⟨1, _⟩ => show 0 * 256 + i.val = i.val; omega
  | ⟨2, _⟩ => show 0 * 128 + j.val = j.val; omega

theorem x6_at (i : Fin 128) (j : Fin 256) : (Xb m c t).x6 (ix3 0 i j)
    = (V m c main_v74 : Vec F S8x128x256 .bf16) (ix3 ⟨min t.val 511 / 8 % 8, by omega⟩ i j) := by
  show V m c main_v74 (((cfg0.win 5).blk t).view.emb (ix3 0 i j)) = V m c main_v74 _
  congr 1
  funext a; apply Fin.ext
  blk_simp [idx5]
  match a with
  | ⟨0, _⟩ => show min t.val 511 / 8 % 8 * 1 + 0 = min t.val 511 / 8 % 8; omega
  | ⟨1, _⟩ => show 0 * 128 + i.val = i.val; omega
  | ⟨2, _⟩ => show 0 * 256 + j.val = j.val; omega

theorem x7_at (i j : Fin 256) : (Xb m c t).x7 (ix4 0 0 i j)
    = (V m c main_v96 : Vec F S8x1x256x256 .f32) (ix4 ⟨min t.val 511 / 8 % 8, by omega⟩ 0 i j) := by
  show V m c main_v96 (((cfg0.win 6).blk t).view.emb (ix4 0 0 i j)) = V m c main_v96 _
  congr 1
  funext a; apply Fin.ext
  blk_simp [idx6]
  match a with
  | ⟨0, _⟩ => show min t.val 511 / 8 % 8 * 1 + 0 = min t.val 511 / 8 % 8; omega
  | ⟨1, _⟩ => rfl
  | ⟨2, _⟩ => show 0 * 256 + i.val = i.val; omega
  | ⟨3, _⟩ => show 0 * 256 + j.val = j.val; omega

theorem x8_at (j : Fin 64) : (Xb m c t).x8 (ix2 0 j)
    = (V m c main_arg3 : Vec F S1x64 .f32) (ix2 0 j) := by
  show V m c main_arg3 (((cfg0.win 7).blk t).view.emb (ix2 0 j)) = V m c main_arg3 _
  congr 1
  funext a; apply Fin.ext
  blk_simp [idx7]
  match a with
  | ⟨0, _⟩ => rfl
  | ⟨1, _⟩ => show 0 * 64 + j.val = j.val; omega

theorem x9_at (j : Fin 64) : (Xb m c t).x9 (ix2 0 j)
    = (V m c main_arg4 : Vec F S1x64 .f32) (ix2 0 j) := by
  show V m c main_arg4 (((cfg0.win 8).blk t).view.emb (ix2 0 j)) = V m c main_arg4 _
  congr 1
  funext a; apply Fin.ext
  blk_simp [idx8]
  match a with
  | ⟨0, _⟩ => rfl
  | ⟨1, _⟩ => show 0 * 64 + j.val = j.val; omega

theorem x10_at (j : Fin 64) : (Xb m c t).x10 (ix2 0 j)
    = (V m c main_arg5 : Vec F S1x64 .f32) (ix2 0 j) := by
  show V m c main_arg5 (((cfg0.win 9).blk t).view.emb (ix2 0 j)) = V m c main_arg5 _
  congr 1
  funext a; apply Fin.ext
  blk_simp [idx9]
  match a with
  | ⟨0, _⟩ => rfl
  | ⟨1, _⟩ => show 0 * 64 + j.val = j.val; omega

theorem x11_at (j : Fin 64) : (Xb m c t).x11 (ix2 0 j)
    = (V m c main_arg6 : Vec F S1x64 .f32) (ix2 0 j) := by
  show V m c main_arg6 (((cfg0.win 10).blk t).view.emb (ix2 0 j)) = V m c main_arg6 _
  congr 1
  funext a; apply Fin.ext
  blk_simp [idx10]
  match a with
  | ⟨0, _⟩ => rfl
  | ⟨1, _⟩ => show 0 * 64 + j.val = j.val; omega

theorem x12_at (j : Fin 128) : (Xb m c t).x12 (ix2 0 j)
    = (V m c main_arg7 : Vec F S1x128 .f32) (ix2 0 j) := by
  show V m c main_arg7 (((cfg0.win 11).blk t).view.emb (ix2 0 j)) = V m c main_arg7 _
  congr 1
  funext a; apply Fin.ext
  blk_simp [idx11]
  match a with
  | ⟨0, _⟩ => rfl
  | ⟨1, _⟩ => show 0 * 128 + j.val = j.val; omega

end Cert.KernelIdeal.Attn
-- ==== Proof.Reals.lean ====
/-
  The real numbers behind the two programs: finite sums, the literals, and the softmax average.
-/
module

public import Idealize.ShloMosaic.Lib.Pointwise
public import Idealize.ShloMosaic.PureOps.Ideal.Laws
public import Idealize.ShloMosaic.Lib.IdealHost

@[expose] public section

set_option maxRecDepth 16384
noncomputable section

namespace Cert.Attn
open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type} [Fintype ι] (f g : ι → EReal) (f' g' : ι → ℝ) (hf : ∀ i, f i = f' i) (hg : ∀ i, g i = g' i) :
    ∑ i, f i * g i = ((∑ i, f' i * g' i : ℝ) : EReal) := by
  rw [coe_sum]; exact Finset.sum_congr rfl fun i _ => by rw [hf, hg, EReal.coe_mul]

theorem absf_coe (r : ℝ) : FloatOps.absf (F := Ideal) (φ := .f32) (r : EReal) = ((|r| : ℝ) : EReal) := by
  show max (r : EReal) (-r) = _
  rw [abs_eq_max_neg, EReal.coe_strictMono.monotone.map_max, EReal.coe_neg]

theorem hostAbsf_coe (r : ℝ) : FloatOps.hostAbsf (F := Ideal) (φ := .f32) (r : EReal) = ((|r| : ℝ) : EReal) := absf_coe r

theorem sitofp_nat (n : ℕ) (h : n < 65536) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_of_lt] <;> rw [BitVec.toNat_ofNat] <;> omega
  rw [this]; simp

/-- A number's extended real is finite. -/
theorem lt_top_real (x : EReal) (h : max x (-x) < ⊤) : ∃ r : ℝ, x = r := by
  induction x using EReal.rec with
  | bot => simp at h
  | coe r => exact ⟨r, rfl⟩
  | top => simp at h

/-! ## The literals -/

theorem lit_eighth : Ideal.ofBits .f32 0x3E000000#32 = ((1 / 8 : ℝ) : EReal) := by
  simp [Ideal.ofBits, Ideal.ieee, -EReal.coe_mul]; norm_num
theorem lit_m8 : Ideal.ofBits .f32 0xC1000000#32 = ((-8 : ℝ) : EReal) := by
  simp [Ideal.ofBits, Ideal.ieee, -EReal.coe_mul]; norm_num
theorem lit_8 : Ideal.ofBits .f32 0x41000000#32 = ((8 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_1 : Ideal.ofBits .f32 0x3F800000#32 = ((1 : ℝ) : EReal) := by
  simp
theorem lit_lam : ∃ r : ℝ, Ideal.ofBits .f32 0x3E4CCCCD#32 = (r : EReal) := by
  exact ⟨_, by simp [Ideal.ofBits, Ideal.ieee, -EReal.coe_mul]; rfl⟩
theorem lit_low : ∃ r : ℝ, Ideal.ofBits .f32 0xF149F2CA#32 = (r : EReal) := by
  exact ⟨_, by simp [Ideal.ofBits, Ideal.ieee, -EReal.coe_mul]; rfl⟩
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]

/-! ## Maxima -/

theorem max_coe (a b : ℝ) : max (a : EReal) b = ((max a b : ℝ) : EReal) := (EReal.coe_strictMono.monotone.map_max).symm

theorem foldmax_real {ι : Type} (s : Finset ι) (f : ι → EReal) (hf : ∀ i, ∃ r : ℝ, f i = r) (hs : s.Nonempty) :
    ∃ r : ℝ, s.fold max ⊥ f = r := by
  classical
  induction s using Finset.induction_on with
  | empty => simp at hs
  | insert a s ha ih =>
    obtain ⟨r, hr⟩ := hf a
    rw [Finset.fold_insert ha, hr]
    rcases s.eq_empty_or_nonempty with rfl | hs'
    · exact ⟨r, by simp⟩
    · obtain ⟨r', hr'⟩ := ih hs'
      exact ⟨max r r', by rw [hr', max_coe]⟩

/-- A reduction by maximum of finite numbers along an axis that is not empty is finite. -/
theorem reduce_max_real {s t u : Shape} {a : Fin s.rank} (x : FVec Ideal s .f32) (init : FVec Ideal u .f32) (h : s.ReducesTo [a] t) (h' : s.Reduces [a] t)
    (hu : 0 < u.numel) (j : t.Idx) (hx : ∀ i, ∃ r : ℝ, x i = r) (hi : init (Shape.Idx.first hu) = (⊥ : EReal)) (hk : 0 < s.size a) :
    ∃ r : ℝ, Host.reduce (FloatOps.maximumf (F := Ideal) (φ := .f32)) x init h hu j = r := by
  rw [Host.reduce_eq_fold_single _ _ _ _ h', hi]
  exact foldmax_real _ _ (fun i => hx _) ⟨⟨0, hk⟩, Finset.mem_univ _⟩

theorem maximumf_at {s : Shape} (x y : FVec Ideal s .f32) (j : s.Idx) : maximumf x y j = max (x j) (y j) := rfl
theorem max_bot_real (x y : EReal) (hx : x = ⊥) (hy : ∃ r : ℝ, y = r) : ∃ r : ℝ, max x y = r := by
  rw [hx, max_eq_right bot_le]; exact hy

/-! ## The slopes -/

/-- The slope of a head. -/
def slope (h : Fin 8) : ℝ := Real.rpow 2 (-8 * (1 + h.val) * (1 / 8))

theorem slope_eq (h : Fin 8) :
    Ideal.pow (Ideal.ofBits .f32 0x40000000#32) (Ideal.div (Ideal.ofBits .f32 0xC1000000#32 * (1 + FloatOps.sitofp (F := Ideal) .f32 (BitVec.ofNat 32 h.val))) (Ideal.ofBits .f32 0x41000000#32))
      = ((slope h : ℝ) : EReal) := by
  rw [lit_2, lit_m8, lit_8, sitofp_nat _ (by omega), Ideal.div_coe (by norm_num), ← EReal.coe_one, ← EReal.coe_add, ← EReal.coe_mul, ← EReal.coe_mul, Ideal.pow_coe_coe]
  rfl

/-! ## The softmax average -/

/-- The average of `v` weighted by the exponentials of `S`. -/
def avg {ι : Type} [Fintype ι] (S v : ι → ℝ) : ℝ := (∑ s, v s * Real.exp (S s)) / ∑ s, Real.exp (S s)

theorem avg_scale {ι : Type} [Fintype ι] (S v : ι → ℝ) (c : ℝ) (hc : c ≠ 0) :
    (∑ s, v s * (c * Real.exp (S s))) / ∑ s, c * Real.exp (S s) = avg S v := by
  have e : ∀ s, v s * (c * Real.exp (S s)) = c * (v s * Real.exp (S s)) := fun s => by ring
  simp only [e]
  rw [← Finset.mul_sum, ← Finset.mul_sum, mul_div_mul_left _ _ hc]
  rfl

theorem sum_exp_pos {ι : Type} [Fintype ι] [Nonempty ι] (S : ι → ℝ) : 0 < ∑ s, Real.exp (S s) :=
  Finset.sum_pos (fun s _ => Real.exp_pos _) Finset.univ_nonempty

/-- The softmax's weights, averaged over. -/
theorem soft_avg {ι : Type} [Fintype ι] [Nonempty ι] (S v : ι → ℝ) (M : ℝ) :
    ∑ s, v s * (Real.exp (S s - M) * (1 / ∑ s', Real.exp (S s' - M))) = avg S v := by
  have h := avg_scale S v (Real.exp (-M)) (Real.exp_pos _).ne'
  have e : ∀ s, Real.exp (S s - M) = Real.exp (-M) * Real.exp (S s) := fun s => by rw [← Real.exp_add]; congr 1; ring
  simp only [e]
  rw [← h, Finset.sum_div]
  exact Finset.sum_congr rfl fun s _ => by ring

/-! ## What follows the average -/

/-- The tail of both programs: a head's vector normalised over its width, scaled. -/
def tailE (D : Fin 128 → ℝ) (g : EReal) (i : Fin 128) : EReal :=
  (D i : EReal) * Ideal.rsqrt (Ideal.div (∑ x, (D x : EReal) * (D x : EReal)) (Ideal.ofBits .f32 0x43000000#32) + Ideal.ofBits .f32 0x358637BD#32)
    * (g * Ideal.ofBits .f32 0x3F4CCCCD#32)

/-- The differential weight's number, from the four vectors' sums. -/
def lamE (a b c d : Fin 64 → ℝ) : ℝ := Real.exp (∑ i, a i * b i) - Real.exp (∑ i, c i * d i) + lit_lam.choose

theorem lamE_eq (a b c d : Fin 64 → ℝ) (x y : EReal) (hx : x = ((∑ i, a i * b i : ℝ) : EReal)) (hy : y = ((∑ i, c i * d i : ℝ) : EReal)) :
    Ideal.exp x - Ideal.exp y + Ideal.ofBits .f32 0x3E4CCCCD#32 = ((lamE a b c d : ℝ) : EReal) := by
  rw [hx, hy, lit_lam.choose_spec, Ideal.exp_coe, Ideal.exp_coe, ← EReal.coe_sub, ← EReal.coe_add]
  rfl

/-! ## The whole layer, over the reals -/

/-- A column of the model's width from head, map and place. -/
def col (h : Fin 8) (u : Fin 2) (x : Fin 64) : Fin 1024 := ⟨h.val * 128 + u.val * 64 + x.val, by omega⟩
/-- A column from head and place. -/
def vcol (h : Fin 8) (i : Fin 128) : Fin 1024 := ⟨h.val * 128 + i.val, by omega⟩

/-- The biased score. -/
def score (q k : Fin 8 → Fin 4096 → Fin 1024 → ℝ) (b h : Fin 8) (u : Fin 2) (t s : Fin 4096) : ℝ :=
  (∑ x, q b t (col h u x) * k b s (col h u x)) * (1 / 8) + -slope h * |(t.val : ℝ) - (s.val : ℝ)|

/-- The difference of the two maps' averages. -/
def diff (q k v : Fin 8 → Fin 4096 → Fin 1024 → ℝ) (lam : ℝ) (b : Fin 8) (t : Fin 4096) (h : Fin 8) (i : Fin 128) : ℝ :=
  avg (score q k b h 0 t) (fun s => v b s (vcol h i)) - lam * avg (score q k b h 1 t) (fun s => v b s (vcol h i))

end Cert.Attn
-- ==== Proof.Host.lean ====
/-
  The host's arrays as the attention kernel finds them: each operand's element at an index.
-/
module

public import proofs.«01_k».proof.Proof.Setup
public import proofs.«01_k».proof.Proof.Reals
public import Idealize.ShloMosaic.Lib.Claim
public import Idealize.ShloMosaic.Lib.StableHlo.RunRead
public import Idealize.ShloMosaic.Lib.Pointwise

@[expose] public section

set_option maxRecDepth 16384
set_option maxHeartbeats 2000000
noncomputable section

namespace Cert.KernelIdeal.Attn
open Idealize.ShloMosaic Idealize.ShloMosaic.TcCoe Idealize.ShloMosaic.Tactic
open Cert.KernelIdeal.Gen Cert.Attn

/-! ## One operation at a time -/

section Ssa
variable {F : FTy → Type} [FloatOps F]

/-- What the host's operations write, in order. -/
def wr : List (Ref sig .tc) :=
  [main_v0, main_cst, main_v1, main_cst_0, main_v2, main_cst_1, main_v3, main_v4, main_v5, main_v6, main_v7, main_v8, main_v9, main_v10, main_v11, main_v12, main_v13, main_cst_2, main_v14, main_v15, main_v16, main_v17, main_cst_3, main_v18, main_v19, main_cst_4, main_v20, main_v21, main_cst_5, main_v22, main_v23, main_cst_6, main_v24, main_v25, main_cst_7, main_v26, main_cst_8, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_cst_9, main_v58, main_cst_10, main_v59, main_v60, main_v61, main_v62, main_v63, main_cst_11, main_v64, main_v65, main_v66, main_v67, main_v68, main_v69, main_v70, main_v71, main_v72, main_cst_12, main_v73, main_v74, main_v75, main_v76, main_v77, main_v78, main_v79, main_v80, main_cst_13, main_v81, main_v82, main_v83, main_v84, main_v85, main_v86, main_v87, main_v88, main_v89, main_v90, main_v91, main_v92, main_v93, main_v94, main_v95, main_v96, main_v97]

theorem wr_eq : (hostOps0 (F := F)).map HloOp.writes = wr.map fun w => {Proc.devRef (τ := τ) .tc w} := rfl

variable (m : (ℓ : Loc nD τ sig) → Buf (Elt F) ℓ) (c : Dev nD)

theorem wr_drop (i : ℕ) : ((hostOps0 (F := F)).drop i).map HloOp.writes = (wr.drop i).map fun w => {Proc.devRef (τ := τ) .tc w} := by
  rw [List.map_drop, List.map_drop, wr_eq]

theorem drop_of_get {α : Type} {l : List α} {i : ℕ} {a : α} (h : l[i]? = some a) : l.drop i = a :: l.drop (i + 1) := by
  obtain ⟨hi, rfl⟩ := List.getElem?_eq_some_iff.mp h
  exact List.drop_eq_getElem_cons hi

/-- The contents after the host's first `i` operations. -/
abbrev U (i : ℕ) : Valuation τ sig (Elt F) := StableHlo.upto hostOps0 (fun b => m (c, b)) i

theorem V_op {i : ℕ} {op : HloOp τ sig (Elt F)} (h : (hostOps0 (F := F))[i]? = some op) {r : Ref sig .tc} (hr : r ∉ wr.drop (i + 1)) :
    V m c r = op.result (U m c i) (Proc.devRef .tc r) :=
  StableHlo.after_last_write (wr.drop (i + 1)) (drop_of_get h) (wr_drop (i + 1)) hr _

theorem V_keep {i : ℕ} {r : Ref sig .tc} (hr : r ∉ wr.drop i) : U m c i (Proc.devRef .tc r) = V m c r := by
  have h := StableHlo.after_append ((hostOps0 (F := F)).take i) ((hostOps0 (F := F)).drop i) (fun b => m (c, b))
  rw [List.take_append_drop] at h
  show _ = StableHlo.after hostOps0 _ _
  rw [h, StableHlo.after_unwritten (wr.drop i) (wr_drop i) hr]
  rfl

theorem V_nullary (i : ℕ) {y : Ref sig .tc} {v : y.ty.Contents (Elt F)} {hy} (h : (hostOps0 (F := F))[i]? = some (StableHlo.nullary y v hy)) (hr : y ∉ wr.drop (i + 1)) :
    V m c y = v := (V_op m c h hr).trans (StableHlo.nullary_result ..)

theorem V_unary (i : ℕ) {x y : Ref sig .tc} {f : x.ty.Contents (Elt F) → y.ty.Contents (Elt F)} {hx hy} (h : (hostOps0 (F := F))[i]? = some (StableHlo.unary x y f hx hy))
    (hr : y ∉ wr.drop (i + 1)) (h1 : x ∉ wr.drop i) : V m c y = f (V m c x) :=
  (V_op m c h hr).trans ((StableHlo.unary_result ..).trans (congrArg f (V_keep m c h1)))

theorem V_binary (i : ℕ) {a b y : Ref sig .tc} {f : a.ty.Contents (Elt F) → b.ty.Contents (Elt F) → y.ty.Contents (Elt F)} {ha hb hy}
    (h : (hostOps0 (F := F))[i]? = some (StableHlo.binary a b y f ha hb hy)) (hr : y ∉ wr.drop (i + 1)) (h1 : a ∉ wr.drop i) (h2 : b ∉ wr.drop i) :
    V m c y = f (V m c a) (V m c b) :=
  (V_op m c h hr).trans ((StableHlo.binary_result ..).trans (congrArg₂ f (V_keep m c h1) (V_keep m c h2)))

theorem V_nary (i : ℕ) {n : ℕ} {xs : Fin n → Ref sig .tc} {y : Ref sig .tc} {f : ((k : Fin n) → (xs k).ty.Contents (Elt F)) → y.ty.Contents (Elt F)} {hxs hy}
    (h : (hostOps0 (F := F))[i]? = some (StableHlo.nary xs y f hxs hy)) (hr : y ∉ wr.drop (i + 1)) (h1 : ∀ k, xs k ∉ wr.drop i) :
    V m c y = f (fun k => V m c (xs k)) :=
  (V_op m c h hr).trans ((StableHlo.nary_result ..).trans (congrArg f (funext fun k => V_keep m c (h1 k))))

theorem V_reshape (i : ℕ) {x y : Ref sig .tc} {he hn hx hy} (h : (hostOps0 (F := F))[i]? = some (StableHlo.reshape x y he hn hx hy))
    (hr : y ∉ wr.drop (i + 1)) (h1 : x ∉ wr.drop i) : V m c y = fun i => he ▸ shapeCast y.ty.shape (V m c x) hn i :=
  (V_op m c h hr).trans ((StableHlo.reshape_result ..).trans (by rw [V_keep m c h1]))

end Ssa

variable (m : (ℓ : Loc nD τ sig) → Buf (Elt Ideal) ℓ) (c : Dev nD)

/-! ## The operands off the arguments -/

/-- A head's slope in powers of two. -/
def ch (h : Fin 8) : ℝ := slope h * (1 / Real.log 2)

theorem log2_eq : Ideal.div 1 (Ideal.log (Ideal.ofBits FTy.f32 1073741824#32)) = ((1 / Real.log 2 : ℝ) : EReal) := by
  have h2 : Ideal.ofBits FTy.f32 1073741824#32 = ((2 : ℝ) : EReal) := lit_2
  have h0 : Real.log 2 ≠ 0 := (Real.log_pos (by norm_num)).ne'
  rw [h2, Ideal.log_coe, if_neg (by norm_num), Ideal.div_coe h0, one_mul]

theorem v29_at (h : Fin 8) : ((V m c main_v29 : Vec Ideal S8 .f32) (ix1 h) : EReal) = ((ch h : ℝ) : EReal) := by
  entry_read
  pointwise
  rw [log2_eq]
  refine (congrArg (fun x : EReal => x * ((1 / Real.log 2 : ℝ) : EReal)) (slope_eq h)).trans ?_
  rw [← EReal.coe_mul]
  rfl

theorem v7_at (r : Fin 1024) (s : Fin 32768) (x : ℝ) (hx : m ((c : Thread nD τ).loc main_arg0) (ix3 ⟨s.val / 4096, by omega⟩ ⟨s.val % 4096, by omega⟩ r) = ((x : ℝ) : EReal)) :
    ((V m c main_v7 : Vec Ideal S1024x32768 .bf16) (ix2 r s) : EReal) = ((x * (1 / 8 * (1 / Real.log 2)) : ℝ) : EReal) := by
  entry_read
  pointwise
  have h8 : Ideal.ofBits FTy.f32 1040187392#32 = ((1 / 8 : ℝ) : EReal) := lit_eighth
  rw [log2_eq, h8, EReal.coe_mul, EReal.coe_mul]
  exact congrArg (· * _) hx

theorem v9_at (r : Fin 1024) (s : Fin 32768) :
    (V m c main_v9 : Vec Ideal S32768x1024 .bf16) (ix2 s r) = m ((c : Thread nD τ).loc main_arg1) (ix3 ⟨s.val / 4096, by omega⟩ ⟨s.val % 4096, by omega⟩ r) := by
  entry_read
  pointwise

theorem v16_at (h : Fin 8) (i : Fin 144) (s : Fin 32768) :
    (V m c main_v16 : Vec Ideal S1152x32768 .bf16) (ix2 ⟨h.val * 144 + i.val, by omega⟩ s)
      = (if hi : i.val < 128 then m ((c : Thread nD τ).loc main_arg2) (ix3 ⟨s.val / 4096, by omega⟩ ⟨s.val % 4096, by omega⟩ ⟨h.val * 128 + i.val, by omega⟩) else (1 : EReal) : EReal) := by
  entry_read
  pointwise

theorem v96_at (h : Fin 8) (r s : Fin 256) : ((V m c main_v96 : Vec Ideal S8x1x256x256 .f32) (ix4 h 0 r s) : EReal) = ((-ch h * |(s.val : ℝ) - r.val| : ℝ) : EReal) := by
  rw [V_binary m c 111 (y := main_v96) rfl (by decide) (by decide) (by decide), V_unary m c 109 (y := main_v94) rfl (by decide) (by decide),
    V_unary m c 107 (y := main_v92) rfl (by decide) (by decide), V_unary m c 106 (y := main_v91) rfl (by decide) (by decide)]
  have h90 : ((V m c main_v95 : Vec Ideal S8x1x256x256 .f32) (ix4 h 0 r s) : EReal) = ((|(s.val : ℝ) - r.val| : ℝ) : EReal) := by
    entry_read
    pointwise
    have h0 : FloatOps.sitofp (F := Ideal) FTy.f32 0#32 = ((0 : ℕ) : ℝ) := sitofp_nat 0 (by norm_num)
    rw [sitofp_nat r.val (by omega), sitofp_nat s.val (by omega), h0, Nat.cast_zero, EReal.coe_zero, zero_mul, sub_zero, ← EReal.coe_sub, absf_coe, abs_sub_comm]
  have h29 := v29_at m c h
  generalize V m c main_v95 = X at *
  generalize V m c main_v29 = Y at *
  pointwise
  rw [EReal.coe_mul, EReal.coe_neg]
  exact congrArg₂ (fun x y : EReal => -x * y) h29 h90

end Cert.KernelIdeal.Attn
-- ==== Proof.Bias.lean ====
/-
  The split biases beside the attention kernel's keys and queries, and what they sum to.
-/
module

public import proofs.«01_k».proof.Proof.Host

@[expose] public section

set_option maxRecDepth 16384
set_option maxHeartbeats 2000000
noncomputable section

namespace Cert.KernelIdeal.Attn
open Idealize.ShloMosaic Idealize.ShloMosaic.TcCoe Idealize.ShloMosaic.Tactic
open Cert.KernelIdeal.Gen Cert.Attn

variable (m : (ℓ : Loc nD τ sig) → Buf (Elt Ideal) ℓ) (c : Dev nD)

/-! ## The split biases -/

theorem v38_at (h : Fin 8) (r : Fin 256) : ((V m c main_v38 : Vec Ideal S8x256 .f32) (ix2 h r) : EReal) = ((ch h * r.val : ℝ) : EReal) := by
  have h29 := v29_at m c h
  have hi : ((V m c main_v31 : Vec Ideal S256 .f32) (ix1 r) : EReal) = ((r.val : ℝ) : EReal) := by
    entry_read
    pointwise
    exact sitofp_nat r.val (by omega)
  rw [V_binary m c 48 (y := main_v38) rfl (by decide) (by decide) (by decide), V_unary m c 46 (y := main_v36) rfl (by decide) (by decide), V_unary m c 44 (y := main_v34) rfl (by decide) (by decide),
    V_unary m c 47 (y := main_v37) rfl (by decide) (by decide), V_unary m c 45 (y := main_v35) rfl (by decide) (by decide)]
  generalize V m c main_v29 = Y at *
  generalize V m c main_v31 = X at *
  pointwise
  rw [EReal.coe_mul]
  exact congrArg₂ (· * ·) h29 hi

theorem v44_at (h : Fin 8) (r : Fin 256) : ((V m c main_v44 : Vec Ideal S8x256 .bf16) (ix2 h r) : EReal) = ((ch h * r.val : ℝ) : EReal) := by
  rw [V_unary m c 54 (y := main_v44) rfl (by decide) (by decide)]
  exact v38_at m c h r

theorem v46_at (h : Fin 8) (r : Fin 256) : ((V m c main_v46 : Vec Ideal S8x256 .f32) (ix2 h r) : EReal) = ((0 : ℝ) : EReal) := by
  rw [V_binary m c 56 (y := main_v46) rfl (by decide) (by decide) (by decide), V_unary m c 55 (y := main_v45) rfl (by decide) (by decide)]
  refine (congrArg₂ (fun x y : EReal => x - y) (v38_at m c h r) (v44_at m c h r)).trans ?_
  rw [← EReal.coe_sub, sub_self]

theorem v47_at (h : Fin 8) (r : Fin 256) : ((V m c main_v47 : Vec Ideal S8x256 .bf16) (ix2 h r) : EReal) = ((0 : ℝ) : EReal) := by
  rw [V_unary m c 57 (y := main_v47) rfl (by decide) (by decide)]
  exact v46_at m c h r

theorem v50_at (h : Fin 8) (r : Fin 256) : ((V m c main_v50 : Vec Ideal S8x256 .bf16) (ix2 h r) : EReal) = ((0 : ℝ) : EReal) := by
  rw [V_unary m c 60 (y := main_v50) rfl (by decide) (by decide), V_binary m c 59 (y := main_v49) rfl (by decide) (by decide) (by decide), V_unary m c 58 (y := main_v48) rfl (by decide) (by decide)]
  refine (congrArg₂ (fun x y : EReal => x - y) (v46_at m c h r) (v47_at m c h r)).trans ?_
  rw [← EReal.coe_sub, sub_self]

theorem v43_at (h : Fin 8) (r : Fin 256) : ((V m c main_v43 : Vec Ideal S8x256 .f32) (ix2 h r) : EReal) = ((ch h * r.val : ℝ) : EReal) := by
  have h29 := v29_at m c h
  have hi : ((V m c main_v33 : Vec Ideal S256 .f32) (ix1 r) : EReal) = ((r.val : ℝ) : EReal) := by
    entry_read
    pointwise
    exact sitofp_nat r.val (by omega)
  rw [V_binary m c 53 (y := main_v43) rfl (by decide) (by decide) (by decide), V_unary m c 51 (y := main_v41) rfl (by decide) (by decide), V_unary m c 49 (y := main_v39) rfl (by decide) (by decide),
    V_unary m c 52 (y := main_v42) rfl (by decide) (by decide), V_unary m c 50 (y := main_v40) rfl (by decide) (by decide)]
  generalize V m c main_v29 = Y at *
  generalize V m c main_v33 = X at *
  pointwise
  rw [EReal.coe_mul]
  exact congrArg₂ (· * ·) h29 hi

theorem v51_at (h : Fin 8) (r : Fin 256) : ((V m c main_v51 : Vec Ideal S8x256 .bf16) (ix2 h r) : EReal) = ((ch h * r.val : ℝ) : EReal) := by
  rw [V_unary m c 61 (y := main_v51) rfl (by decide) (by decide)]
  exact v43_at m c h r

theorem v53_at (h : Fin 8) (r : Fin 256) : ((V m c main_v53 : Vec Ideal S8x256 .f32) (ix2 h r) : EReal) = ((0 : ℝ) : EReal) := by
  rw [V_binary m c 63 (y := main_v53) rfl (by decide) (by decide) (by decide), V_unary m c 62 (y := main_v52) rfl (by decide) (by decide)]
  refine (congrArg₂ (fun x y : EReal => x - y) (v43_at m c h r) (v51_at m c h r)).trans ?_
  rw [← EReal.coe_sub, sub_self]

theorem v54_at (h : Fin 8) (r : Fin 256) : ((V m c main_v54 : Vec Ideal S8x256 .bf16) (ix2 h r) : EReal) = ((0 : ℝ) : EReal) := by
  rw [V_unary m c 64 (y := main_v54) rfl (by decide) (by decide)]
  exact v53_at m c h r

theorem v57_at (h : Fin 8) (r : Fin 256) : ((V m c main_v57 : Vec Ideal S8x256 .bf16) (ix2 h r) : EReal) = ((0 : ℝ) : EReal) := by
  rw [V_unary m c 67 (y := main_v57) rfl (by decide) (by decide), V_binary m c 66 (y := main_v56) rfl (by decide) (by decide) (by decide), V_unary m c 65 (y := main_v55) rfl (by decide) (by decide)]
  refine (congrArg₂ (fun x y : EReal => x - y) (v53_at m c h r) (v54_at m c h r)).trans ?_
  rw [← EReal.coe_sub, sub_self]

/-- A key's columns beside its own. -/
def akR (h : Fin 8) (r : Fin 256) (x : Fin 128) : ℝ := if x.val = 0 then ch h * r.val else if x.val < 3 then 0 else if x.val < 6 then 1 else 0
/-- A query's rows below its own. -/
def agR (h : Fin 8) (s : Fin 256) (x : Fin 128) : ℝ := if x.val < 3 then 1 else if x.val = 3 then -(ch h * s.val) else 0

theorem v63_at (h : Fin 8) (r : Fin 256) (x : Fin 3) : ((V m c main_v63 : Vec Ideal S8x256x3 .bf16) (ix3 h r x) : EReal) = (((if x.val = 0 then ch h * r.val else 0) : ℝ) : EReal) := by
  have h44 := v44_at m c h r
  have h47 := v47_at m c h r
  have h50 := v50_at m c h r
  rw [V_nary m c 75 (y := main_v63) rfl (by decide) (by decide)]
  change concatenate S8x256x3 2 [⟨S8x256x1, (V m c main_v60 : Vec Ideal S8x256x1 .bf16)⟩, ⟨S8x256x1, (V m c main_v61 : Vec Ideal S8x256x1 .bf16)⟩, ⟨S8x256x1, (V m c main_v62 : Vec Ideal S8x256x1 .bf16)⟩] _ _ = _
  rw [V_unary m c 72 (y := main_v60) rfl (by decide) (by decide), V_unary m c 73 (y := main_v61) rfl (by decide) (by decide), V_unary m c 74 (y := main_v62) rfl (by decide) (by decide)]
  generalize V m c main_v44 = A at *
  generalize V m c main_v47 = B at *
  generalize V m c main_v50 = C at *
  pointwise
  rcases Nat.lt_or_ge x.val 1 with h1 | h1
  · rw [dif_pos h1, if_pos (by omega)]; exact h44
  · rw [dif_neg (by omega), if_neg (by omega)]
    split_ifs
    · exact h47
    · exact h50

theorem v65_at (h : Fin 8) (r : Fin 256) (x : Fin 128) : ((V m c main_v65 : Vec Ideal S8x256x128 .bf16) (ix3 h r x) : EReal) = ((akR h r x : ℝ) : EReal) := by
  have h63 := v63_at m c h r
  rw [V_nary m c 78 (y := main_v65) rfl (by decide) (by decide)]
  change concatenate S8x256x128 2 [⟨S8x256x3, (V m c main_v63 : Vec Ideal S8x256x3 .bf16)⟩, ⟨S8x256x3, (V m c main_v58 : Vec Ideal S8x256x3 .bf16)⟩, ⟨S8x256x122, (V m c main_v64 : Vec Ideal S8x256x122 .bf16)⟩] _ _ = _
  rw [V_unary m c 69 (y := main_v58) rfl (by decide) (by decide), V_unary m c 77 (y := main_v64) rfl (by decide) (by decide), V_nullary m c 68 (y := main_cst_9) rfl (by decide), V_nullary m c 76 (y := main_cst_11) rfl (by decide)]
  generalize V m c main_v63 = A at *
  pointwise
  unfold akR
  rcases Nat.lt_or_ge x.val 3 with h1 | h1
  · rw [dif_pos h1, if_pos h1]; exact h63 ⟨x.val, h1⟩
  · rw [dif_neg (by omega), if_neg (by omega), if_neg (by omega)]
    split_ifs <;> first | rfl | omega

theorem v72_at (h : Fin 8) (x : Fin 3) (r : Fin 256) : ((V m c main_v72 : Vec Ideal S8x3x256 .bf16) (ix3 h x r) : EReal) = (((if x.val = 0 then -(ch h * r.val) else 0) : ℝ) : EReal) := by
  have h44 := v51_at m c h r
  have h47 := v54_at m c h r
  have h50 := v57_at m c h r
  rw [V_nary m c 85 (y := main_v72) rfl (by decide) (by decide)]
  change concatenate S8x3x256 1 [⟨S8x1x256, (V m c main_v69 : Vec Ideal S8x1x256 .bf16)⟩, ⟨S8x1x256, (V m c main_v70 : Vec Ideal S8x1x256 .bf16)⟩, ⟨S8x1x256, (V m c main_v71 : Vec Ideal S8x1x256 .bf16)⟩] _ _ = _
  rw [V_unary m c 82 (y := main_v69) rfl (by decide) (by decide), V_unary m c 83 (y := main_v70) rfl (by decide) (by decide), V_unary m c 84 (y := main_v71) rfl (by decide) (by decide), V_unary m c 79 (y := main_v66) rfl (by decide) (by decide), V_unary m c 80 (y := main_v67) rfl (by decide) (by decide), V_unary m c 81 (y := main_v68) rfl (by decide) (by decide)]
  generalize V m c main_v51 = A at *
  generalize V m c main_v54 = B at *
  generalize V m c main_v57 = C at *
  pointwise
  rcases Nat.lt_or_ge x.val 1 with h1 | h1
  · rw [dif_pos h1, if_pos (by omega), EReal.coe_neg]; exact congrArg (fun x : EReal => -x) h44
  · rw [dif_neg (by omega), if_neg (by omega), ← neg_zero, EReal.coe_neg]
    split_ifs
    · exact congrArg (fun x : EReal => -x) h47
    · exact congrArg (fun x : EReal => -x) h50

end Cert.KernelIdeal.Attn
-- ==== Proof.BiasSum.lean ====
/-
  The attention kernel's bias columns and rows whole, and their products' sums.
-/
module

public import proofs.«01_k».proof.Proof.Bias
public import Idealize.ShloMosaic.Lib.ValueLayout

@[expose] public section

set_option maxRecDepth 16384
set_option maxHeartbeats 2000000
noncomputable section

namespace Cert.KernelIdeal.Attn
open Idealize.ShloMosaic Idealize.ShloMosaic.TcCoe Idealize.ShloMosaic.Tactic
open Cert.KernelIdeal.Gen Cert.Attn

variable (m : (ℓ : Loc nD τ sig) → Buf (Elt Ideal) ℓ) (c : Dev nD)

theorem v74_at (h : Fin 8) (x : Fin 128) (r : Fin 256) : ((V m c main_v74 : Vec Ideal S8x128x256 .bf16) (ix3 h x r) : EReal) = ((agR h r x : ℝ) : EReal) := by
  have h72 := fun x => v72_at m c h x r
  rw [V_nary m c 88 (y := main_v74) rfl (by decide) (by decide)]
  change concatenate S8x128x256 1 [⟨S8x3x256, (V m c main_v59 : Vec Ideal S8x3x256 .bf16)⟩, ⟨S8x3x256, (V m c main_v72 : Vec Ideal S8x3x256 .bf16)⟩, ⟨S8x122x256, (V m c main_v73 : Vec Ideal S8x122x256 .bf16)⟩] _ _ = _
  rw [V_unary m c 71 (y := main_v59) rfl (by decide) (by decide), V_unary m c 87 (y := main_v73) rfl (by decide) (by decide), V_nullary m c 70 (y := main_cst_10) rfl (by decide), V_nullary m c 86 (y := main_cst_12) rfl (by decide)]
  generalize V m c main_v72 = A at *
  pointwise
  split
  · next h1 =>
    have h1' : x.val < 3 := h1
    exact (by rw [agR, if_pos h1']; rfl : (1 : EReal) = ((agR h r x : ℝ) : EReal))
  · next h1 =>
    have h1' : ¬ x.val < 3 := h1
    split
    · next h2 =>
      refine (h72 ⟨x.val - 3, h2⟩).trans (congrArg Real.toEReal ?_)
      rw [agR, if_neg h1']
      exact if_congr (show x.val - 3 = 0 ↔ x.val = 3 by omega) rfl rfl
    · next h2 =>
      have h2' : ¬ x.val - 3 < 3 := h2
      exact (by rw [agR, if_neg h1', if_neg (by omega)]; rfl : (0 : EReal) = ((agR h r x : ℝ) : EReal))

theorem v78_at (h : Fin 8) (a : Fin 2) (r : Fin 256) (x : Fin 128) : ((V m c main_v78 : Vec Ideal S8x2x256x128 .bf16) (ix4 h a r x) : EReal)
    = (((if a = 0 then akR h r x else -akR h r x) : ℝ) : EReal) := by
  have h65 := v65_at m c h r x
  rw [V_binary m c 92 (y := main_v78) rfl (by decide) (by decide) (by decide), V_unary m c 90 (y := main_v76) rfl (by decide) (by decide), V_unary m c 91 (y := main_v77) rfl (by decide) (by decide), V_unary m c 89 (y := main_v75) rfl (by decide) (by decide)]
  generalize V m c main_v65 = A at *
  pointwise
  rcases (show a = 0 ∨ a = 1 by omega) with rfl | rfl
  · rw [dif_pos (by decide), if_pos rfl]; exact h65
  · rw [dif_neg (by decide), if_neg (by decide), EReal.coe_neg]; exact congrArg (fun x : EReal => -x) h65

theorem v97_at (h : Fin 8) (a : Fin 2) (r : Fin 256) (x : Fin 128) : ((V m c main_v97 : Vec Ideal S16x256x128 .bf16) (ix3 ⟨h.val * 2 + a.val, by omega⟩ r x) : EReal)
    = (((if a = 0 then akR h r x else -akR h r x) : ℝ) : EReal) := by
  have h78 := v78_at m c h a r x
  rw [V_reshape m c 112 (y := main_v97) rfl (by decide) (by decide)]
  generalize V m c main_v78 = A at *
  change shapeCast S16x256x128 (A : Vec Ideal S8x2x256x128 .bf16) _ (ix3 _ r x) = _
  refine (shapeCast_apply A _ _ (ix4 h a r x) ?_).trans h78
  exact (Shape.rowMajor_val_four (d := ![8, 2, 256, 128]) (ix4 h a r x)).trans
    (Shape.rowMajor_val_three (d := ![16, 256, 128]) (ix3 ⟨h.val * 2 + a.val, by omega⟩ r x)).symm

/-- The bias columns against the bias rows: a head's slope times the distance, one way or the other. -/
theorem aug_sum (h : Fin 8) (a : Fin 2) (r s : Fin 256) (f g : Fin 128 → EReal) (hf : ∀ x, f x = (((if a = 0 then akR h r x else -akR h r x) : ℝ) : EReal))
    (hg : ∀ x, g x = ((agR h s x : ℝ) : EReal)) : ∑ x, f x * g x = (((if a = 0 then ch h else -ch h) * ((r.val : ℝ) - s.val) : ℝ) : EReal) := by
  rw [sum_mul_coe f g _ _ hf hg]
  congr 1
  have e : ∀ x : Fin 128, akR h r x * agR h s x = (if x = 0 then ch h * r.val else 0) + (if x = 3 then -(ch h * s.val) else 0) := fun x => by
    have h0 : x = 0 ↔ x.val = 0 := Fin.ext_iff
    have h3 : x = 3 ↔ x.val = 3 := Fin.ext_iff
    unfold akR agR
    simp only [h0, h3]
    rcases (show x.val = 0 ∨ (0 < x.val ∧ x.val < 3) ∨ x.val = 3 ∨ 3 < x.val by omega) with hx | ⟨hx, hx'⟩ | hx | hx
    · simp [hx]
    · rw [if_neg (by omega : ¬ x.val = 0), if_neg (by omega : ¬ x.val = 0), if_pos hx', if_pos hx', if_neg (by omega : ¬ x.val = 3)]; ring
    · simp [hx]
    · rw [if_neg (by omega), if_neg (by omega : ¬ x.val < 3), if_neg (by omega : ¬ x.val < 3), if_neg (by omega : ¬ x.val = 3), if_neg (by omega : ¬ x.val = 0)]; split_ifs <;> ring
  have e1 : ∑ x : Fin 128, akR h r x * agR h s x = ch h * ((r.val : ℝ) - s.val) := by
    simp only [e, Finset.sum_add_distrib, Finset.sum_ite_eq', Finset.mem_univ, if_true]
    ring
  by_cases ha : a = 0
  · simp only [if_pos ha]; exact e1
  · simp only [if_neg ha, neg_mul, Finset.sum_neg_distrib, e1]

end Cert.KernelIdeal.Attn
-- ==== Proof.TileVal.lean ====
/-
  What a tile of the kernel computes, over the reals: from the numbers in its operand blocks to its result.
-/
module

public import proofs.«01_k».proof.Proof.Values
public import proofs.«01_k».proof.Proof.Reals

@[expose] public section

set_option maxRecDepth 16384
noncomputable section

namespace Cert.KernelIdeal.Attn
open Cert.KernelIdeal Cert.KernelIdeal.Facts₀
open Idealize.ShloMosaic Cert.Attn

/-! ## The value functions at an index -/

section At
variable (k : FVec Ideal S256x128 .bf16) (ak : FVec Ideal S1x256x128 .bf16) (ch : Ideal .f32) (q : FVec Ideal S128x256 .bf16)
  (ag : FVec Ideal S1x128x256 .bf16) (b : FVec Ideal S1x1x256x256 .f32) (r s : Fin 256)

/-- A place of map `h` in a head's width. -/
def mcol (h : Fin 2) (x : Fin 64) : Fin 128 := ⟨64 * h.val + x.val, by omega⟩

theorem sum_mul_zero {n : ℕ} (f : Fin n → EReal) : ∑ x, f x * 0 = 0 := by simp

theorem scOf_at0 : scOf k ak (mkQ1 ch q ag).w1 (ix2 r s)
    = ∑ x, k (ix2 r (mcol 0 x)) * q (ix2 (mcol 0 x) s) + ∑ x, ak (ix3 0 r x) * ag (ix3 0 x s) := by
  pointwise [scOf, mkQ1, lhsOf]
  rw [sum_mul_zero, add_zero]
  simp only [mcol, Fin.val_zero, mul_zero, zero_add]

theorem scOf_at1 : scOf k ak (mkQ1 ch q ag).w2 (ix2 r s)
    = ∑ x, k (ix2 r (mcol 1 x)) * q (ix2 (mcol 1 x) s) + ∑ x, ak (ix3 0 r x) * ag (ix3 0 x s) := by
  pointwise [scOf, mkQ1, lhsOf]
  rw [sum_mul_zero, zero_add]
  rfl

theorem scOwn_at0 : scOwn k b (mkQ1 ch q ag).qa (ix2 r s)
    = ∑ x, k (ix2 r (mcol 0 x)) * q (ix2 (mcol 0 x) s) + b (ix4 0 0 r s) := by
  pointwise [scOwn, mkQ1, lhsOf]
  rw [sum_mul_zero, add_zero]
  simp only [mcol, Fin.val_zero, mul_zero, zero_add]

theorem scOwn_at1 : scOwn k b (mkQ1 ch q ag).qb (ix2 r s)
    = ∑ x, k (ix2 r (mcol 1 x)) * q (ix2 (mcol 1 x) s) + b (ix4 0 0 r s) := by
  pointwise [scOwn, mkQ1, lhsOf]
  rw [sum_mul_zero, zero_add]
  rfl

theorem mxOf_real (m : FVec Ideal S8x256 .f32) (sc : FVec Ideal S256x256 .f32) (off : Ideal .f32) (hm : ∀ a c, ∃ x : ℝ, m (ix2 a c) = x)
    (hs : ∀ a c, ∃ x : ℝ, sc (ix2 a c) = x) (ho : ∃ x : ℝ, off = (x : EReal)) (a : Fin 8) (c : Fin 256) : ∃ x : ℝ, mxOf m sc off (ix2 a c) = x := by
  pointwise [mxOf]
  obtain ⟨y, hy⟩ := foldmax_real (Finset.univ : Finset (Fin 32)) (fun x => sc (ix2 ⟨x.val * 8 + a.val, by omega⟩ c)) (fun x => hs _ _) Finset.univ_nonempty
  obtain ⟨z, hz⟩ := hm a c
  obtain ⟨o, rfl⟩ := ho
  refine ⟨max z (y + o), ?_⟩
  rw [hz, lit_bot]
  refine (congrArg (fun w => max (z : EReal) (w + (o : EReal))) hy).trans ?_
  rw [← EReal.coe_add, max_coe]

theorem mRow_real (m : FVec Ideal S8x256 .f32) (hm : ∀ a c, ∃ x : ℝ, m (ix2 a c) = x) (c : Fin 256) : ∃ x : ℝ, mRow (mFin m) (ix2 0 c) = x := by
  pointwise [mRow, mFin]
  rw [lit_bot]
  exact foldmax_real _ _ (fun x => hm _ _) Finset.univ_nonempty

theorem pOf_at (t : FVec Ideal S256x256 .f32) (m : FVec Ideal S1x256 .f32) (off : Ideal .f32) :
    pOf (shapeCast S1x256x256 t shapeCasts_S256x256_S1x256x256) m off (ix2 r s) = Ideal.exp2 (t (ix2 r s) - (m (ix2 0 s) - off)) := by
  pointwise [pOf]
  rfl

theorem accOf_at (acc : FVec Ideal S144x256 .f32) (v : FVec Ideal S144x256 .bf16) (p : FVec Ideal S256x256 .bf16) (i : Fin 144) :
    accOf acc v p (ix2 i s) = acc (ix2 i s) + ∑ x, v (ix2 i x) * p (ix2 x s) := by
  pointwise [accOf]

theorem oOf_at (acc : FVec Ideal S144x256 .f32) (i : Fin 128) : oOf acc (ix2 i s) = Ideal.div (acc (ix2 ⟨i.val, by omega⟩ s)) (acc (ix2 128 s)) := by
  pointwise [oOf]

theorem dOf_at (acc : AA Ideal) (l : FVec Ideal S1x1 .f32) (i : Fin 128) : dOf acc l (ix2 i s) = oOf acc.1 (ix2 i s) - l (ix2 0 0) * oOf acc.2 (ix2 i s) := by
  pointwise [dOf]

theorem res_at (o : FVec Ideal S128x256 .f32) (gs : FVec Ideal S1x128 .f32) (D : Fin 128 → ℝ) (hD : ∀ i, o (ix2 i s) = D i) (i : Fin 128) :
    resOf (nOf o) gs (ix2 s i) = tailE D (gs (ix2 0 i)) i := by
  pointwise [nOf, resOf]
  simp only [hD]
  rfl

theorem lamOf_at (a b c d : FVec Ideal S1x64 .f32) (a' b' c' d' : Fin 64 → ℝ) (ha : ∀ i, a (ix2 0 i) = a' i) (hb : ∀ i, b (ix2 0 i) = b' i)
    (hc : ∀ i, c (ix2 0 i) = c' i) (hd : ∀ i, d (ix2 0 i) = d' i) : lamOf a b c d (ix2 0 0) = ((lamE a' b' c' d' : ℝ) : EReal) := by
  pointwise [lamOf, elOf]
  exact lamE_eq _ _ _ _ _ _ (sum_mul_coe _ _ _ _ ha hb) (sum_mul_coe _ _ _ _ hc hd)

end At

/-! ## The words -/

/-- The signed distance word as a number. -/
def side (d n : Fin 16) : ℤ :=
  if n.val < d.val then 256 * (n.val : ℤ) - 256 * d.val else if d.val < n.val then 256 * (d.val : ℤ) - 256 * n.val else 0

theorem side_eq (g : BitVec 32) (n : Fin 16) : (sideW g (BitVec.ofNat 32 n.val)).toInt = side (cd g) n := by
  rw [sideW, cdW_eq, jW_eq]
  exact (by decide +kernel : ∀ d n : Fin 16, (Scalar.muli (Scalar.select (Scalar.cmpi .sgt (BitVec.ofNat 32 d.val) (BitVec.ofNat 32 n.val)) 1#32
    (Scalar.select (Scalar.cmpi .slt (BitVec.ofNat 32 d.val) (BitVec.ofNat 32 n.val)) 4294967295#32 0#32))
    (Scalar.subi (Scalar.muli (BitVec.ofNat 32 n.val) 256#32) (BitVec.ofNat 32 (256 * d.val)))).toInt = side d n) _ _

/-! ## A tile -/

/-- The numbers in a tile's blocks: the slope, the queries, the keys, and the biases. -/
structure TileIn (X' : Blocks Ideal) (g : BitVec 32) (tile : Fin 2) (c : ℝ) (Q : Fin 128 → Fin 256 → ℝ) (K : Fin 16 → Fin 256 → Fin 128 → ℝ) : Prop where
  slope : chV X' g = (c : EReal)
  q : ∀ i s, qV X' tile (ix2 i s) = (Q i s : EReal)
  k : ∀ n r i, kV X' n (ix2 r i) = (K n r i : EReal)
  aug : ∀ (a : Fin 2) (r s : Fin 256), ∑ x, akV X' a (ix3 0 r x) * agV X' (ix3 0 x s) = (((if a = 0 then c else -c) * ((r.val : ℝ) - s.val) : ℝ) : EReal)
  own : ∀ r s, bV X' g (ix4 0 0 r s) = ((-c * |(s.val : ℝ) - r.val| : ℝ) : EReal)

variable {X X' : Blocks Ideal} {g : BitVec 32} {tile : Fin 2} {c : ℝ} {Q : Fin 128 → Fin 256 → ℝ} {K : Fin 16 → Fin 256 → Fin 128 → ℝ}

/-- The products of a key and a query of one map. -/
def dotR (Q : Fin 128 → Fin 256 → ℝ) (K : Fin 16 → Fin 256 → Fin 128 → ℝ) (h : Fin 2) (n : Fin 16) (r s : Fin 256) : ℝ :=
  ∑ x, K n r (mcol h x) * Q (mcol h x) s

/-- The bias a score is stored with. -/
def biasR (c : ℝ) (d n : Fin 16) (r s : Fin 256) : ℝ :=
  if n = d then -c * |(s.val : ℝ) - r.val| else (if aft d n = 0 then c else -c) * ((r.val : ℝ) - s.val)

theorem sc_val (H : TileIn X' g tile c Q K) (n : Fin 16) (h : Fin 2) (r s : Fin 256) :
    sc X' g (eV X' g tile) n h (ix2 r s) = ((dotR Q K h n r s + biasR c (cd g) n r s : ℝ) : EReal) := by
  unfold sc biasR eV
  have hd : ∀ h : Fin 2, ∑ x, kV X' n (ix2 r (mcol h x)) * qV X' tile (ix2 (mcol h x) s) = ((dotR Q K h n r s : ℝ) : EReal) :=
    fun h => sum_mul_coe _ _ _ _ (fun x => H.k _ _ _) (fun x => H.q _ _)
  have h2 : h = 0 ∨ h = 1 := by omega
  by_cases hn : n = cd g
  · rw [if_pos hn, if_pos hn]
    rcases h2 with rfl | rfl
    · rw [if_pos rfl, scOwn_at0, hd, H.own, ← EReal.coe_add]
    · rw [if_neg (by decide), scOwn_at1, hd, H.own, ← EReal.coe_add]
  · rw [if_neg hn, if_neg hn]
    rcases h2 with rfl | rfl
    · rw [if_pos rfl, scOf_at0, hd, H.aug, ← EReal.coe_add]
    · rw [if_neg (by decide), scOf_at1, hd, H.aug, ← EReal.coe_add]

/-- Both maxima are finite. -/
def MReal (m : MM Ideal) : Prop := (∀ a s, ∃ x : ℝ, m.1 (ix2 a s) = (x : EReal)) ∧ ∀ a s, ∃ x : ℝ, m.2 (ix2 a s) = (x : EReal)

theorem fold_keeps {α β : Type} (P : α → Prop) (f : α → β → α) (hf : ∀ a b, P a → P (f a b)) (l : List β) (a : α) (ha : P a) : P (l.foldl f a) := by
  induction l generalizing a with
  | nil => exact ha
  | cons b l ih => exact ih _ (hf _ _ ha)

theorem nextM_real (H : TileIn X' g tile c Q K) (i : Fin 15) (m : MM Ideal) (hm : MReal m) : MReal (nextM X' g (eV X' g tile) i m) := by
  have ho : ∃ x : ℝ, off1 g (BitVec.ofNat 32 i.val) (eV X' g tile).ch = (x : EReal) := by
    refine ⟨c * ((offW g (BitVec.ofNat 32 i.val)).toInt : ℝ), ?_⟩
    rw [EReal.coe_mul]
    exact congrArg (· * _) H.slope
  exact ⟨mxOf_real _ _ _ hm.1 (fun a s => ⟨_, sc_val H _ _ _ _⟩) ho, mxOf_real _ _ _ hm.2 (fun a s => ⟨_, sc_val H _ _ _ _⟩) ho⟩

theorem ownM_real (H : TileIn X' g tile c Q K) (m : MM Ideal) (hm : MReal m) : MReal (ownM X' g (eV X' g tile) m) := by
  have ho : ∃ x : ℝ, (Scalar.ofBits .f32 0x00000000#32 : Ideal .f32) = (x : EReal) := ⟨0, Ideal.ofBits_zero_f32⟩
  exact ⟨mxOf_real _ _ _ hm.1 (fun a s => ⟨_, sc_val H _ _ _ _⟩) ho, mxOf_real _ _ _ hm.2 (fun a s => ⟨_, sc_val H _ _ _ _⟩) ho⟩

theorem allM_real (H : TileIn X' g tile c Q K) : MReal (allM X' g (eV X' g tile)) := by
  refine fold_keeps _ _ (fun m i hm => nextM_real H i m hm) _ _ (ownM_real H _ (fold_keeps _ _ (fun m i hm => nextM_real H i m hm) _ _ ⟨fun a s => ?_, fun a s => ?_⟩))
  · exact lit_low
  · exact lit_low

/-! ## The weights -/

/-- The score of key `r` of chunk `n` against the query, with its bias by distance. -/
def T (c : ℝ) (Q : Fin 128 → Fin 256 → ℝ) (K : Fin 16 → Fin 256 → Fin 128 → ℝ) (d : Fin 16) (h : Fin 2) (s : Fin 256) (y : Fin 16 × Fin 256) : ℝ :=
  dotR Q K h y.1 y.2 s + -c * |(256 * (d.val : ℝ) + s.val) - (256 * (y.1.val : ℝ) + y.2.val)|

theorem bias_side (c : ℝ) (d n : Fin 16) (r s : Fin 256) :
    biasR c d n r s + c * (side d n : ℝ) = -c * |(256 * (d.val : ℝ) + s.val) - (256 * (n.val : ℝ) + r.val)| := by
  have hr : (r.val : ℝ) < 256 := by exact_mod_cast r.isLt
  have hs : (s.val : ℝ) < 256 := by exact_mod_cast s.isLt
  have hr0 : (0 : ℝ) ≤ r.val := Nat.cast_nonneg _
  have hs0 : (0 : ℝ) ≤ s.val := Nat.cast_nonneg _
  unfold biasR side aft
  rcases lt_trichotomy n.val d.val with h | h | h
  · have hne : n ≠ d := fun e => by rw [e] at h; exact lt_irrefl _ h
    have h1 : (n.val : ℝ) + 1 ≤ d.val := by exact_mod_cast h
    rw [if_neg hne, if_pos h, if_neg (show ¬ d.val < n.val by omega), if_pos rfl, abs_of_pos (by linarith)]
    push_cast
    ring
  · have he : n = d := Fin.ext h
    subst he
    rw [if_pos rfl, if_neg (lt_irrefl _), if_neg (lt_irrefl _)]
    rw [show (256 * (n.val : ℝ) + s.val) - (256 * (n.val : ℝ) + r.val) = (s.val : ℝ) - r.val by ring]
    simp
  · have hne : n ≠ d := fun e => by rw [e] at h; exact lt_irrefl _ h
    have h1 : (d.val : ℝ) + 1 ≤ n.val := by exact_mod_cast h
    rw [if_neg hne, if_neg (show ¬ n.val < d.val by omega), if_pos h, if_pos h, if_neg (by decide), abs_of_neg (by linarith)]
    push_cast
    ring

theorem rpow_two (x M : ℝ) : Real.rpow 2 (x - M) = Real.rpow 2 (-M) * Real.exp (x * Real.log 2) := by
  show (2 : ℝ) ^ (x - M) = (2 : ℝ) ^ (-M) * _
  rw [Real.rpow_def_of_pos (by norm_num), Real.rpow_def_of_pos (by norm_num), ← Real.exp_add]
  congr 1; ring

theorem p_val (H : TileIn X' g tile c Q K) (m : FVec Ideal S1x256 .f32) (M : Fin 256 → ℝ) (hM : ∀ s, m (ix2 0 s) = (M s : EReal)) (ch : Ideal .f32) (hc : ch = (c : EReal))
    (n : Fin 16) (h : Fin 2) (r s : Fin 256) :
    pOf (shapeCast S1x256x256 (sc X' g (eV X' g tile) n h) shapeCasts_S256x256_S1x256x256) m (off2 g (BitVec.ofNat 32 n.val) ch) (ix2 r s)
      = ((Real.rpow 2 (-M s) * Real.exp (T c Q K (cd g) h s (n, r) * Real.log 2) : ℝ) : EReal) := by
  have ho : off2 g (BitVec.ofNat 32 n.val) ch = ((c * (side (cd g) n : ℝ) : ℝ) : EReal) := by
    rw [EReal.coe_mul, ← side_eq, ← hc]; rfl
  rw [pOf_at, sc_val H, hM, ho, ← EReal.coe_sub, ← EReal.coe_sub, Ideal.exp2_coe, ← rpow_two]
  congr 2
  unfold T
  rw [← bias_side]
  ring

/-! ## The sums -/

theorem fold_acc (v : Fin 16 → FVec Ideal S144x256 .bf16) (P : Fin 16 → FVec Ideal S256x256 .bf16) (i : Fin 144) (s : Fin 256) (w p : Fin 16 → Fin 256 → ℝ)
    (hw : ∀ n r, v n (ix2 i r) = (w n r : EReal)) (hp : ∀ n r, P n (ix2 r s) = (p n r : EReal)) (l : List (Fin 16)) (acc : FVec Ideal S144x256 .f32) (z : ℝ)
    (hz : acc (ix2 i s) = (z : EReal)) :
    l.foldl (fun a n => accOf a (v n) (P n)) acc (ix2 i s) = ((z + (l.map fun n => ∑ r, w n r * p n r).sum : ℝ) : EReal) := by
  induction l generalizing acc z with
  | nil => simpa using hz
  | cons n l ih =>
    rw [List.foldl_cons, ih _ (z + ∑ r, w n r * p n r) (by rw [accOf_at, hz, sum_mul_coe _ _ _ _ (hw n) (hp n), ← EReal.coe_add]), List.map_cons, List.sum_cons, add_assoc]

theorem fold_fst {α : Type} (f g : FVec Ideal S144x256 .f32 → α → FVec Ideal S144x256 .f32) (l : List α) (a : AA Ideal) :
    l.foldl (fun a n => (f a.1 n, g a.2 n)) a = (l.foldl f a.1, l.foldl g a.2) := by
  induction l generalizing a with
  | nil => rfl
  | cons n l ih => rw [List.foldl_cons, ih]; rfl

theorem sum_chunks (f : Fin 16 → ℝ) : ((([0, 1, 2, 3, 4, 5, 6, 7, 8, 9, 10, 11, 12, 13, 14, 15] : List (Fin 16)).map f).sum) = ∑ n, f n := by
  rw [show ([0, 1, 2, 3, 4, 5, 6, 7, 8, 9, 10, 11, 12, 13, 14, 15] : List (Fin 16)) = List.finRange 16 by decide, Fin.sum_univ_def]

/-- What the second pass loads: the slope again, the values and the row of ones below them. -/
structure TileVals (X : Blocks Ideal) (g : BitVec 32) (c : ℝ) (V : Fin 16 → Fin 128 → Fin 256 → ℝ) : Prop where
  slope : chV X g = (c : EReal)
  v : ∀ n (i : Fin 128) r, vV X n (ix2 ⟨i.val, by omega⟩ r) = (V n i r : EReal)
  one : ∀ n r, vV X n (ix2 128 r) = ((1 : ℝ) : EReal)

variable {V : Fin 16 → Fin 128 → Fin 256 → ℝ}

/-- A map's average over the tile's keys. -/
def avgT (c : ℝ) (Q : Fin 128 → Fin 256 → ℝ) (K : Fin 16 → Fin 256 → Fin 128 → ℝ) (V : Fin 16 → Fin 128 → Fin 256 → ℝ) (d : Fin 16) (h : Fin 2) (i : Fin 128) (s : Fin 256) : ℝ :=
  avg (fun y => T c Q K d h s y * Real.log 2) (fun y => V y.1 i y.2)

theorem o_val (v : Fin 16 → FVec Ideal S144x256 .bf16) (hv : ∀ n (i : Fin 128) r, v n (ix2 ⟨i.val, by omega⟩ r) = (V n i r : EReal))
    (h1 : ∀ n r, v n (ix2 128 r) = ((1 : ℝ) : EReal)) (P : Fin 16 → FVec Ideal S256x256 .bf16) (A : ℝ) (hA : A ≠ 0) (W : Fin 16 × Fin 256 → ℝ) (s : Fin 256)
    (hp : ∀ n r, P n (ix2 r s) = ((A * Real.exp (W (n, r)) : ℝ) : EReal)) (i : Fin 128) :
    oOf (([0, 1, 2, 3, 4, 5, 6, 7, 8, 9, 10, 11, 12, 13, 14, 15] : List (Fin 16)).foldl (fun a n => accOf a (v n) (P n)) acc0) (ix2 i s)
      = ((avg W (fun y => V y.1 i y.2) : ℝ) : EReal) := by
  have h0 : ∀ i : Fin 144, (acc0 (F := Ideal)) (ix2 i s) = ((0 : ℝ) : EReal) := fun i => Ideal.ofBits_zero_f32
  rw [oOf_at, fold_acc v P _ s (fun n r => V n i r) (fun n r => A * Real.exp (W (n, r))) (fun n r => hv n i r) hp _ _ 0 (h0 _),
    fold_acc v P _ s (fun _ _ => 1) (fun n r => A * Real.exp (W (n, r))) h1 hp _ _ 0 (h0 _), sum_chunks, sum_chunks, zero_add, zero_add]
  have e1 : ∑ n, ∑ r, V n i r * (A * Real.exp (W (n, r))) = ∑ y : Fin 16 × Fin 256, V y.1 i y.2 * (A * Real.exp (W y)) := by
    rw [Fintype.sum_prod_type]
  have e2 : ∑ n : Fin 16, ∑ r : Fin 256, 1 * (A * Real.exp (W (n, r))) = ∑ y : Fin 16 × Fin 256, A * Real.exp (W y) := by
    rw [Fintype.sum_prod_type]; simp only [one_mul]
  have e3 : ∑ y : Fin 16 × Fin 256, A * Real.exp (W y) ≠ 0 := by
    rw [← Finset.mul_sum]; exact mul_ne_zero hA (sum_exp_pos _).ne'
  rw [e1, e2, Ideal.div_coe e3, ← EReal.coe_mul, mul_one_div, avg_scale _ _ _ hA]

theorem allA_eq (e : Q1 Ideal) (e2 : Q2 Ideal) : allA X X' g e e2
    = (([0, 1, 2, 3, 4, 5, 6, 7, 8, 9, 10, 11, 12, 13, 14, 15] : List (Fin 16)).foldl (fun a n => accOf a (vV X n) (pV X' g e e2 n).1) acc0,
       ([0, 1, 2, 3, 4, 5, 6, 7, 8, 9, 10, 11, 12, 13, 14, 15] : List (Fin 16)).foldl (fun a n => accOf a (vV X n) (pV X' g e e2 n).2) acc0) :=
  fold_fst (fun a n => accOf a (vV X n) (pV X' g e e2 n).1) (fun a n => accOf a (vV X n) (pV X' g e e2 n).2) _ (acc0, acc0)

/-- A tile's result. -/
theorem tile_val (H : TileIn X' g tile c Q K) (HV : TileVals X g c V) (lam : ℝ) (hl : lamV X (ix2 0 0) = (lam : EReal)) (s : Fin 256) (i : Fin 128) :
    tileV X X' g tile (ix2 s i)
      = tailE (fun i => avgT c Q K V (cd g) 0 i s - lam * avgT c Q K V (cd g) 1 i s) (gsV X (ix2 0 i)) i := by
  unfold tileV rV
  have hM := allM_real H
  choose M1 hM1 using fun s => mRow_real _ hM.1 s
  choose M2 hM2 using fun s => mRow_real _ hM.2 s
  refine res_at _ _ _ _ (fun i => ?_) _
  rw [dOf_at, allA_eq, hl]
  have hA : ∀ M : ℝ, Real.rpow 2 (-M) ≠ 0 := fun M => (Real.rpow_pos_of_pos (by norm_num) _).ne'
  refine (congrArg₂ (fun a b : EReal => a - (lam : EReal) * b)
    (o_val (V := V) (vV X) HV.v HV.one (fun n => (pV X' g (eV X' g tile) (e2V X g (allM X' g (eV X' g tile))) n).1) (Real.rpow 2 (-M1 s)) (hA _)
      (fun y => T c Q K (cd g) 0 s y * Real.log 2) s (fun n r => p_val H _ M1 hM1 _ HV.slope n 0 r s) i)
    (o_val (V := V) (vV X) HV.v HV.one (fun n => (pV X' g (eV X' g tile) (e2V X g (allM X' g (eV X' g tile))) n).2) (Real.rpow 2 (-M2 s)) (hA _)
      (fun y => T c Q K (cd g) 1 s y * Real.log 2) s (fun n r => p_val H _ M2 hM2 _ HV.slope n 1 r s) i)).trans ?_
  rw [← EReal.coe_mul, ← EReal.coe_sub]
  rfl

end Cert.KernelIdeal.Attn
-- ==== Proof.Parts.lean ====
/-
  The parts of a block that a tile reads, at an index, and a tile's averages over all positions of a sequence.
-/
module

public import proofs.«01_k».proof.Proof.TileVal
public import proofs.«01_k».proof.Proof.Body

@[expose] public section

set_option maxRecDepth 16384
noncomputable section

namespace Cert.KernelIdeal.Attn
open Idealize.ShloMosaic Idealize.ShloMosaic.TcCoe Idealize.ShloMosaic.Tactic
open Cert.KernelIdeal.Facts₀ Cert.Attn

/-! ## The words of a group's tiles -/

theorem cd_gw (k : Fin 512) (tile : Fin 2) : (cd (gw k.val tile)).val = 2 * (k.val % 8) + tile.val := by
  revert k tile; decide +kernel

theorem offC_gw (k : Fin 512) (tile : Fin 2) : offC (gw k.val tile) 0 = k.val / 8 % 8 := by
  revert k tile; decide +kernel

theorem offB_zero (g : BitVec 32) : offB g = ![0, 0, 0, 0] := by
  rw [offB, jW_eq]; generalize cd g = n; revert n; decide

/-! ## The parts at an index -/

variable (X : Blocks Ideal) (g : BitVec 32)

theorem chV_at (h : Fin 8) (hh : offC g 0 = h.val) : chV X g = X.x1 (ix1 h) := by
  show X.x1 _ = X.x1 _
  congr 1
  funext a; apply Fin.ext
  match a with
  | ⟨0, _⟩ => show offC g 0 + 1 * 0 = h.val; omega

theorem qV_at (tile : Fin 2) (i : Fin 128) (s : Fin 256) : qV X tile (ix2 i s) = X.x2 (ix2 i ⟨256 * tile.val + s.val, by omega⟩) := by
  pointwise [qV, cut]

theorem kV_at (n : Fin 16) (r : Fin 256) (i : Fin 128) : kV X n (ix2 r i) = X.x3 (ix2 ⟨256 * n.val + r.val, by omega⟩ i) := by
  pointwise [kV, cut]

theorem vV_at (n : Fin 16) (i : Fin 144) (r : Fin 256) : vV X n (ix2 i r) = X.x4 (ix2 i ⟨256 * n.val + r.val, by omega⟩) := by
  pointwise [vV, cut]

theorem akV_at (n : Fin 2) (r : Fin 256) (x : Fin 128) : akV X n (ix3 0 r x) = X.x5 (ix3 n r x) := by
  pointwise [akV, cut]

theorem agV_at (x : Fin 128) (s : Fin 256) : agV X (ix3 0 x s) = X.x6 (ix3 0 x s) := by
  pointwise [agV, cut]

theorem bV_at (r s : Fin 256) : bV X g (ix4 0 0 r s) = X.x7 (ix4 0 0 r s) := by
  have hi : ∀ a, (![0, 0, 0, 0] : Fin 4 → Nat) a + S1x1x256x256.size a ≤ S1x1x256x256.size a := by decide
  rw [bV, cut_congr (offB_zero g) _ hi]
  pointwise [cut]

theorem lV_at (Y : Vec Ideal S1x64 .f32) (j : Fin 64) : lV Y (ix2 0 j) = Y (ix2 0 j) := by
  pointwise [lV, cut]

theorem gsV_at (j : Fin 128) : gsV X (ix2 0 j) = X.x12 (ix2 0 j) := by
  pointwise [gsV, cut]

/-! ## The averages over a sequence -/

theorem avg_equiv {ι κ : Type} [Fintype ι] [Fintype κ] (e : ι ≃ κ) (S v : κ → ℝ) : avg (fun y => S (e y)) (fun y => v (e y)) = avg S v := by
  unfold avg
  rw [Equiv.sum_comp e fun y => v y * Real.exp (S y), Equiv.sum_comp e fun y => Real.exp (S y)]

/-- The key position of a chunk's row. -/
def key (n : Fin 16) (r : Fin 256) : Fin 4096 := ⟨256 * n.val + r.val, by omega⟩

/-- Chunks and rows are the positions of a sequence. -/
def keyEquiv : Fin 16 × Fin 256 ≃ Fin 4096 where
  toFun y := key y.1 y.2
  invFun s := (⟨s.val / 256, by omega⟩, ⟨s.val % 256, by omega⟩)
  left_inv y := by
    obtain ⟨n, r⟩ := y
    apply Prod.ext <;> apply Fin.ext
    · show (256 * n.val + r.val) / 256 = n.val; omega
    · show (256 * n.val + r.val) % 256 = r.val; omega
  right_inv s := by
    apply Fin.ext
    show 256 * (s.val / 256) + s.val % 256 = s.val; omega

theorem avgT_eq (q k v : Fin 8 → Fin 4096 → Fin 1024 → ℝ) (b h : Fin 8) (t : Fin 4096) (d : Fin 16) (s : Fin 256) (ht : t.val = 256 * d.val + s.val)
    (Q : Fin 128 → Fin 256 → ℝ) (hQ : ∀ i, Q i s = q b t (vcol h i) * (1 / 8 * (1 / Real.log 2))) (u : Fin 2) (i : Fin 128) :
    avgT (slope h * (1 / Real.log 2)) Q (fun n r i => k b (key n r) (vcol h i)) (fun n i r => v b (key n r) (vcol h i)) d u i s
      = avg (score q k b h u t) (fun s => v b s (vcol h i)) := by
  refine Eq.trans ?_ (avg_equiv keyEquiv _ _)
  unfold avgT
  congr 1
  funext y
  obtain ⟨n, r⟩ := y
  have h0 : Real.log 2 ≠ 0 := (Real.log_pos (by norm_num)).ne'
  have hk : ((keyEquiv (n, r)).val : ℝ) = 256 * n.val + r.val := by
    show ((256 * n.val + r.val : ℕ) : ℝ) = _
    push_cast; rfl
  have ht' : (t.val : ℝ) = 256 * d.val + s.val := by rw [ht]; push_cast; rfl
  unfold T score dotR
  rw [hk, ht']
  have hc : ∀ x, vcol h (mcol u x) = col h u x := fun x => by
    apply Fin.ext
    show h.val * 128 + (64 * u.val + x.val) = h.val * 128 + u.val * 64 + x.val
    omega
  have e : ∑ x, k b (key n r) (vcol h (mcol u x)) * Q (mcol u x) s = (∑ x, q b t (col h u x) * k b (keyEquiv (n, r)) (col h u x)) * (1 / 8) * (1 / Real.log 2) := by
    rw [mul_assoc, Finset.sum_mul]
    refine Finset.sum_congr rfl fun x _ => ?_
    rw [hQ, hc]
    show k b (key n r) _ * _ = _ * k b (key n r) _ * _
    ring
  show (_ + _) * _ = _
  rw [e]
  field_simp

end Cert.KernelIdeal.Attn
-- ==== Proof.RefFacts.lean ====
/-
  The facts the reference and the precondition state of their shapes.
-/
module

public import proofs.«01_k».proof.Defs
public import Idealize.ShloMosaic.Lib.StableHlo.Run
public import Idealize.ShloMosaic.Lib.Pipeline.Quiescent
public import Idealize.ShloMosaic.Lib.Tactic

@[expose] public section

set_option maxRecDepth 16384

noncomputable section

namespace Cert.Pre_finite
open Idealize.ShloMosaic

instance facts : Cert.Pre_finite.Facts where
  bcast_S_S8x4096x1024 := by decide
  reducesTo_S8x4096x1024_S_d0_1_2 := by decide
  h_S_ := by decide
  bcast_S_S1x64 := by decide
  reducesTo_S1x64_S_d0_1 := by decide

end Cert.Pre_finite

namespace Cert.ReferenceIdeal
open Idealize.ShloMosaic

instance facts₀ : Cert.ReferenceIdeal.Facts₀ where
  shapeCasts_S8x4096x1024_S8x4096x8x2x64 := by decide
  shapeCasts_S8x4096x1024_S8x4096x8x128 := by decide
  shapeCasts_S1x64_S64 := by decide
  reducesTo_S64_S_d0 := by decide
  h_S_ := by decide
  bcast_S_S8 := by decide
  bcast_S8_S8x1x1_0 := by decide
  bcast_S4096_S4096x1_0 := by decide
  bcast_S4096_S1x4096_1 := by decide
  bcast_S4096x1_S4096x4096_0_1 := by decide
  bcast_S1x4096_S4096x4096_0_1 := by decide
  bcast_S4096x4096_S1x4096x4096_1_2 := by decide
  bcast_S8x1x1_S8x4096x4096_0_1_2 := by decide
  bcast_S1x4096x4096_S8x4096x4096_0_1_2 := by decide
  bcast_S_S8x8x2x4096x4096 := by decide
  bcast_S8x4096x4096_S1x8x1x4096x4096_1_3_4 := by decide
  bcast_S1x8x1x4096x4096_S8x8x2x4096x4096_0_1_2_3_4 := by decide
  reducesTo_S8x8x2x4096x4096_S8x8x2x4096_d4 := by decide
  bcast_S_S8x8x2x4096 := by decide
  bcast_S8x8x2x4096_S8x8x2x4096x1_0_1_2_3 := by decide
  bcast_S8x8x2x4096x1_S8x8x2x4096x4096_0_1_2_3_4 := by decide
  slices_S8x8x2x4096x4096_S8x8x1x4096x4096_0_0_0_0_0 := by decide
  shapeCasts_S8x8x1x4096x4096_S8x8x4096x4096 := by decide
  slices_S8x8x2x4096x4096_S8x8x1x4096x4096_0_0_1_0_0 := by decide
  bcast_S_S8x8x4096x4096 := by decide
  transposes_S8x8x128x4096_S8x4096x8x128_0_3_1_2 := by decide
  shapeCasts_S1x128_S128 := by decide
  reducesTo_S8x4096x8x128_S8x4096x8_d3 := by decide
  bcast_S8x4096x8_S8x4096x8x1_0_1_2 := by decide
  bcast_S_S8x4096x8x1 := by decide
  bcast_S8x4096x8x1_S8x4096x8x128_0_1_2_3 := by decide
  bcast_S128_S1x1x1x128_3 := by decide
  bcast_S1x1x1x128_S8x4096x8x128_0_1_2_3 := by decide
  bcast_S_S8x4096x8x128 := by decide
  shapeCasts_S8x4096x8x128_S32768x1024 := by decide
  bitsLt_bf16_f32 := by decide
  dot_S8x4096x8x2x64_S8x4096x8x2x64_S8x8x2x4096x4096_4_4_1_1_023_023_wf := by decide
  dot_S8x4096x8x128_S8x8x4096x4096_S8x8x128x4096_1_3_3_2_02_01_wf := by decide

instance facts : Cert.ReferenceIdeal.Facts where

end Cert.ReferenceIdeal
-- ==== Proof.Ref.lean ====
/-
  The reference's run: its result as the composition of its stages.
-/
module

public import proofs.«01_k».proof.Proof.RefFacts
public import Idealize.ShloMosaic.Lib.StableHlo.Run
public import Idealize.ShloMosaic.Lib.Pipeline.Quiescent
public import Idealize.ShloMosaic.Lib.Tactic

@[expose] public section

set_option maxRecDepth 16384

noncomputable section

namespace Cert.ReferenceIdeal.Ref

open Cert.ReferenceIdeal Cert.ReferenceIdeal.Facts₀
open Idealize.ShloMosaic Idealize.ShloMosaic.TcCoe Idealize.ShloMosaic.StableHlo Idealize.SL.Sem

variable {F : FTy → Type} [FloatOps F]

/-! ## The stages -/

/-- The scalar λ. -/
def refLam (arg3 : FVec F S1x64 .f32) (arg4 : FVec F S1x64 .f32) (arg5 : FVec F S1x64 .f32) (arg6 : FVec F S1x64 .f32) : FVec F S_ .f32 :=
  let v3 : FVec F S64 .f32 := shapeCast S64 arg3 shapeCasts_S1x64_S64
  let v4 : FVec F S64 .f32 := shapeCast S64 arg4 shapeCasts_S1x64_S64
  let v5 : FVec F S64 .f32 := mulf v3 v4
  let cst : FVec F S_ .f32 := constant S_ .f32 0x00000000#32
  let v6 : FVec F S_ .f32 := ((fun x v => Host.reduceAdd x v reducesTo_S64_S_d0 h_S_)) v5 cst
  let v7 : FVec F S_ .f32 := Host.exp v6
  let v8 : FVec F S64 .f32 := shapeCast S64 arg5 shapeCasts_S1x64_S64
  let v9 : FVec F S64 .f32 := shapeCast S64 arg6 shapeCasts_S1x64_S64
  let v10 : FVec F S64 .f32 := mulf v8 v9
  let cst_0 : FVec F S_ .f32 := constant S_ .f32 0x00000000#32
  let v11 : FVec F S_ .f32 := ((fun x v => Host.reduceAdd x v reducesTo_S64_S_d0 h_S_)) v10 cst_0
  let v12 : FVec F S_ .f32 := Host.exp v11
  let v13 : FVec F S_ .f32 := subf v7 v12
  let cst_1 : FVec F S_ .f32 := constant S_ .f32 0x3E4CCCCD#32
  addf v13 cst_1

/-- The distance bias. -/
def refBias : FVec F S8x4096x4096 .f32 :=
  let v15 : FVec F S4096 .f32 := sitofp .f32 (iotaInDim S4096 32 0)
  let v16 : FVec F S8 .f32 := sitofp .f32 (iotaInDim S8 32 0)
  let cst_2 : FVec F S_ .f32 := constant S_ .f32 0x3F800000#32
  let v17 : FVec F S8 .f32 := (broadcastInDim S8 ![] bcast_S_S8) cst_2
  let v18 : FVec F S8 .f32 := addf v17 v16
  let cst_3 : FVec F S_ .f32 := constant S_ .f32 0xC1000000#32
  let v19 : FVec F S8 .f32 := (broadcastInDim S8 ![] bcast_S_S8) cst_3
  let v20 : FVec F S8 .f32 := mulf v19 v18
  let cst_4 : FVec F S_ .f32 := constant S_ .f32 0x41000000#32
  let v21 : FVec F S8 .f32 := (broadcastInDim S8 ![] bcast_S_S8) cst_4
  let v22 : FVec F S8 .f32 := Host.divf v20 v21
  let cst_5 : FVec F S_ .f32 := constant S_ .f32 0x40000000#32
  let v23 : FVec F S8 .f32 := (broadcastInDim S8 ![] bcast_S_S8) cst_5
  let v24 : FVec F S8 .f32 := Host.powf v23 v22
  let v25 : FVec F S8x1x1 .f32 := (broadcastInDim S8x1x1 ![0] bcast_S8_S8x1x1_0) v24
  let v26 : FVec F S8x1x1 .f32 := Host.negf v25
  let v27 : FVec F S4096x1 .f32 := (broadcastInDim S4096x1 ![0] bcast_S4096_S4096x1_0) v15
  let v28 : FVec F S1x4096 .f32 := (broadcastInDim S1x4096 ![1] bcast_S4096_S1x4096_1) v15
  let v29 : FVec F S4096x4096 .f32 := (broadcastInDim S4096x4096 ![0, 1] bcast_S4096x1_S4096x4096_0_1) v27
  let v30 : FVec F S4096x4096 .f32 := (broadcastInDim S4096x4096 ![0, 1] bcast_S1x4096_S4096x4096_0_1) v28
  let v31 : FVec F S4096x4096 .f32 := subf v29 v30
  let v32 : FVec F S4096x4096 .f32 := Host.absf v31
  let v33 : FVec F S1x4096x4096 .f32 := (broadcastInDim S1x4096x4096 ![1, 2] bcast_S4096x4096_S1x4096x4096_1_2) v32
  let v34 : FVec F S8x4096x4096 .f32 := (broadcastInDim S8x4096x4096 ![0, 1, 2] bcast_S8x1x1_S8x4096x4096_0_1_2) v26
  let v35 : FVec F S8x4096x4096 .f32 := (broadcastInDim S8x4096x4096 ![0, 1, 2] bcast_S1x4096x4096_S8x4096x4096_0_1_2) v33
  mulf v34 v35

/-- The biased scores. -/
def refScore (arg0 : FVec F S8x4096x1024 .f32) (arg1 : FVec F S8x4096x1024 .f32) (v36 : FVec F S8x4096x4096 .f32) : FVec F S8x8x2x4096x4096 .f32 :=
  let v0 : FVec F S8x4096x8x2x64 .f32 := shapeCast S8x4096x8x2x64 arg0 shapeCasts_S8x4096x1024_S8x4096x8x2x64
  let v1 : FVec F S8x4096x8x2x64 .f32 := shapeCast S8x4096x8x2x64 arg1 shapeCasts_S8x4096x1024_S8x4096x8x2x64
  let v37 : FVec F S8x8x2x4096x4096 .f32 := ((fun l r => Host.dotGeneral dot_S8x4096x8x2x64_S8x4096x8x2x64_S8x8x2x4096x4096_4_4_1_1_023_023 none l r)) v0 v1
  let cst_6 : FVec F S_ .f32 := constant S_ .f32 0x3E000000#32
  let v38 : FVec F S8x8x2x4096x4096 .f32 := (broadcastInDim S8x8x2x4096x4096 ![] bcast_S_S8x8x2x4096x4096) cst_6
  let v39 : FVec F S8x8x2x4096x4096 .f32 := mulf v37 v38
  let v40 : FVec F S1x8x1x4096x4096 .f32 := (broadcastInDim S1x8x1x4096x4096 ![1, 3, 4] bcast_S8x4096x4096_S1x8x1x4096x4096_1_3_4) v36
  let v41 : FVec F S8x8x2x4096x4096 .f32 := (broadcastInDim S8x8x2x4096x4096 ![0, 1, 2, 3, 4] bcast_S1x8x1x4096x4096_S8x8x2x4096x4096_0_1_2_3_4) v40
  addf v39 v41

/-- The scores' maxima over the keys. -/
def refMax (v42 : FVec F S8x8x2x4096x4096 .f32) : FVec F S8x8x2x4096 .f32 :=
  let cst_7 : FVec F S_ .f32 := constant S_ .f32 0xFF800000#32
  let v43 : FVec F S8x8x2x4096 .f32 := ((fun x v => Host.reduce FloatOps.maximumf x v reducesTo_S8x8x2x4096x4096_S8x8x2x4096_d4 h_S_)) v42 cst_7
  let cst_8 : FVec F S_ .f32 := constant S_ .f32 0xFF800000#32
  let v44 : FVec F S8x8x2x4096 .f32 := (broadcastInDim S8x8x2x4096 ![] bcast_S_S8x8x2x4096) cst_8
  maximumf v44 v43

/-- The softmax over the keys, from the scores and their maxima. -/
def refSoft (v42 : FVec F S8x8x2x4096x4096 .f32) (v45 : FVec F S8x8x2x4096 .f32) : FVec F S8x8x2x4096x4096 .f32 :=
  let v46 : FVec F S8x8x2x4096x1 .f32 := (broadcastInDim S8x8x2x4096x1 ![0, 1, 2, 3] bcast_S8x8x2x4096_S8x8x2x4096x1_0_1_2_3) v45
  let v47 : FVec F S8x8x2x4096x4096 .f32 := (broadcastInDim S8x8x2x4096x4096 ![0, 1, 2, 3, 4] bcast_S8x8x2x4096x1_S8x8x2x4096x4096_0_1_2_3_4) v46
  let v48 : FVec F S8x8x2x4096x4096 .f32 := subf v42 v47
  let v49 : FVec F S8x8x2x4096x4096 .f32 := Host.exp v48
  let cst_9 : FVec F S_ .f32 := constant S_ .f32 0x00000000#32
  let v50 : FVec F S8x8x2x4096 .f32 := ((fun x v => Host.reduceAdd x v reducesTo_S8x8x2x4096x4096_S8x8x2x4096_d4 h_S_)) v49 cst_9
  let v51 : FVec F S8x8x2x4096x1 .f32 := (broadcastInDim S8x8x2x4096x1 ![0, 1, 2, 3] bcast_S8x8x2x4096_S8x8x2x4096x1_0_1_2_3) v50
  let v52 : FVec F S8x8x2x4096x4096 .f32 := (broadcastInDim S8x8x2x4096x4096 ![0, 1, 2, 3, 4] bcast_S8x8x2x4096x1_S8x8x2x4096x4096_0_1_2_3_4) v51
  Host.divf v49 v52

/-- The mixed values. -/
def refMix (arg2 : FVec F S8x4096x1024 .f32) (v14 : FVec F S_ .f32) (v53 : FVec F S8x8x2x4096x4096 .f32) : FVec F S8x4096x8x128 .f32 :=
  let v2 : FVec F S8x4096x8x128 .f32 := shapeCast S8x4096x8x128 arg2 shapeCasts_S8x4096x1024_S8x4096x8x128
  let v54 : FVec F S8x8x1x4096x4096 .f32 := ((extractStridedSlice S8x8x1x4096x4096 ![0, 0, 0, 0, 0] · slices_S8x8x2x4096x4096_S8x8x1x4096x4096_0_0_0_0_0)) v53
  let v55 : FVec F S8x8x4096x4096 .f32 := shapeCast S8x8x4096x4096 v54 shapeCasts_S8x8x1x4096x4096_S8x8x4096x4096
  let v56 : FVec F S8x8x1x4096x4096 .f32 := ((extractStridedSlice S8x8x1x4096x4096 ![0, 0, 1, 0, 0] · slices_S8x8x2x4096x4096_S8x8x1x4096x4096_0_0_1_0_0)) v53
  let v57 : FVec F S8x8x4096x4096 .f32 := shapeCast S8x8x4096x4096 v56 shapeCasts_S8x8x1x4096x4096_S8x8x4096x4096
  let v58 : FVec F S8x8x4096x4096 .f32 := (broadcastInDim S8x8x4096x4096 ![] bcast_S_S8x8x4096x4096) v14
  let v59 : FVec F S8x8x4096x4096 .f32 := mulf v58 v57
  let v60 : FVec F S8x8x4096x4096 .f32 := subf v55 v59
  let v61 : FVec F S8x8x128x4096 .f32 := ((fun l r => Host.dotGeneral dot_S8x4096x8x128_S8x8x4096x4096_S8x8x128x4096_1_3_3_2_02_01 none l r)) v2 v60
  ((transpose S8x4096x8x128 [0, 3, 1, 2] · transposes_S8x8x128x4096_S8x4096x8x128_0_3_1_2)) v61

/-- The normalised result. -/
def refNorm (arg7 : FVec F S1x128 .f32) (v62 : FVec F S8x4096x8x128 .f32) : FVec F S32768x1024 .bf16 :=
  let v63 : FVec F S128 .f32 := shapeCast S128 arg7 shapeCasts_S1x128_S128
  let v64 : FVec F S8x4096x8x128 .f32 := mulf v62 v62
  let cst_10 : FVec F S_ .f32 := constant S_ .f32 0x00000000#32
  let v65 : FVec F S8x4096x8 .f32 := ((fun x v => Host.reduceAdd x v reducesTo_S8x4096x8x128_S8x4096x8_d3 h_S_)) v64 cst_10
  let v66 : FVec F S8x4096x8x1 .f32 := (broadcastInDim S8x4096x8x1 ![0, 1, 2] bcast_S8x4096x8_S8x4096x8x1_0_1_2) v65
  let cst_11 : FVec F S_ .f32 := constant S_ .f32 0x43000000#32
  let v67 : FVec F S8x4096x8x1 .f32 := (broadcastInDim S8x4096x8x1 ![] bcast_S_S8x4096x8x1) cst_11
  let v68 : FVec F S8x4096x8x1 .f32 := Host.divf v66 v67
  let cst_12 : FVec F S_ .f32 := constant S_ .f32 0x358637BD#32
  let v69 : FVec F S8x4096x8x1 .f32 := (broadcastInDim S8x4096x8x1 ![] bcast_S_S8x4096x8x1) cst_12
  let v70 : FVec F S8x4096x8x1 .f32 := addf v68 v69
  let v71 : FVec F S8x4096x8x1 .f32 := Host.rsqrt v70
  let v72 : FVec F S8x4096x8x128 .f32 := (broadcastInDim S8x4096x8x128 ![0, 1, 2, 3] bcast_S8x4096x8x1_S8x4096x8x128_0_1_2_3) v71
  let v73 : FVec F S8x4096x8x128 .f32 := mulf v62 v72
  let v74 : FVec F S1x1x1x128 .f32 := (broadcastInDim S1x1x1x128 ![3] bcast_S128_S1x1x1x128_3) v63
  let v75 : FVec F S8x4096x8x128 .f32 := (broadcastInDim S8x4096x8x128 ![0, 1, 2, 3] bcast_S1x1x1x128_S8x4096x8x128_0_1_2_3) v74
  let v76 : FVec F S8x4096x8x128 .f32 := mulf v73 v75
  let cst_13 : FVec F S_ .f32 := constant S_ .f32 0x3F4CCCCD#32
  let v77 : FVec F S8x4096x8x128 .f32 := (broadcastInDim S8x4096x8x128 ![] bcast_S_S8x4096x8x128) cst_13
  let v78 : FVec F S8x4096x8x128 .f32 := mulf v76 v77
  let v79 : FVec F S32768x1024 .f32 := shapeCast S32768x1024 v78 shapeCasts_S8x4096x8x128_S32768x1024
  ((truncf .bf16 · bitsLt_bf16_f32)) v79

/-- The reference's result. -/
def refOut (arg0 : FVec F S8x4096x1024 .f32) (arg1 : FVec F S8x4096x1024 .f32) (arg2 : FVec F S8x4096x1024 .f32) (arg3 : FVec F S1x64 .f32) (arg4 : FVec F S1x64 .f32) (arg5 : FVec F S1x64 .f32) (arg6 : FVec F S1x64 .f32) (arg7 : FVec F S1x128 .f32) : FVec F S32768x1024 .bf16 :=
  refNorm arg7 (refMix arg2 (refLam arg3 arg4 arg5 arg6) (refSoft (refScore arg0 arg1 refBias) (refMax (refScore arg0 arg1 refBias))))

/-! ## The run -/

/-- @main's operations, in order. -/
abbrev ops : List (HloOp τ sig (Elt F)) :=
  [ StableHlo.reshape main_arg0 main_v0 (rfl : (.f32 : EltTy) = .f32) shapeCasts_S8x4096x1024_S8x4096x8x2x64,
    StableHlo.reshape main_arg1 main_v1 (rfl : (.f32 : EltTy) = .f32) shapeCasts_S8x4096x1024_S8x4096x8x2x64,
    StableHlo.reshape main_arg2 main_v2 (rfl : (.f32 : EltTy) = .f32) shapeCasts_S8x4096x1024_S8x4096x8x128,
    StableHlo.reshape main_arg3 main_v3 (rfl : (.f32 : EltTy) = .f32) shapeCasts_S1x64_S64,
    StableHlo.reshape main_arg4 main_v4 (rfl : (.f32 : EltTy) = .f32) shapeCasts_S1x64_S64,
    StableHlo.binary main_v3 main_v4 main_v5 (mulf : (⟨S64, .f32⟩ : BufTy).Contents (Elt F) → (⟨S64, .f32⟩ : BufTy).Contents (Elt F) → (⟨S64, .f32⟩ : BufTy).Contents (Elt F)),
    StableHlo.nullary main_cst (constant S_ .f32 0x00000000#32),
    StableHlo.binary main_v5 main_cst main_v6 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.unary main_v6 main_v7 (Host.exp : (⟨S_, .f32⟩ : BufTy).Contents (Elt F) → (⟨S_, .f32⟩ : BufTy).Contents (Elt F)),
    StableHlo.reshape main_arg5 main_v8 (rfl : (.f32 : EltTy) = .f32) shapeCasts_S1x64_S64,
    StableHlo.reshape main_arg6 main_v9 (rfl : (.f32 : EltTy) = .f32) shapeCasts_S1x64_S64,
    StableHlo.binary main_v8 main_v9 main_v10 (mulf : (⟨S64, .f32⟩ : BufTy).Contents (Elt F) → (⟨S64, .f32⟩ : BufTy).Contents (Elt F) → (⟨S64, .f32⟩ : BufTy).Contents (Elt F)),
    StableHlo.nullary main_cst_0 (constant S_ .f32 0x00000000#32),
    StableHlo.binary main_v10 main_cst_0 main_v11 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.unary main_v11 main_v12 (Host.exp : (⟨S_, .f32⟩ : BufTy).Contents (Elt F) → (⟨S_, .f32⟩ : BufTy).Contents (Elt F)),
    StableHlo.binary main_v7 main_v12 main_v13 (subf : (⟨S_, .f32⟩ : BufTy).Contents (Elt F) → (⟨S_, .f32⟩ : BufTy).Contents (Elt F) → (⟨S_, .f32⟩ : BufTy).Contents (Elt F)),
    StableHlo.nullary main_cst_1 (constant S_ .f32 0x3E4CCCCD#32),
    StableHlo.binary main_v13 main_cst_1 main_v14 (addf : (⟨S_, .f32⟩ : BufTy).Contents (Elt F) → (⟨S_, .f32⟩ : BufTy).Contents (Elt F) → (⟨S_, .f32⟩ : BufTy).Contents (Elt F)),
    StableHlo.nullary main_v15 (sitofp .f32 (iotaInDim S4096 32 0)),
    StableHlo.nullary main_v16 (sitofp .f32 (iotaInDim S8 32 0)),
    StableHlo.nullary main_cst_2 (constant S_ .f32 0x3F800000#32),
    StableHlo.unary main_cst_2 main_v17 (broadcastInDim S8 ![] bcast_S_S8 : (⟨S_, .f32⟩ : BufTy).Contents (Elt F) → (⟨S8, .f32⟩ : BufTy).Contents (Elt F)),
    StableHlo.binary main_v17 main_v16 main_v18 (addf : (⟨S8, .f32⟩ : BufTy).Contents (Elt F) → (⟨S8, .f32⟩ : BufTy).Contents (Elt F) → (⟨S8, .f32⟩ : BufTy).Contents (Elt F)),
    StableHlo.nullary main_cst_3 (constant S_ .f32 0xC1000000#32),
    StableHlo.unary main_cst_3 main_v19 (broadcastInDim S8 ![] bcast_S_S8 : (⟨S_, .f32⟩ : BufTy).Contents (Elt F) → (⟨S8, .f32⟩ : BufTy).Contents (Elt F)),
    StableHlo.binary main_v19 main_v18 main_v20 (mulf : (⟨S8, .f32⟩ : BufTy).Contents (Elt F) → (⟨S8, .f32⟩ : BufTy).Contents (Elt F) → (⟨S8, .f32⟩ : BufTy).Contents (Elt F)),
    StableHlo.nullary main_cst_4 (constant S_ .f32 0x41000000#32),
    StableHlo.unary main_cst_4 main_v21 (broadcastInDim S8 ![] bcast_S_S8 : (⟨S_, .f32⟩ : BufTy).Contents (Elt F) → (⟨S8, .f32⟩ : BufTy).Contents (Elt F)),
    StableHlo.binary main_v20 main_v21 main_v22 (Host.divf : (⟨S8, .f32⟩ : BufTy).Contents (Elt F) → (⟨S8, .f32⟩ : BufTy).Contents (Elt F) → (⟨S8, .f32⟩ : BufTy).Contents (Elt F)),
    StableHlo.nullary main_cst_5 (constant S_ .f32 0x40000000#32),
    StableHlo.unary main_cst_5 main_v23 (broadcastInDim S8 ![] bcast_S_S8 : (⟨S_, .f32⟩ : BufTy).Contents (Elt F) → (⟨S8, .f32⟩ : BufTy).Contents (Elt F)),
    StableHlo.binary main_v23 main_v22 main_v24 (Host.powf : (⟨S8, .f32⟩ : BufTy).Contents (Elt F) → (⟨S8, .f32⟩ : BufTy).Contents (Elt F) → (⟨S8, .f32⟩ : BufTy).Contents (Elt F)),
    StableHlo.unary main_v24 main_v25 (broadcastInDim S8x1x1 ![0] bcast_S8_S8x1x1_0 : (⟨S8, .f32⟩ : BufTy).Contents (Elt F) → (⟨S8x1x1, .f32⟩ : BufTy).Contents (Elt F)),
    StableHlo.unary main_v25 main_v26 (Host.negf : (⟨S8x1x1, .f32⟩ : BufTy).Contents (Elt F) → (⟨S8x1x1, .f32⟩ : BufTy).Contents (Elt F)),
    StableHlo.unary main_v15 main_v27 (broadcastInDim S4096x1 ![0] bcast_S4096_S4096x1_0 : (⟨S4096, .f32⟩ : BufTy).Contents (Elt F) → (⟨S4096x1, .f32⟩ : BufTy).Contents (Elt F)),
    StableHlo.unary main_v15 main_v28 (broadcastInDim S1x4096 ![1] bcast_S4096_S1x4096_1 : (⟨S4096, .f32⟩ : BufTy).Contents (Elt F) → (⟨S1x4096, .f32⟩ : BufTy).Contents (Elt F)),
    StableHlo.unary main_v27 main_v29 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v28 main_v30 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v29 main_v30 main_v31 (subf : (⟨S4096x4096, .f32⟩ : BufTy).Contents (Elt F) → (⟨S4096x4096, .f32⟩ : BufTy).Contents (Elt F) → (⟨S4096x4096, .f32⟩ : BufTy).Contents (Elt F)),
    StableHlo.unary main_v31 main_v32 (Host.absf : (⟨S4096x4096, .f32⟩ : BufTy).Contents (Elt F) → (⟨S4096x4096, .f32⟩ : BufTy).Contents (Elt F)),
    StableHlo.unary main_v32 main_v33 (broadcastInDim S1x4096x4096 ![1, 2] bcast_S4096x4096_S1x4096x4096_1_2 : (⟨S4096x4096, .f32⟩ : BufTy).Contents (Elt F) → (⟨S1x4096x4096, .f32⟩ : BufTy).Contents (Elt F)),
    StableHlo.unary main_v26 main_v34 (broadcastInDim S8x4096x4096 ![0, 1, 2] bcast_S8x1x1_S8x4096x4096_0_1_2 : (⟨S8x1x1, .f32⟩ : BufTy).Contents (Elt F) → (⟨S8x4096x4096, .f32⟩ : BufTy).Contents (Elt F)),
    StableHlo.unary main_v33 main_v35 (broadcastInDim S8x4096x4096 ![0, 1, 2] bcast_S1x4096x4096_S8x4096x4096_0_1_2 : (⟨S1x4096x4096, .f32⟩ : BufTy).Contents (Elt F) → (⟨S8x4096x4096, .f32⟩ : BufTy).Contents (Elt F)),
    StableHlo.binary main_v34 main_v35 main_v36 (mulf : (⟨S8x4096x4096, .f32⟩ : BufTy).Contents (Elt F) → (⟨S8x4096x4096, .f32⟩ : BufTy).Contents (Elt F) → (⟨S8x4096x4096, .f32⟩ : BufTy).Contents (Elt F)),
    StableHlo.binary main_v0 main_v1 main_v37 ((fun l r => Host.dotGeneral dot_S8x4096x8x2x64_S8x4096x8x2x64_S8x8x2x4096x4096_4_4_1_1_023_023 none l r) : (⟨S8x4096x8x2x64, .f32⟩ : BufTy).Contents (Elt F) → (⟨S8x4096x8x2x64, .f32⟩ : BufTy).Contents (Elt F) → (⟨S8x8x2x4096x4096, .f32⟩ : BufTy).Contents (Elt F)),
    StableHlo.nullary main_cst_6 (constant S_ .f32 0x3E000000#32),
    StableHlo.unary main_cst_6 main_v38 (broadcastInDim S8x8x2x4096x4096 ![] bcast_S_S8x8x2x4096x4096 : (⟨S_, .f32⟩ : BufTy).Contents (Elt F) → (⟨S8x8x2x4096x4096, .f32⟩ : BufTy).Contents (Elt F)),
    StableHlo.binary main_v37 main_v38 main_v39 (mulf : (⟨S8x8x2x4096x4096, .f32⟩ : BufTy).Contents (Elt F) → (⟨S8x8x2x4096x4096, .f32⟩ : BufTy).Contents (Elt F) → (⟨S8x8x2x4096x4096, .f32⟩ : BufTy).Contents (Elt F)),
    StableHlo.unary main_v36 main_v40 (broadcastInDim S1x8x1x4096x4096 ![1, 3, 4] bcast_S8x4096x4096_S1x8x1x4096x4096_1_3_4 : (⟨S8x4096x4096, .f32⟩ : BufTy).Contents (Elt F) → (⟨S1x8x1x4096x4096, .f32⟩ : BufTy).Contents (Elt F)),
    StableHlo.unary main_v40 main_v41 (broadcastInDim S8x8x2x4096x4096 ![0, 1, 2, 3, 4] bcast_S1x8x1x4096x4096_S8x8x2x4096x4096_0_1_2_3_4 : (⟨S1x8x1x4096x4096, .f32⟩ : BufTy).Contents (Elt F) → (⟨S8x8x2x4096x4096, .f32⟩ : BufTy).Contents (Elt F)),
    StableHlo.binary main_v39 main_v41 main_v42 (addf : (⟨S8x8x2x4096x4096, .f32⟩ : BufTy).Contents (Elt F) → (⟨S8x8x2x4096x4096, .f32⟩ : BufTy).Contents (Elt F) → (⟨S8x8x2x4096x4096, .f32⟩ : BufTy).Contents (Elt F)),
    StableHlo.nullary main_cst_7 (constant S_ .f32 0xFF800000#32),
    StableHlo.binary main_v42 main_cst_7 main_v43 ((fun x v => Host.reduce FloatOps.maximumf x v reducesTo_S8x8x2x4096x4096_S8x8x2x4096_d4 h_S_) : (⟨S8x8x2x4096x4096, .f32⟩ : BufTy).Contents (Elt F) → (⟨S_, .f32⟩ : BufTy).Contents (Elt F) → (⟨S8x8x2x4096, .f32⟩ : BufTy).Contents (Elt F)),
    StableHlo.nullary main_cst_8 (constant S_ .f32 0xFF800000#32),
    StableHlo.unary main_cst_8 main_v44 (broadcastInDim S8x8x2x4096 ![] bcast_S_S8x8x2x4096 : (⟨S_, .f32⟩ : BufTy).Contents (Elt F) → (⟨S8x8x2x4096, .f32⟩ : BufTy).Contents (Elt F)),
    StableHlo.binary main_v44 main_v43 main_v45 (maximumf : (⟨S8x8x2x4096, .f32⟩ : BufTy).Contents (Elt F) → (⟨S8x8x2x4096, .f32⟩ : BufTy).Contents (Elt F) → (⟨S8x8x2x4096, .f32⟩ : BufTy).Contents (Elt F)),
    StableHlo.unary main_v45 main_v46 (broadcastInDim S8x8x2x4096x1 ![0, 1, 2, 3] bcast_S8x8x2x4096_S8x8x2x4096x1_0_1_2_3 : (⟨S8x8x2x4096, .f32⟩ : BufTy).Contents (Elt F) → (⟨S8x8x2x4096x1, .f32⟩ : BufTy).Contents (Elt F)),
    StableHlo.unary main_v46 main_v47 (broadcastInDim S8x8x2x4096x4096 ![0, 1, 2, 3, 4] bcast_S8x8x2x4096x1_S8x8x2x4096x4096_0_1_2_3_4 : (⟨S8x8x2x4096x1, .f32⟩ : BufTy).Contents (Elt F) → (⟨S8x8x2x4096x4096, .f32⟩ : BufTy).Contents (Elt F)),
    StableHlo.binary main_v42 main_v47 main_v48 (subf : (⟨S8x8x2x4096x4096, .f32⟩ : BufTy).Contents (Elt F) → (⟨S8x8x2x4096x4096, .f32⟩ : BufTy).Contents (Elt F) → (⟨S8x8x2x4096x4096, .f32⟩ : BufTy).Contents (Elt F)),
    StableHlo.unary main_v48 main_v49 (Host.exp : (⟨S8x8x2x4096x4096, .f32⟩ : BufTy).Contents (Elt F) → (⟨S8x8x2x4096x4096, .f32⟩ : BufTy).Contents (Elt F)),
    StableHlo.nullary main_cst_9 (constant S_ .f32 0x00000000#32),
    StableHlo.binary main_v49 main_cst_9 main_v50 ((fun x v => Host.reduceAdd x v reducesTo_S8x8x2x4096x4096_S8x8x2x4096_d4 h_S_) : (⟨S8x8x2x4096x4096, .f32⟩ : BufTy).Contents (Elt F) → (⟨S_, .f32⟩ : BufTy).Contents (Elt F) → (⟨S8x8x2x4096, .f32⟩ : BufTy).Contents (Elt F)),
    StableHlo.unary main_v50 main_v51 (broadcastInDim S8x8x2x4096x1 ![0, 1, 2, 3] bcast_S8x8x2x4096_S8x8x2x4096x1_0_1_2_3 : (⟨S8x8x2x4096, .f32⟩ : BufTy).Contents (Elt F) → (⟨S8x8x2x4096x1, .f32⟩ : BufTy).Contents (Elt F)),
    StableHlo.unary main_v51 main_v52 (broadcastInDim S8x8x2x4096x4096 ![0, 1, 2, 3, 4] bcast_S8x8x2x4096x1_S8x8x2x4096x4096_0_1_2_3_4 : (⟨S8x8x2x4096x1, .f32⟩ : BufTy).Contents (Elt F) → (⟨S8x8x2x4096x4096, .f32⟩ : BufTy).Contents (Elt F)),
    StableHlo.binary main_v49 main_v52 main_v53 (Host.divf : (⟨S8x8x2x4096x4096, .f32⟩ : BufTy).Contents (Elt F) → (⟨S8x8x2x4096x4096, .f32⟩ : BufTy).Contents (Elt F) → (⟨S8x8x2x4096x4096, .f32⟩ : BufTy).Contents (Elt F)),
    StableHlo.unary main_v53 main_v54 ((extractStridedSlice S8x8x1x4096x4096 ![0, 0, 0, 0, 0] · slices_S8x8x2x4096x4096_S8x8x1x4096x4096_0_0_0_0_0) : (⟨S8x8x2x4096x4096, .f32⟩ : BufTy).Contents (Elt F) → (⟨S8x8x1x4096x4096, .f32⟩ : BufTy).Contents (Elt F)),
    StableHlo.reshape main_v54 main_v55 (rfl : (.f32 : EltTy) = .f32) shapeCasts_S8x8x1x4096x4096_S8x8x4096x4096,
    StableHlo.unary main_v53 main_v56 ((extractStridedSlice S8x8x1x4096x4096 ![0, 0, 1, 0, 0] · slices_S8x8x2x4096x4096_S8x8x1x4096x4096_0_0_1_0_0) : (⟨S8x8x2x4096x4096, .f32⟩ : BufTy).Contents (Elt F) → (⟨S8x8x1x4096x4096, .f32⟩ : BufTy).Contents (Elt F)),
    StableHlo.reshape main_v56 main_v57 (rfl : (.f32 : EltTy) = .f32) shapeCasts_S8x8x1x4096x4096_S8x8x4096x4096,
    StableHlo.unary main_v14 main_v58 (broadcastInDim S8x8x4096x4096 ![] bcast_S_S8x8x4096x4096 : (⟨S_, .f32⟩ : BufTy).Contents (Elt F) → (⟨S8x8x4096x4096, .f32⟩ : BufTy).Contents (Elt F)),
    StableHlo.binary main_v58 main_v57 main_v59 (mulf : (⟨S8x8x4096x4096, .f32⟩ : BufTy).Contents (Elt F) → (⟨S8x8x4096x4096, .f32⟩ : BufTy).Contents (Elt F) → (⟨S8x8x4096x4096, .f32⟩ : BufTy).Contents (Elt F)),
    StableHlo.binary main_v55 main_v59 main_v60 (subf : (⟨S8x8x4096x4096, .f32⟩ : BufTy).Contents (Elt F) → (⟨S8x8x4096x4096, .f32⟩ : BufTy).Contents (Elt F) → (⟨S8x8x4096x4096, .f32⟩ : BufTy).Contents (Elt F)),
    StableHlo.binary main_v2 main_v60 main_v61 ((fun l r => Host.dotGeneral dot_S8x4096x8x128_S8x8x4096x4096_S8x8x128x4096_1_3_3_2_02_01 none l r) : (⟨S8x4096x8x128, .f32⟩ : BufTy).Contents (Elt F) → (⟨S8x8x4096x4096, .f32⟩ : BufTy).Contents (Elt F) → (⟨S8x8x128x4096, .f32⟩ : BufTy).Contents (Elt F)),
    StableHlo.unary main_v61 main_v62 ((transpose S8x4096x8x128 [0, 3, 1, 2] · transposes_S8x8x128x4096_S8x4096x8x128_0_3_1_2) : (⟨S8x8x128x4096, .f32⟩ : BufTy).Contents (Elt F) → (⟨S8x4096x8x128, .f32⟩ : BufTy).Contents (Elt F)),
    StableHlo.reshape main_arg7 main_v63 (rfl : (.f32 : EltTy) = .f32) shapeCasts_S1x128_S128,
    StableHlo.binary main_v62 main_v62 main_v64 (mulf : (⟨S8x4096x8x128, .f32⟩ : BufTy).Contents (Elt F) → (⟨S8x4096x8x128, .f32⟩ : BufTy).Contents (Elt F) → (⟨S8x4096x8x128, .f32⟩ : BufTy).Contents (Elt F)),
    StableHlo.nullary main_cst_10 (constant S_ .f32 0x00000000#32),
    StableHlo.binary main_v64 main_cst_10 main_v65 ((fun x v => Host.reduceAdd x v reducesTo_S8x4096x8x128_S8x4096x8_d3 h_S_) : (⟨S8x4096x8x128, .f32⟩ : BufTy).Contents (Elt F) → (⟨S_, .f32⟩ : BufTy).Contents (Elt F) → (⟨S8x4096x8, .f32⟩ : BufTy).Contents (Elt F)),
    StableHlo.unary main_v65 main_v66 (broadcastInDim S8x4096x8x1 ![0, 1, 2] bcast_S8x4096x8_S8x4096x8x1_0_1_2 : (⟨S8x4096x8, .f32⟩ : BufTy).Contents (Elt F) → (⟨S8x4096x8x1, .f32⟩ : BufTy).Contents (Elt F)),
    StableHlo.nullary main_cst_11 (constant S_ .f32 0x43000000#32),
    StableHlo.unary main_cst_11 main_v67 (broadcastInDim S8x4096x8x1 ![] bcast_S_S8x4096x8x1 : (⟨S_, .f32⟩ : BufTy).Contents (Elt F) → (⟨S8x4096x8x1, .f32⟩ : BufTy).Contents (Elt F)),
    StableHlo.binary main_v66 main_v67 main_v68 (Host.divf : (⟨S8x4096x8x1, .f32⟩ : BufTy).Contents (Elt F) → (⟨S8x4096x8x1, .f32⟩ : BufTy).Contents (Elt F) → (⟨S8x4096x8x1, .f32⟩ : BufTy).Contents (Elt F)),
    StableHlo.nullary main_cst_12 (constant S_ .f32 0x358637BD#32),
    StableHlo.unary main_cst_12 main_v69 (broadcastInDim S8x4096x8x1 ![] bcast_S_S8x4096x8x1 : (⟨S_, .f32⟩ : BufTy).Contents (Elt F) → (⟨S8x4096x8x1, .f32⟩ : BufTy).Contents (Elt F)),
    StableHlo.binary main_v68 main_v69 main_v70 (addf : (⟨S8x4096x8x1, .f32⟩ : BufTy).Contents (Elt F) → (⟨S8x4096x8x1, .f32⟩ : BufTy).Contents (Elt F) → (⟨S8x4096x8x1, .f32⟩ : BufTy).Contents (Elt F)),
    StableHlo.unary main_v70 main_v71 (Host.rsqrt : (⟨S8x4096x8x1, .f32⟩ : BufTy).Contents (Elt F) → (⟨S8x4096x8x1, .f32⟩ : BufTy).Contents (Elt F)),
    StableHlo.unary main_v71 main_v72 (broadcastInDim S8x4096x8x128 ![0, 1, 2, 3] bcast_S8x4096x8x1_S8x4096x8x128_0_1_2_3 : (⟨S8x4096x8x1, .f32⟩ : BufTy).Contents (Elt F) → (⟨S8x4096x8x128, .f32⟩ : BufTy).Contents (Elt F)),
    StableHlo.binary main_v62 main_v72 main_v73 (mulf : (⟨S8x4096x8x128, .f32⟩ : BufTy).Contents (Elt F) → (⟨S8x4096x8x128, .f32⟩ : BufTy).Contents (Elt F) → (⟨S8x4096x8x128, .f32⟩ : BufTy).Contents (Elt F)),
    StableHlo.unary main_v63 main_v74 (broadcastInDim S1x1x1x128 ![3] bcast_S128_S1x1x1x128_3 : (⟨S128, .f32⟩ : BufTy).Contents (Elt F) → (⟨S1x1x1x128, .f32⟩ : BufTy).Contents (Elt F)),
    StableHlo.unary main_v74 main_v75 (broadcastInDim S8x4096x8x128 ![0, 1, 2, 3] bcast_S1x1x1x128_S8x4096x8x128_0_1_2_3 : (⟨S1x1x1x128, .f32⟩ : BufTy).Contents (Elt F) → (⟨S8x4096x8x128, .f32⟩ : BufTy).Contents (Elt F)),
    StableHlo.binary main_v73 main_v75 main_v76 (mulf : (⟨S8x4096x8x128, .f32⟩ : BufTy).Contents (Elt F) → (⟨S8x4096x8x128, .f32⟩ : BufTy).Contents (Elt F) → (⟨S8x4096x8x128, .f32⟩ : BufTy).Contents (Elt F)),
    StableHlo.nullary main_cst_13 (constant S_ .f32 0x3F4CCCCD#32),
    StableHlo.unary main_cst_13 main_v77 (broadcastInDim S8x4096x8x128 ![] bcast_S_S8x4096x8x128 : (⟨S_, .f32⟩ : BufTy).Contents (Elt F) → (⟨S8x4096x8x128, .f32⟩ : BufTy).Contents (Elt F)),
    StableHlo.binary main_v76 main_v77 main_v78 (mulf : (⟨S8x4096x8x128, .f32⟩ : BufTy).Contents (Elt F) → (⟨S8x4096x8x128, .f32⟩ : BufTy).Contents (Elt F) → (⟨S8x4096x8x128, .f32⟩ : BufTy).Contents (Elt F)),
    StableHlo.reshape main_v78 main_v79 (rfl : (.f32 : EltTy) = .f32) shapeCasts_S8x4096x8x128_S32768x1024,
    StableHlo.unary main_v79 main_v80 ((truncf .bf16 · bitsLt_bf16_f32) : (⟨S32768x1024, .f32⟩ : BufTy).Contents (Elt F) → (⟨S32768x1024, .bf16⟩ : BufTy).Contents (Elt F)) ]

/-- @main is that straight line. -/
theorem main_eq (c : Dev nD) : main (F := F) c = seq ops := by
  sl_kernel_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., reshape_bufs_sub .., reshape_bufs_sub .., reshape_bufs_sub .., reshape_bufs_sub .., binary_bufs_sub .., nullary_bufs_sub .., binary_bufs_sub .., unary_bufs_sub .., reshape_bufs_sub .., reshape_bufs_sub .., binary_bufs_sub .., nullary_bufs_sub .., binary_bufs_sub .., unary_bufs_sub .., binary_bufs_sub .., nullary_bufs_sub .., binary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., unary_bufs_sub .., reshape_bufs_sub .., unary_bufs_sub .., binary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., reshape_bufs_sub .., unary_bufs_sub ..⟩

theorem out_eq (V : Valuation τ sig (Elt F)) :
    after ops V (main_v80 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results
theorem arg5_eq (V : Valuation τ sig (Elt F)) : after ops V (main_arg5 : DevRef τ sig) = V (main_arg5 : DevRef τ sig) := by
  after_results
theorem arg6_eq (V : Valuation τ sig (Elt F)) : after ops V (main_arg6 : DevRef τ sig) = V (main_arg6 : DevRef τ sig) := by
  after_results
theorem arg7_eq (V : Valuation τ sig (Elt F)) : after ops V (main_arg7 : DevRef τ sig) = V (main_arg7 : DevRef τ sig) := by
  after_results

/-- Every weakly fair execution of @main terminates with the result at `refOut` of the arguments, the arguments as they
    were, and every counter at zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v80) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono (fun _ h c => ⟨(h c main_v80).trans (out_eq _), (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _)⟩)
    (run_seq scopedRefs_eq scopedSems_eq defs main (fun _ => ops) main_eq (fun _ => ops_sub) m ρ)

end Cert.ReferenceIdeal.Ref
-- ==== Proof.RefVal.lean ====
/-
  What the reference computes at an index, over the reals.
-/
module

public import proofs.«01_k».proof.Proof.Ref
public import proofs.«01_k».proof.Proof.Reals

@[expose] public section

set_option maxRecDepth 16384
noncomputable section

namespace Cert.ReferenceIdeal.Ref
open Cert.ReferenceIdeal Cert.ReferenceIdeal.Facts₀
open Idealize.ShloMosaic Cert.Attn

variable {q k v : Fin 8 → Fin 4096 → Fin 1024 → ℝ}

theorem refLam_at (a b c d : FVec Ideal S1x64 .f32) (a' b' c' d' : Fin 64 → ℝ) (ha : ∀ i, a (ix2 0 i) = a' i) (hb : ∀ i, b (ix2 0 i) = b' i)
    (hc : ∀ i, c (ix2 0 i) = c' i) (hd : ∀ i, d (ix2 0 i) = d' i) : refLam a b c d ix0 = ((lamE a' b' c' d' : ℝ) : EReal) := by
  pointwise [refLam]
  exact lamE_eq _ _ _ _ _ _ (sum_mul_coe _ _ _ _ ha hb) (sum_mul_coe _ _ _ _ hc hd)

theorem refBias_at (h : Fin 8) (t s : Fin 4096) :
    refBias (F := Ideal) (ix3 h t s) = ((-slope h * |(t.val : ℝ) - (s.val : ℝ)| : ℝ) : EReal) := by
  pointwise [refBias]
  rw [slope_eq, sitofp_nat _ (by omega), sitofp_nat _ (by omega), ← EReal.coe_sub, absf_coe, ← EReal.coe_neg, ← EReal.coe_mul]

theorem refScore_at (Q K : FVec Ideal S8x4096x1024 .f32) (hq : ∀ b t j, Q (ix3 b t j) = q b t j) (hk : ∀ b t j, K (ix3 b t j) = k b t j)
    (b h : Fin 8) (u : Fin 2) (t s : Fin 4096) : refScore Q K refBias (ix5 b h u t s) = ((score q k b h u t s : ℝ) : EReal) := by
  pointwise [refScore]
  rw [refBias_at, lit_eighth, sum_mul_coe _ _ _ _ (fun x => hq _ _ _) (fun x => hk _ _ _), ← EReal.coe_mul, ← EReal.coe_add]
  rfl

theorem red5 : Shape.Reduces S8x8x2x4096x4096 [4] S8x8x2x4096 := by decide

theorem refMax_at (y : FVec Ideal S8x8x2x4096x4096 .f32) (hy : ∀ i, ∃ r : ℝ, y i = r) (j : S8x8x2x4096.Idx) :
    ∃ r : ℝ, refMax y j = r := by
  unfold refMax
  have hr := reduce_max_real y (constant S_ .f32 0xFF800000#32) reducesTo_S8x8x2x4096x4096_S8x8x2x4096_d4 red5 h_S_ j hy lit_bot (by decide)
  dsimp only
  rw [maximumf_at]
  exact max_bot_real _ _ lit_bot hr

theorem refSoft_at (y : FVec Ideal S8x8x2x4096x4096 .f32) (z : FVec Ideal S8x8x2x4096 .f32) (b h : Fin 8) (u : Fin 2) (t s : Fin 4096) :
    refSoft y z (ix5 b h u t s) = Ideal.div (Ideal.exp (y (ix5 b h u t s) - z (ix4 b h u t))) (∑ x, Ideal.exp (y (ix5 b h u t x) - z (ix4 b h u t))) := by
  pointwise [refSoft]

theorem refSoft_val (y : FVec Ideal S8x8x2x4096x4096 .f32) (z : FVec Ideal S8x8x2x4096 .f32) (b h : Fin 8) (u : Fin 2) (t s : Fin 4096)
    (S : Fin 4096 → ℝ) (M : ℝ) (hS : ∀ s, y (ix5 b h u t s) = S s) (hM : z (ix4 b h u t) = M) :
    refSoft y z (ix5 b h u t s) = ((Real.exp (S s - M) * (1 / ∑ s', Real.exp (S s' - M)) : ℝ) : EReal) := by
  rw [refSoft_at, hM, hS]
  have e : ∀ x, Ideal.exp (y (ix5 b h u t x) - (M : EReal)) = ((Real.exp (S x - M) : ℝ) : EReal) := fun x => by
    rw [hS, ← EReal.coe_sub, Ideal.exp_coe]
  simp only [e]
  rw [← coe_sum, Ideal.div_coe (sum_exp_pos _).ne', ← EReal.coe_sub, Ideal.exp_coe, ← EReal.coe_mul]

theorem refMix_at (V : FVec Ideal S8x4096x1024 .f32) (y : FVec Ideal S_ .f32) (z : FVec Ideal S8x8x2x4096x4096 .f32) (b : Fin 8) (t : Fin 4096) (h : Fin 8) (i : Fin 128) :
    refMix V y z (ix4 b t h i) = ∑ x, V (ix3 b x (vcol h i)) * (z (ix5 b h 0 t x) - y ix0 * z (ix5 b h 1 t x)) := by
  pointwise [refMix]
  rfl

theorem refMix_val (V : FVec Ideal S8x4096x1024 .f32) (hv : ∀ b t j, V (ix3 b t j) = v b t j) (y : FVec Ideal S_ .f32) (lam : ℝ) (hy : y ix0 = lam)
    (z : FVec Ideal S8x8x2x4096x4096 .f32) (b : Fin 8) (t : Fin 4096) (h : Fin 8) (i : Fin 128) (S : Fin 2 → Fin 4096 → ℝ) (M : Fin 2 → ℝ)
    (hz : ∀ u s, z (ix5 b h u t s) = ((Real.exp (S u s - M u) * (1 / ∑ s', Real.exp (S u s' - M u)) : ℝ) : EReal)) :
    refMix V y z (ix4 b t h i) = ((avg (S 0) (fun s => v b s (vcol h i)) - lam * avg (S 1) (fun s => v b s (vcol h i)) : ℝ) : EReal) := by
  rw [refMix_at, sum_mul_coe _ _ (fun s => v b s (vcol h i)) (fun s => Real.exp (S 0 s - M 0) * (1 / ∑ s', Real.exp (S 0 s' - M 0))
    - lam * (Real.exp (S 1 s - M 1) * (1 / ∑ s', Real.exp (S 1 s' - M 1)))) (fun x => hv _ _ _)
    (fun x => by rw [hz, hz, hy, ← EReal.coe_mul, ← EReal.coe_sub])]
  rw [← soft_avg (S 0) _ (M 0), ← soft_avg (S 1) _ (M 1), Finset.mul_sum, ← Finset.sum_sub_distrib]
  congr 1
  exact Finset.sum_congr rfl fun s _ => by ring

theorem refNorm_at (g : FVec Ideal S1x128 .f32) (y : FVec Ideal S8x4096x8x128 .f32) (D : Fin 8 → Fin 4096 → Fin 8 → Fin 128 → ℝ)
    (hy : ∀ b t h i, y (ix4 b t h i) = D b t h i) (T : Fin 32768) (i : Fin 1024) :
    refNorm g y (ix2 T i) = tailE (D ⟨T.val / 4096, by omega⟩ ⟨T.val % 4096, by omega⟩ ⟨i.val / 128, by omega⟩) (g (ix2 0 ⟨i.val % 128, by omega⟩)) ⟨i.val % 128, by omega⟩ := by
  pointwise [refNorm]
  simp only [hy]
  rw [mul_assoc]
  rfl

variable (Q K V : FVec Ideal S8x4096x1024 .f32) (a b c d : FVec Ideal S1x64 .f32) (g : FVec Ideal S1x128 .f32) {a' b' c' d' : Fin 64 → ℝ}

theorem refOut_at (hq : ∀ b t j, Q (ix3 b t j) = q b t j) (hk : ∀ b t j, K (ix3 b t j) = k b t j) (hv : ∀ b t j, V (ix3 b t j) = v b t j)
    (ha : ∀ i, a (ix2 0 i) = a' i) (hb : ∀ i, b (ix2 0 i) = b' i) (hc : ∀ i, c (ix2 0 i) = c' i) (hd : ∀ i, d (ix2 0 i) = d' i)
    (T : Fin 32768) (i : Fin 1024) :
    refOut Q K V a b c d g (ix2 T i) = tailE (diff q k v (lamE a' b' c' d') ⟨T.val / 4096, by omega⟩ ⟨T.val % 4096, by omega⟩ ⟨i.val / 128, by omega⟩)
      (g (ix2 0 ⟨i.val % 128, by omega⟩)) ⟨i.val % 128, by omega⟩ := by
  unfold refOut
  refine refNorm_at _ _ _ (fun b t h i => ?_) _ _
  choose M hM using fun j => refMax_at (refScore Q K refBias) (fun j => by rw [eq_ix5 j]; exact ⟨_, refScore_at Q K hq hk _ _ _ _ _⟩) j
  exact refMix_val V hv _ _ (refLam_at _ _ _ _ _ _ _ _ ha hb hc hd) _ _ _ _ _ (fun u => score q k b h u t) (fun u => M (ix4 b h u t))
    fun u s => refSoft_val _ _ _ _ _ _ _ _ _ (fun s => refScore_at Q K hq hk _ _ _ _ _) (hM _)

end Cert.ReferenceIdeal.Ref
-- ==== Proof.Out.lean ====
/-
  The attention kernel's result: every element the grid writes is the reference's.
-/
module

public import proofs.«01_k».proof.Proof.Blocks
public import proofs.«01_k».proof.Proof.BiasSum
public import proofs.«01_k».proof.Proof.Parts
public import proofs.«01_k».proof.Proof.RefVal

@[expose] public section

set_option maxRecDepth 16384
set_option maxHeartbeats 2000000
noncomputable section

namespace Cert.KernelIdeal.Attn
open Idealize.ShloMosaic Idealize.ShloMosaic.TcCoe Idealize.ShloMosaic.Tactic
open Cert.KernelIdeal.Gen Cert.Attn

variable (m : (ℓ : Loc nD τ sig) → Buf (Elt Ideal) ℓ) (c : Dev nD)

/-- The arguments hold the real numbers `q`, `k`, `v` and the four vectors. -/
structure Inputs (q k v : Fin 8 → Fin 4096 → Fin 1024 → ℝ) (a b e d : Fin 64 → ℝ) : Prop where
  q : ∀ b t j, (m ((c : Thread nD τ).loc main_arg0) : Vec Ideal S8x4096x1024 .f32) (ix3 b t j) = ((q b t j : ℝ) : EReal)
  k : ∀ b t j, (m ((c : Thread nD τ).loc main_arg1) : Vec Ideal S8x4096x1024 .f32) (ix3 b t j) = ((k b t j : ℝ) : EReal)
  v : ∀ b t j, (m ((c : Thread nD τ).loc main_arg2) : Vec Ideal S8x4096x1024 .f32) (ix3 b t j) = ((v b t j : ℝ) : EReal)
  a : ∀ j, (m ((c : Thread nD τ).loc main_arg3) : Vec Ideal S1x64 .f32) (ix2 0 j) = ((a j : ℝ) : EReal)
  b : ∀ j, (m ((c : Thread nD τ).loc main_arg4) : Vec Ideal S1x64 .f32) (ix2 0 j) = ((b j : ℝ) : EReal)
  e : ∀ j, (m ((c : Thread nD τ).loc main_arg5) : Vec Ideal S1x64 .f32) (ix2 0 j) = ((e j : ℝ) : EReal)
  d : ∀ j, (m ((c : Thread nD τ).loc main_arg6) : Vec Ideal S1x64 .f32) (ix2 0 j) = ((d j : ℝ) : EReal)

theorem q3 (q : Fin 8 → Fin 4096 → Fin 1024 → ℝ) {b b' : Fin 8} {t t' : Fin 4096} {j j' : Fin 1024} (h1 : b.val = b'.val) (h2 : t.val = t'.val) (h3 : j.val = j'.val) :
    q b t j = q b' t' j' := by
  obtain rfl := Fin.ext h1; obtain rfl := Fin.ext h2; obtain rfl := Fin.ext h3; rfl

/-- A group's sequence. -/
def gb (k : Fin 512) : Fin 8 := ⟨k.val / 64, by omega⟩
/-- A group's head. -/
def gh (k : Fin 512) : Fin 8 := ⟨k.val / 8 % 8, by omega⟩
/-- A group's query positions in its sequence. -/
def gt (k : Fin 512) (tile : Fin 2) (s : Fin 256) : Fin 4096 := ⟨k.val % 8 * 512 + (256 * tile.val + s.val), by omega⟩

variable {m c}
variable {q k v : Fin 8 → Fin 4096 → Fin 1024 → ℝ} {a b e d : Fin 64 → ℝ} (A : Inputs m c q k v a b e d)
include A

theorem tileIn (t : Fin cfg0.N) (n : Fin 512) (hn : t.val = n.val) (tile : Fin 2) :
    TileIn (Xb m c t) (gw n.val tile) tile (ch (gh n)) (fun i s => q (gb n) (gt n tile s) (vcol (gh n) i) * (1 / 8 * (1 / Real.log 2)))
      (fun y r i => k (gb n) (key y r) (vcol (gh n) i)) where
  slope := ((chV_at _ _ (gh n) (offC_gw n tile)).trans (x1_at m c t _)).trans (v29_at m c _)
  q i s := by
    refine ((qV_at _ tile i s).trans (x2_at m c t _ _)).trans ((v7_at m c _ _ _ (A.q _ _ _)).trans ?_)
    refine congrArg (fun x : ℝ => ((x * (1 / 8 * (1 / Real.log 2)) : ℝ) : EReal)) (q3 q ?_ ?_ ?_)
    · show ((min t.val 511 / 64 * 8 + min t.val 511 % 8) * 512 + (256 * tile.val + s.val)) / 4096 = n.val / 64
      omega
    · show ((min t.val 511 / 64 * 8 + min t.val 511 % 8) * 512 + (256 * tile.val + s.val)) % 4096 = n.val % 8 * 512 + (256 * tile.val + s.val)
      omega
    · show min t.val 511 / 8 % 8 * 128 + i.val = n.val / 8 % 8 * 128 + i.val
      omega
  k y r i := by
    refine ((kV_at _ y r i).trans (x3_at m c t _ _)).trans (((v9_at m c _ _).trans (A.k _ _ _)).trans ?_)
    refine congrArg (fun x : ℝ => ((x : ℝ) : EReal)) (q3 k ?_ ?_ ?_)
    · show (min t.val 511 / 64 * 4096 + (256 * y.val + r.val)) / 4096 = n.val / 64
      omega
    · show (min t.val 511 / 64 * 4096 + (256 * y.val + r.val)) % 4096 = 256 * y.val + r.val
      omega
    · show min t.val 511 / 8 % 8 * 128 + i.val = n.val / 8 % 8 * 128 + i.val
      omega
  aug x r s := by
    refine aug_sum (gh n) x r s _ _ (fun y => ?_) fun y => ?_
    · refine ((akV_at _ x r y).trans (x5_at m c t _ _ _)).trans (Eq.trans ?_ (v97_at m c (gh n) x r y))
      refine congrArg (fun j => (V m c main_v97 : Vec Ideal S16x256x128 .bf16) (ix3 j r y)) (Fin.ext ?_)
      show min t.val 511 / 8 % 8 * 2 + x.val = n.val / 8 % 8 * 2 + x.val
      omega
    · refine ((agV_at _ y s).trans (x6_at m c t _ _)).trans (Eq.trans ?_ (v74_at m c (gh n) y s))
      refine congrArg (fun j => (V m c main_v74 : Vec Ideal S8x128x256 .bf16) (ix3 j y s)) (Fin.ext ?_)
      show min t.val 511 / 8 % 8 = n.val / 8 % 8
      omega
  own r s := by
    refine ((bV_at _ _ r s).trans (x7_at m c t _ _)).trans (Eq.trans ?_ (v96_at m c (gh n) r s))
    refine congrArg (fun j => (V m c main_v96 : Vec Ideal S8x1x256x256 .f32) (ix4 j 0 r s)) (Fin.ext ?_)
    show min t.val 511 / 8 % 8 = n.val / 8 % 8
    omega

theorem tileVals (t : Fin cfg0.N) (n : Fin 512) (hn : t.val - 1 = n.val) (tile : Fin 2) :
    TileVals (Xb m c t) (gw n.val tile) (ch (gh n)) (fun y i r => v (gb n) (key y r) (vcol (gh n) i)) where
  slope := ((chV_at _ _ (gh n) (offC_gw n tile)).trans (x1_at m c t _)).trans (v29_at m c _)
  v y i r := by
    refine ((vV_at _ y _ r).trans (x4_at m c t _ _)).trans ?_
    refine Eq.trans (b := (V m c main_v16 : Vec Ideal S1152x32768 .bf16) (ix2 ⟨(gh n).val * 144 + (⟨i.val, by omega⟩ : Fin 144).val, by have := (gh n).isLt; show _ * _ + i.val < _; omega⟩ ⟨(t.val - 1) / 64 * 4096 + (256 * y.val + r.val), by omega⟩)) ?_ ?_
    · refine congrArg (fun j => (V m c main_v16 : Vec Ideal S1152x32768 .bf16) (ix2 j _)) (Fin.ext ?_)
      show (t.val - 1) / 8 % 8 * 144 + i.val = n.val / 8 % 8 * 144 + i.val
      omega
    · refine (v16_at m c (gh n) ⟨i.val, by omega⟩ _).trans ?_
      rw [dif_pos (show i.val < 128 from i.isLt)]
      refine (A.v _ _ _).trans ?_
      refine congrArg (fun x : ℝ => ((x : ℝ) : EReal)) (q3 v ?_ ?_ rfl)
      · show ((t.val - 1) / 64 * 4096 + (256 * y.val + r.val)) / 4096 = n.val / 64
        omega
      · show ((t.val - 1) / 64 * 4096 + (256 * y.val + r.val)) % 4096 = 256 * y.val + r.val
        omega
  one y r := by
    refine ((vV_at _ y _ r).trans (x4_at m c t _ _)).trans ?_
    refine Eq.trans (b := (V m c main_v16 : Vec Ideal S1152x32768 .bf16) (ix2 ⟨(gh n).val * 144 + (128 : Fin 144).val, by have := (gh n).isLt; show _ * _ + 128 < _; omega⟩ ⟨(t.val - 1) / 64 * 4096 + (256 * y.val + r.val), by omega⟩)) ?_ ?_
    · refine congrArg (fun j => (V m c main_v16 : Vec Ideal S1152x32768 .bf16) (ix2 j _)) (Fin.ext ?_)
      show (t.val - 1) / 8 % 8 * 144 + 128 = n.val / 8 % 8 * 144 + 128
      omega
    · refine (v16_at m c (gh n) 128 _).trans ?_
      rw [dif_neg (by decide)]
      rfl

theorem lam_at (t : Fin cfg0.N) : lamV (Xb m c t) (ix2 0 0) = ((lamE a b e d : ℝ) : EReal) :=
  lamOf_at _ _ _ _ _ _ _ _
    (fun j => ((lV_at _ j).trans (x8_at m c t j)).trans ((congrFun (V_main_arg3 m c) _).trans (A.a j)))
    (fun j => ((lV_at _ j).trans (x9_at m c t j)).trans ((congrFun (V_main_arg4 m c) _).trans (A.b j)))
    (fun j => ((lV_at _ j).trans (x10_at m c t j)).trans ((congrFun (V_main_arg5 m c) _).trans (A.e j)))
    (fun j => ((lV_at _ j).trans (x11_at m c t j)).trans ((congrFun (V_main_arg6 m c) _).trans (A.d j)))

variable (m c) in
/-- The reference's result of the arguments. -/
def target : FVec Ideal Cert.ReferenceIdeal.S32768x1024 .bf16 :=
  Cert.ReferenceIdeal.Ref.refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

theorem tile_target (t : Fin cfg0.N) (n : Fin 512) (hn : t.val = n.val + 1) (tile : Fin 2) (s : Fin 256) (i : Fin 128) (T : Fin 32768) (j : Fin 1024)
    (hT : T.val = (n.val / 64 * 8 + n.val % 8) * 512 + (256 * tile.val + s.val)) (hj : j.val = n.val / 8 % 8 * 128 + i.val) :
    gR (Xb m c t) (Xb m c (prev t)) n.val tile (ix2 s i) = target m c (ix2 T j) := by
  have hp : (prev t).val = n.val := by show t.val - 1 = n.val; omega
  have h := tile_val (tileIn A (prev t) n hp tile) (tileVals A t n (by omega) tile) (lamE a b e d) (lam_at A t) s i
  refine h.trans ?_
  refine Eq.trans ?_ (Cert.ReferenceIdeal.Ref.refOut_at _ _ _ _ _ _ _ _ A.q A.k A.v A.a A.b A.e A.d T j).symm
  have hb : (⟨T.val / 4096, by omega⟩ : Fin 8) = gb n := Fin.ext (by show T.val / 4096 = n.val / 64; omega)
  have ht : (⟨T.val % 4096, by omega⟩ : Fin 4096) = gt n tile s := Fin.ext (by show T.val % 4096 = n.val % 8 * 512 + (256 * tile.val + s.val); omega)
  have hh : (⟨j.val / 128, by omega⟩ : Fin 8) = gh n := Fin.ext (by show j.val / 128 = n.val / 8 % 8; omega)
  have hi : (⟨j.val % 128, by omega⟩ : Fin 128) = i := Fin.ext (by show j.val % 128 = i.val; omega)
  rw [hb, ht, hh, hi, gsV_at, x12_at, V_main_arg7]
  refine congrArg (fun D => tailE D (m ((c : Thread nD τ).loc main_arg7) (ix2 0 i)) i) ?_
  funext i
  have hc : (gt n tile s).val = 256 * (cd (gw n.val tile)).val + s.val := by
    rw [cd_gw]; show n.val % 8 * 512 + (256 * tile.val + s.val) = _; omega
  exact congrArg₂ (fun x y : ℝ => x - lamE a b e d * y) (avgT_eq q k v (gb n) (gh n) (gt n tile s) _ s hc _ (fun _ => rfl) 0 i)
    (avgT_eq q k v (gb n) (gh n) (gt n tile s) _ s hc _ (fun _ => rfl) 1 i)

theorem out_target (t : Fin cfg0.N) (ht : t.val ≠ 0) (y : S512x128.Idx) (T : Fin 32768) (j : Fin 1024)
    (hT : T.val = ((t.val - 1) / 64 * 8 + (t.val - 1) % 8) * 512 + (y 0).val) (hj : j.val = (t.val - 1) / 8 % 8 * 128 + (y 1).val) :
    outV m c t y = target m c (ix2 T j) := by
  have hN := lt_N t
  have h2 : (y 0).val < 512 := (y 0).isLt
  unfold outV glue
  split_ifs with h
  · refine (congrArg (gR (Xb m c t) (Xb m c (prev t)) (t.val - 1) 0) (eq_ix2 _)).trans ?_
    exact tile_target A t ⟨t.val - 1, by omega⟩ (by show t.val = t.val - 1 + 1; omega) 0 ⟨(y 0).val, h⟩ (y 1) T j
      (by show T.val = ((t.val - 1) / 64 * 8 + (t.val - 1) % 8) * 512 + (256 * 0 + (y 0).val); omega) hj
  · refine (congrArg (gR (Xb m c t) (Xb m c (prev t)) (t.val - 1) 1) (eq_ix2 _)).trans ?_
    exact tile_target A t ⟨t.val - 1, by omega⟩ (by show t.val = t.val - 1 + 1; omega) 1 ⟨(y 0).val - 256, by omega⟩ (y 1) T j
      (by show T.val = ((t.val - 1) / 64 * 8 + (t.val - 1) % 8) * 512 + (256 * 1 + ((y 0).val - 256)); omega) hj

theorem arr_target : (dats m 0 c).arrAt 12 cfg0.N = target m c := by
  refine (dats m 0 c).arrAt_eq_of_covers 12 (target m c) covers12 (fun t hf y => ?_)
  have ht : t.val ≠ 0 := fun h => by
    have := flush12 t h
    rw [this] at hf
    exact absurd hf (by decide)
  show outV m c t y = target m c _
  refine (out_target A t ht y ⟨((t.val - 1) / 64 * 8 + (t.val - 1) % 8) * 512 + (y 0).val, ?_⟩ ⟨(t.val - 1) / 8 % 8 * 128 + (y 1).val, ?_⟩ rfl rfl).trans ?_
  · have := lt_N t; have h2 : (y 0).val < 512 := (y 0).isLt; omega
  · have h2 : (y 1).val < 128 := (y 1).isLt; omega
  · refine congrArg (target m c) ?_
    funext x; apply Fin.ext
    blk_simp [idx12]
    match x with
    | ⟨0, _⟩ => rfl
    | ⟨1, _⟩ => rfl

end Cert.KernelIdeal.Attn
-- ==== Proof.Pre.lean ====
/-
  The precondition read: every element of the queries, keys, values and lambda vectors is a real number.
-/
module

public import proofs.«01_k».proof.Proof.RefFacts
public import proofs.«01_k».proof.Proof.Reals
public import Idealize.ShloMosaic.Lib.ReduceAll
public import Idealize.ShloMosaic.Lib.Pointwise

@[expose] public section

set_option maxRecDepth 16384
noncomputable section

namespace Cert.Pre_finite.Read
open Idealize.ShloMosaic Idealize.ShloMosaic.Tactic
open Cert.Attn

instance : Subsingleton S_.Idx := ⟨fun a b => funext fun i => i.elim0⟩

theorem andi_one (x y : IVec S_ 1) (j : S_.Idx) (h : andi x y j = 1#1) : x j = 1#1 ∧ y j = 1#1 := by
  have e : ∀ a b : BitVec 1, a &&& b = 1#1 → a = 1#1 ∧ b = 1#1 := by decide
  exact e _ _ h

theorem all_real {s : Shape} {axes : List (Fin s.rank)} (x : FVec Ideal s .f32) (hb : S_.BroadcastsInDim s ![]) (h : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) h hu j = 1#1) (i : s.Idx) :
    ∃ r : ℝ, (x i : EReal) = r := by
  have h1 := Host.reduce_andi_all _ _ h hu j e i
  refine lt_top_real _ ?_
  have h2 : FloatOps.cmpf (F := Ideal) (φ := .f32) .olt (max (x i : EReal) (-(x i))) (Ideal.ofBits .f32 0x7F800000#32) = 1#1 := h1
  rw [lit_top] at h2
  by_contra hn
  have h3 : BitVec.ofBool (decide (max (x i : EReal) (-(x i)) < ⊤)) = 1#1 := h2
  rw [decide_eq_false hn] at h3
  exact absurd h3 (by decide)

/-- The precondition of eight arrays: all but the last hold real numbers. -/
theorem fn_real (x0 x1 x2 : FVec Ideal S8x4096x1024 .f32) (x3 x4 x5 x6 : FVec Ideal S1x64 .f32) (x7 : FVec Ideal S1x128 .f32)
    (h : Cert.Pre_finite.fn (F := Ideal) x0 x1 x2 x3 x4 x5 x6 x7 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r)
      ∧ (∀ i, ∃ r : ℝ, (x4 i : EReal) = r) ∧ (∀ i, ∃ r : ℝ, (x5 i : EReal) = r) ∧ (∀ i, ∃ r : ℝ, (x6 i : EReal) = r) := by
  have e := congrFun h fun a => a.elim0
  obtain ⟨e, e6⟩ := andi_one _ _ _ e
  obtain ⟨e, e5⟩ := andi_one _ _ _ e
  obtain ⟨e, e4⟩ := andi_one _ _ _ e
  obtain ⟨e, e3⟩ := andi_one _ _ _ e
  obtain ⟨e, e2⟩ := andi_one _ _ _ e
  obtain ⟨e0, e1⟩ := andi_one _ _ _ e
  exact ⟨all_real _ _ _ _ _ e0, all_real _ _ _ _ _ e1, all_real _ _ _ _ _ e2, all_real _ _ _ _ _ e3, all_real _ _ _ _ _ e4, all_real _ _ _ _ _ e5,
    all_real _ _ _ _ _ e6⟩

end Cert.Pre_finite.Read
-- ==== Proof.Oblig.lean ====
/-
  The body obligation of the attention kernel's pipeline.
-/
module

public import proofs.«01_k».proof.Proof.Setup

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

section later
variable (A : Args) (a13 : Memref sig .tc .vmem S512x128 .bf16) (h13 : a13.IsWhole)

theorem later_owns (t : Fin cfg0.N) (ht : t.val ≠ 0) :
    Run c iprop(Ins c A (Xb m c t) ∗ Scr m c t.val ∗ SO c a13 (fun _ => True)) (bodyS A a13 h13 t) ⟨⟩
      iprop(Ins c A (Xb m c t) ∗ Scr m c (t.val + 1) ∗ owns (c : Thread nD τ) a13 fullShare (outV m c t)) := by
  refine run_conseq (point_later (m := m) (c := c) A a13 h13 t ht) .rfl ?_
  rw [owns_eq_ownsSat]

end later

set_option maxHeartbeats 20000000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10, before0_11]
  rw [phi_cast, phi_succ, show (dats m 0 c).owesAt () t.succ = (dats m 0 c).owesAt () t.castSucc from rfl,
    after0_0, after0_1, after0_2, after0_3, after0_4, after0_5, after0_6, after0_7, after0_8, after0_9, after0_10, after0_11, after0_12]
  rw [body_eq]
  have hi := idle12 t
  generalize idle0 12 (grid0.coords t) = i at hi ⊢
  by_cases h : t.val = 0
  · rw [decide_eq_true h] at hi
    have hf : (win0 12).flush t = false := flush12 t h
    generalize (win0 12).flush t = f at hf ⊢
    subst hi; subst hf
    have hr := point_first (m := m) (c := c) (argsAt t) (stage0_12 (cfg0.slots t 12)) (hstage0_12 ((cfg0.slots t 12).cast nbuf0_12)) t h
    unfold Ins at hr
    refine obl_first c ?_
    exact hr
  · rw [decide_eq_false h] at hi
    subst hi
    have hr := later_owns (m := m) (c := c) (argsAt t) (stage0_12 (cfg0.slots t 12)) (hstage0_12 ((cfg0.slots t 12).cast nbuf0_12)) t h
    unfold Ins at hr
    refine obl_later c (U' := owns (c : Thread nD τ) (stage0_12 (cfg0.slots t 12)) fullShare (outV m c t)) ?_ (any_true c (stage0_12 (cfg0.slots t 12)) fun d => (dats m 0 c).before 12 t d)
    exact hr

end Cert.KernelIdeal.Attn
-- ==== Proof.Run.lean ====
/-
  The run of the attention kernel's @main.
-/
module

public import proofs.«01_k».proof.Proof.Oblig

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The run -/

theorem phi_in : Pipeline.ΦA spec0 c ⊢ (dats m 0 c).Φ 0 := by
  unfold Pipeline.ΦA
  rw [scopedRest0_eq]
  dsimp only [dats]
  unfold Scr Set0 Set1 Grp
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, HP⟩
  isplitr [HP]; swap; · iexact HP
  have hs : ∀ b t Y, PS m c b 0 t Y := fun b t Y k _ hk => absurd hk (by omega)
  have hm : ∀ b t Y, PM m c b 0 t Y := fun b t Y k _ hk => absurd hk (by omega)
  simp only [← owns_whole]
  ihave H0 := (ownsSat_intro _ _ _ (hs 0 0 _)) $$ H0
  ihave H1 := (ownsSat_intro _ _ _ (hs 0 1 _)) $$ H1
  ihave H2 := (ownsSat_intro _ _ _ (hs 1 0 _)) $$ H2
  ihave H3 := (ownsSat_intro _ _ _ (hs 1 1 _)) $$ H3
  ihave H4 := (ownsSat_intro _ _ _ (hm 0 0 _)) $$ H4
  ihave H5 := (ownsSat_intro _ _ _ (hm 0 1 _)) $$ H5
  ihave H6 := (ownsSat_intro _ _ _ (hm 1 0 _)) $$ H6
  ihave H7 := (ownsSat_intro _ _ _ (hm 1 1 _)) $$ H7
  isplitl [H0 H1 H4 H5]
  · isplitl [H0]; · iexact H0
    isplitl [H4]; · iexact H4
    isplitl [H1]; · iexact H1
    iexact H5
  isplitl [H2]; · iexact H2
  isplitl [H6]; · iexact H6
  isplitl [H3]; · iexact H3
  iexact H7

theorem any_whole {b : Ref sig .tc} {Φ : (b.ty.shape.Idx → Elt F b.ty.elt) → Prop} :
    (ownsSat (c : Thread nD τ) (Memref.whole b) fullShare Φ : sProp 𝕄) ⊢ iprop(∃ f : Buf (Elt F) ((c : Thread nD τ).loc b), ((c : Thread nD τ).loc b) ↦{fullShare} f) := by
  refine BIBase.Entails.trans (ownsSat_any _ _ _) ?_
  iintro ⟨%X, H⟩
  iexists X
  rw [← owns_whole]
  iexact H

theorem phi_out : (dats m 0 c).Φ (Fin.last cfg0.N) ⊢ Pipeline.ΦA spec0 c := by
  unfold Pipeline.ΦA
  rw [scopedRest0_eq]
  dsimp only [dats]
  unfold Scr Set0 Set1 Grp
  iintro ⟨⟨⟨H0, H4, H1, H5⟩, ⟨H2, H6, H3, H7⟩⟩, HP⟩
  ihave H0 := any_whole c $$ H0
  ihave H1 := any_whole c $$ H1
  ihave H2 := any_whole c $$ H2
  ihave H3 := any_whole c $$ H3
  ihave H4 := any_whole c $$ H4
  ihave H5 := any_whole c $$ H5
  ihave H6 := any_whole c $$ H6
  ihave H7 := any_whole c $$ H7
  isplitr [HP]; swap; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
set_option backward.isDefEq.respectTransparency.types false in
/-- Every weakly fair execution of @main terminates, with every array of the pipeline at what the proof data says and
    every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := phi_in m) (hout := phi_out m)

/-- The arguments are left as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_with_sems (frame_of m ρ (dats m) fun _ _ => rfl) (run_main m ρ)

end Cert.KernelIdeal.Attn
-- ==== Proof.Frames.lean ====
/-
  The frames of the kernel's two programs: one run.
-/
module

public import proofs.«01_k».proof.Proof.Run
public import proofs.«01_k».proof.Defs
public import proofs.«01_k».proof.Proof.Gen.Kernel

@[expose] public section

set_option maxRecDepth 16384

noncomputable section

namespace Cert.Proof

open Idealize.ShloMosaic Idealize.SL.Sem
open Idealize.ShloMosaic.Tactic

/-- The frame of the kernel's program over any float values. -/
def Framed (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

theorem framed (F : FTy → Type) [FloatOps F] : Framed F := fun m ρ _ => Cert.KernelIdeal.Attn.frame_main (F := F) m ρ

theorem kernel_eq : Cert.quiescent_Kernel (hKernel := Cert.Kernel.Gen.facts) = Framed Bits := by sl_kernel_rfl

theorem frame_kernel : Cert.quiescent_Kernel (hKernel := Cert.Kernel.Gen.facts) := cast kernel_eq.symm (framed Bits)

theorem frame_ideal : Cert.quiescent_KernelIdeal (hKernelIdeal := Cert.KernelIdeal.Gen.facts) := fun m ρ _ =>
  Cert.KernelIdeal.Attn.frame_main (F := Ideal) m ρ

end Cert.Proof

end
-- ==== Proof.Value.lean ====
/-
  The kernel's value: every execution ends with the reference's result, and so does the reference's own.
-/
module

public import proofs.«01_k».proof.Proof.Out
public import proofs.«01_k».proof.Proof.Pre
public import proofs.«01_k».proof.Proof.Frames

@[expose] public section

set_option maxRecDepth 16384
noncomputable section

namespace Cert.Proof
open Idealize.ShloMosaic Idealize.ShloMosaic.TcCoe Idealize.SL.Sem
open Cert.KernelIdeal.Attn

variable (m : (ℓ : Loc Cert.KernelIdeal.nD Cert.KernelIdeal.τ Cert.KernelIdeal.sig) → Buf (Elt Ideal) ℓ) (c : Dev Cert.KernelIdeal.nD)

/-- Under the precondition the arguments hold real numbers. -/
theorem inputs (h : Cert.Pre_KernelIdeal_finite m) : ∃ q k v a b e d, Inputs m c q k v a b e d := by
  obtain ⟨h0, h1, h2, h3, h4, h5, h6⟩ := Cert.Pre_finite.Read.fn_real _ _ _ _ _ _ _ _ (h c)
  choose q hq using h0
  choose k hk using h1
  choose v hv using h2
  choose a ha using h3
  choose b hb using h4
  choose e he using h5
  choose d hd using h6
  exact ⟨fun b t j => q (ix3 b t j), fun b t j => k (ix3 b t j), fun b t j => v (ix3 b t j), fun j => a (ix2 0 j), fun j => b (ix2 0 j), fun j => e (ix2 0 j),
    fun j => d (ix2 0 j), ⟨fun _ _ _ => hq _, fun _ _ _ => hk _, fun _ _ _ => hv _, fun _ => ha _, fun _ => hb _, fun _ => he _, fun _ => hd _⟩⟩

/-- The kernel's result is the reference's function of its arguments. -/
theorem result (h : Cert.Pre_KernelIdeal_finite m) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD, r.2.mem ((c.tc : Thread Cert.KernelIdeal.nD Cert.KernelIdeal.τ).loc Cert.KernelIdeal.main_v98) = target m c := by
  refine (θ_run Cert.KernelIdeal.defs _ _).mono (fun r hr c => ?_) (Cert.KernelIdeal.Attn.run_main (F := Ideal) m ρ)
  obtain ⟨q, k, v, a, b, e, d, A⟩ := inputs m c h
  exact (hr.1.out_eq c 12).trans (arr_target A)

theorem value : Cert.algebraic_KernelIdeal_ReferenceIdeal_pre_finite (hKernelIdeal := Cert.KernelIdeal.Gen.facts) (hReferenceIdeal := Cert.ReferenceIdeal.facts)
    (hPre_finite := Cert.Pre_finite.facts) := by
  intro m g m' g' hpre hargs
  refine ⟨fun c => target m c, ?_, ?_⟩
  · refine (θ_run Cert.KernelIdeal.defs _ _).mono (fun r hr c => ⟨hr.1 c, hr.2.1 c⟩) (θ_run_and (result m hpre g) (Cert.KernelIdeal.Attn.frame_main (F := Ideal) m g))
  · refine (θ_run Cert.ReferenceIdeal.defs _ _).mono (fun r hr c => ⟨(hr c).1.trans ?_, (hr c).2⟩) (Cert.ReferenceIdeal.Ref.run_main (F := Ideal) m' g')
    obtain ⟨h0, h1, h2, h3, h4, h5, h6, h7⟩ := hargs c
    rw [h0, h1, h2, h3, h4, h5, h6, h7]
    rfl

end Cert.Proof

end
-- ==== Proof.TailRow.lean ====
/-
  The tail of the layer at one token, over the extended reals: what it does to a row of 1024 numbers.
-/
module

public import Idealize.ShloMosaic.PureOps.Ideal

@[expose] public section

noncomputable section

namespace Cert.Layer
open Idealize.ShloMosaic

/-- A row divided by its root mean square, with a gain. -/
def normE (x g : Fin 1024 → EReal) (j : Fin 1024) : EReal :=
  x j * Ideal.rsqrt (Ideal.div (∑ i, x i * x i) (Ideal.ofBits FTy.f32 1149239296#32) + Ideal.ofBits FTy.f32 897988541#32) * g j

/-- The first half of the branch gates. -/
def lo (j : Fin 1024) : Fin 2048 := ⟨j.val, by omega⟩

/-- The second half of the branch gates. -/
def hi (j : Fin 1024) : Fin 2048 := ⟨1024 + j.val, by omega⟩

/-- The Fourier branch and the attention's projection, each under its gate. -/
def mixE (x yf ya g : Fin 1024 → EReal) (wb : Fin 1024 → Fin 2048 → EReal) (b : Fin 2048 → EReal) (wa : Fin 1024 → Fin 1024 → EReal) (j : Fin 1024) : EReal :=
  Ideal.logistic (∑ i, normE x g i * wb i (lo j) + b (lo j)) * yf j
    + Ideal.logistic (∑ i, normE x g i * wb i (hi j) + b (hi j)) * ∑ i, ya i * wa i j

/-- A row with a projection of another added. -/
def addE (x h : Fin 1024 → EReal) (w : Fin 1024 → Fin 1024 → EReal) (j : Fin 1024) : EReal := x j + ∑ i, h i * w i j

/-- The gated feed-forward network, added to the row. -/
def ffnE (x g : Fin 1024 → EReal) (wg wu : Fin 1024 → Fin 2816 → EReal) (wd : Fin 2816 → Fin 1024 → EReal) (j : Fin 1024) : EReal :=
  x j + ∑ k, (∑ i, normE x g i * wg i k) * Ideal.logistic (∑ i, normE x g i * wg i k) * (∑ i, normE x g i * wu i k) * wd k j

/-- The per-layer embedding's projection under its gate, added to the row. -/
def pleE (x g : Fin 1024 → EReal) (wp : Fin 1024 → Fin 1024 → EReal) (p : Fin 256 → EReal) (wq : Fin 256 → Fin 1024 → EReal) (j : Fin 1024) : EReal :=
  x j + Ideal.logistic (∑ i, normE x g i * wp i j) * ∑ i, p i * wq i j

/-- The arguments of the layer's tail, entry by entry. -/
structure Entries where
  x : Fin 8 → Fin 4096 → Fin 1024 → EReal
  yf : Fin 8 → Fin 4096 → Fin 1024 → EReal
  ya : Fin 8 → Fin 4096 → Fin 1024 → EReal
  p : Fin 8 → Fin 4096 → Fin 256 → EReal
  gMix : Fin 1024 → EReal
  wGate : Fin 1024 → Fin 2048 → EReal
  bGate : Fin 2048 → EReal
  wAttn : Fin 1024 → Fin 1024 → EReal
  wOut : Fin 1024 → Fin 1024 → EReal
  gFfn : Fin 1024 → EReal
  wFg : Fin 1024 → Fin 2816 → EReal
  wFu : Fin 1024 → Fin 2816 → EReal
  wFd : Fin 2816 → Fin 1024 → EReal
  gPle : Fin 1024 → EReal
  wPg : Fin 1024 → Fin 1024 → EReal
  wPp : Fin 256 → Fin 1024 → EReal
  gFinal : Fin 1024 → EReal

variable (A : Entries) (b : Fin 8) (t : Fin 4096)

/-- A token's row after the two branches are merged and projected. -/
def Entries.mid : Fin 1024 → EReal := addE (A.x b t) (mixE (A.x b t) (A.yf b t) (A.ya b t) A.gMix A.wGate A.bGate A.wAttn) A.wOut

/-- A token's row after the feed-forward network. -/
def Entries.ffn : Fin 1024 → EReal := ffnE (A.mid b t) A.gFfn A.wFg A.wFu A.wFd

/-- A token's row after the per-layer embedding. -/
def Entries.ple : Fin 1024 → EReal := pleE (A.ffn b t) A.gPle A.wPg (A.p b t) A.wPp

/-- A token's row of the result. -/
def Entries.out : Fin 1024 → EReal := normE (A.ple b t) A.gFinal

end Cert.Layer
-- ==== Proof.TailKernel.lean ====
/-
  What the tail's kernel computes of its blocks, element by element.
-/
module

public import proofs.«01_k».proof.Proof.Gen.TailIdeal.Skeleton
public import proofs.«01_k».proof.Proof.TailRow
public import Idealize.ShloMosaic.Lib.Pointwise

@[expose] public section

set_option maxRecDepth 16384
noncomputable section

namespace Cert.TailIdeal.Row
open Idealize.ShloMosaic Idealize.ShloMosaic.TcCoe Idealize.ShloMosaic.Tactic
open Cert.TailIdeal.Gen Cert.Layer

theorem mix_at (x : Vec Ideal S512x1024 .f32) (g : Vec Ideal S1x1024 .f32) (wb : Vec Ideal S1024x2048 .bf16) (b : Vec Ideal S1x2048 .f32)
    (ya : Vec Ideal S512x1024 .bf16) (wa : Vec Ideal S1024x1024 .bf16) (yf : Vec Ideal S512x1024 .f32) (r : Fin 512) (j : Fin 1024) :
    k0_pay3 x g wb b ya wa yf (ix2 r j) = mixE (fun i => x (ix2 r i)) (fun i => yf (ix2 r i)) (fun i => ya (ix2 r i)) (fun i => g (ix2 0 i))
      (fun i k => wb (ix2 i k)) (fun k => b (ix2 0 k)) (fun i k => wa (ix2 i k)) j := by
  pointwise [k0_pay3, k0_pay2]
  rfl

theorem ffn_at (x : Vec Ideal S512x1024 .f32) (h : Vec Ideal S512x1024 .bf16) (wo : Vec Ideal S1024x1024 .bf16) (g : Vec Ideal S1x1024 .f32)
    (wg wu : Vec Ideal S1024x2816 .bf16) (wd : Vec Ideal S2816x1024 .bf16) (r : Fin 512) (j : Fin 1024) :
    k0_pay4 x h wo g wg wu wd (ix2 r j) = ffnE (addE (fun i => x (ix2 r i)) (fun i => h (ix2 r i)) (fun i k => wo (ix2 i k))) (fun i => g (ix2 0 i))
      (fun i k => wg (ix2 i k)) (fun i k => wu (ix2 i k)) (fun i k => wd (ix2 i k)) j := by
  pointwise [k0_pay4]
  rfl

theorem out_at (x : Vec Ideal S512x1024 .f32) (h : Vec Ideal S512x1024 .bf16) (wo : Vec Ideal S1024x1024 .bf16) (gf : Vec Ideal S1x1024 .f32)
    (wg wu : Vec Ideal S1024x2816 .bf16) (wd : Vec Ideal S2816x1024 .bf16)
    (g : Vec Ideal S1x1024 .f32) (wp : Vec Ideal S1024x1024 .bf16) (p : Vec Ideal S512x256 .f32) (wq : Vec Ideal S256x1024 .bf16) (gl : Vec Ideal S1x1024 .f32)
    (r : Fin 512) (j : Fin 1024) :
    k0_pay1 (k0_pay4 x h wo gf wg wu wd) (k0_pay5 g) (k0_pay6 x h wo gf wg wu wd) (Scalar.ofBits .f32 0x358637BD#32) wp p wq gl (ix2 r j)
      = normE (pleE (fun i => k0_pay4 x h wo gf wg wu wd (ix2 r i)) (fun i => g (ix2 0 i)) (fun i k => wp (ix2 i k)) (fun i => p (ix2 r i)) (fun i k => wq (ix2 i k)))
        (fun i => gl (ix2 0 i)) j := by
  generalize hX : k0_pay4 x h wo gf wg wu wd = X
  unfold k0_pay6
  rw [hX]
  pointwise [k0_pay1, k0_pay5]
  rfl

end Cert.TailIdeal.Row
-- ==== Proof.TailBlocks.lean ====
/-
  The blocks of the tail's kernel at a grid point, as entries of the arguments.
-/
module

public import proofs.«01_k».proof.Proof.Gen.TailIdeal.Value
public import proofs.«01_k».proof.Proof.TailRow
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384
set_option maxHeartbeats 2000000
noncomputable section

namespace Cert.TailIdeal.Row
open Idealize.ShloMosaic Idealize.ShloMosaic.TcCoe Idealize.ShloMosaic.Tactic
open Cert.TailIdeal.Gen Cert.Layer

variable (m : (ℓ : Loc nD τ sig) → Buf (Elt Ideal) ℓ) (c : Dev nD)

/-- The arguments' entries in a state of the kernel's buffers. -/
def args : Entries where
  x b t i := m ((c : Thread nD τ).loc main_arg0) (ix3 b t i)
  yf b t i := m ((c : Thread nD τ).loc main_arg1) (ix3 b t i)
  ya b t i := m ((c : Thread nD τ).loc main_arg2) (ix3 b t i)
  p b t i := m ((c : Thread nD τ).loc main_arg3) (ix4 0 b t i)
  gMix i := m ((c : Thread nD τ).loc main_arg4) (ix2 0 i)
  wGate i j := m ((c : Thread nD τ).loc main_arg5) (ix3 0 i j)
  bGate j := m ((c : Thread nD τ).loc main_arg6) (ix2 0 j)
  wAttn i j := m ((c : Thread nD τ).loc main_arg7) (ix3 0 i j)
  wOut i j := m ((c : Thread nD τ).loc main_arg8) (ix3 0 i j)
  gFfn i := m ((c : Thread nD τ).loc main_arg9) (ix2 0 i)
  wFg i j := m ((c : Thread nD τ).loc main_arg10) (ix3 0 i j)
  wFu i j := m ((c : Thread nD τ).loc main_arg11) (ix3 0 i j)
  wFd i j := m ((c : Thread nD τ).loc main_arg12) (ix3 0 i j)
  gPle i := m ((c : Thread nD τ).loc main_arg13) (ix2 0 i)
  wPg i j := m ((c : Thread nD τ).loc main_arg14) (ix3 0 i j)
  wPp i j := m ((c : Thread nD τ).loc main_arg15) (ix3 0 i j)
  gFinal i := m ((c : Thread nD τ).loc main_arg16) (ix1 i)

/-! ## The index maps -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx17 : ∀ t : Fin cfg0.N, win0_17.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)

theorem covers17 : (cfg0.win 17).Covers := by decide +kernel

variable (t : Fin cfg0.N)

theorem lt_N : t.val < 64 := t.isLt

/-- The token of a block's row. -/
def tok (r : Fin 512) : Fin 32768 := ⟨t.val * 512 + r.val, by have := lt_N t; omega⟩

/-- The token's batch and its place in it. -/
def bt (T : Fin 32768) : Fin 8 := ⟨T.val / 4096, by omega⟩
def st (T : Fin 32768) : Fin 4096 := ⟨T.val % 4096, by omega⟩

/-! ## The blocks of tokens -/

theorem x_at (r : Fin 512) (i : Fin 1024) : iblk m c 0 t (ix2 r i) = (args m c).x (bt (tok t r)) (st (tok t r)) i := by
  show V m c main_v0 (((cfg0.win 0).blk t).view.emb (ix2 r i)) = _
  have e : ((cfg0.win 0).blk t).view.emb (ix2 r i) = ix2 (tok t r) i := by
    funext a; apply Fin.ext
    blk_simp [idx0]
    match a with
    | ⟨0, _⟩ => rfl
    | ⟨1, _⟩ => show 0 * 1024 + i.val = i.val; omega
  rw [e]
  entry_read
  pointwise
  rfl

theorem yf_at (r : Fin 512) (i : Fin 1024) : iblk m c 1 t (ix2 r i) = (args m c).yf (bt (tok t r)) (st (tok t r)) i := by
  show V m c main_v3 (((cfg0.win 1).blk t).view.emb (ix2 r i)) = _
  have e : ((cfg0.win 1).blk t).view.emb (ix2 r i) = ix2 (tok t r) i := by
    funext a; apply Fin.ext
    blk_simp [idx1]
    match a with
    | ⟨0, _⟩ => rfl
    | ⟨1, _⟩ => show 0 * 1024 + i.val = i.val; omega
  rw [e]
  entry_read
  pointwise
  rfl

theorem ya_at (r : Fin 512) (i : Fin 1024) : iblk m c 2 t (ix2 r i) = (args m c).ya (bt (tok t r)) (st (tok t r)) i := by
  show V m c main_v5 (((cfg0.win 2).blk t).view.emb (ix2 r i)) = _
  have e : ((cfg0.win 2).blk t).view.emb (ix2 r i) = ix2 (tok t r) i := by
    funext a; apply Fin.ext
    blk_simp [idx2]
    match a with
    | ⟨0, _⟩ => rfl
    | ⟨1, _⟩ => show 0 * 1024 + i.val = i.val; omega
  rw [e]
  entry_read
  pointwise
  rfl

theorem p_at (r : Fin 512) (i : Fin 256) : iblk m c 3 t (ix2 r i) = (args m c).p (bt (tok t r)) (st (tok t r)) i := by
  show V m c main_v2 (((cfg0.win 3).blk t).view.emb (ix2 r i)) = _
  have e : ((cfg0.win 3).blk t).view.emb (ix2 r i) = ix2 (tok t r) i := by
    funext a; apply Fin.ext
    blk_simp [idx3]
    match a with
    | ⟨0, _⟩ => rfl
    | ⟨1, _⟩ => show 0 * 256 + i.val = i.val; omega
  rw [e]
  entry_read
  pointwise
  rfl

/-! ## The gains, the bias and the matrices -/

theorem gMix_at (j : Fin 1024) : iblk m c 4 t (ix2 0 j) = (args m c).gMix j := by
  show V m c main_v7 (((cfg0.win 4).blk t).view.emb (ix2 0 j)) = _
  have e : ((cfg0.win 4).blk t).view.emb (ix2 0 j) = ix2 0 j := by
    funext a; apply Fin.ext
    blk_simp [idx4]
    match a with
    | ⟨0, _⟩ => rfl
    | ⟨1, _⟩ => show 0 * 1024 + j.val = j.val; omega
  rw [e]
  entry_read
  pointwise
  rfl

theorem wGate_at (i : Fin 1024) (j : Fin 2048) : iblk m c 5 t (ix2 i j) = (args m c).wGate i j := by
  show V m c main_v9 (((cfg0.win 5).blk t).view.emb (ix2 i j)) = _
  have e : ((cfg0.win 5).blk t).view.emb (ix2 i j) = ix2 i j := by
    funext a; apply Fin.ext
    blk_simp [idx5]
    match a with
    | ⟨0, _⟩ => show 0 * 1024 + i.val = i.val; omega
    | ⟨1, _⟩ => show 0 * 2048 + j.val = j.val; omega
  rw [e]
  entry_read
  pointwise
  rfl

theorem bGate_at (j : Fin 2048) : iblk m c 6 t (ix2 0 j) = (args m c).bGate j := by
  show V m c main_v11 (((cfg0.win 6).blk t).view.emb (ix2 0 j)) = _
  have e : ((cfg0.win 6).blk t).view.emb (ix2 0 j) = ix2 0 j := by
    funext a; apply Fin.ext
    blk_simp [idx6]
    match a with
    | ⟨0, _⟩ => rfl
    | ⟨1, _⟩ => show 0 * 2048 + j.val = j.val; omega
  rw [e]
  entry_read
  pointwise
  rfl

theorem wAttn_at (i : Fin 1024) (j : Fin 1024) : iblk m c 7 t (ix2 i j) = (args m c).wAttn i j := by
  show V m c main_v13 (((cfg0.win 7).blk t).view.emb (ix2 i j)) = _
  have e : ((cfg0.win 7).blk t).view.emb (ix2 i j) = ix2 i j := by
    funext a; apply Fin.ext
    blk_simp [idx7]
    match a with
    | ⟨0, _⟩ => show 0 * 1024 + i.val = i.val; omega
    | ⟨1, _⟩ => show 0 * 1024 + j.val = j.val; omega
  rw [e]
  entry_read
  pointwise
  rfl

theorem wOut_at (i : Fin 1024) (j : Fin 1024) : iblk m c 8 t (ix2 i j) = (args m c).wOut i j := by
  show V m c main_v15 (((cfg0.win 8).blk t).view.emb (ix2 i j)) = _
  have e : ((cfg0.win 8).blk t).view.emb (ix2 i j) = ix2 i j := by
    funext a; apply Fin.ext
    blk_simp [idx8]
    match a with
    | ⟨0, _⟩ => show 0 * 1024 + i.val = i.val; omega
    | ⟨1, _⟩ => show 0 * 1024 + j.val = j.val; omega
  rw [e]
  entry_read
  pointwise
  rfl

theorem gFfn_at (j : Fin 1024) : iblk m c 9 t (ix2 0 j) = (args m c).gFfn j := by
  show V m c main_v17 (((cfg0.win 9).blk t).view.emb (ix2 0 j)) = _
  have e : ((cfg0.win 9).blk t).view.emb (ix2 0 j) = ix2 0 j := by
    funext a; apply Fin.ext
    blk_simp [idx9]
    match a with
    | ⟨0, _⟩ => rfl
    | ⟨1, _⟩ => show 0 * 1024 + j.val = j.val; omega
  rw [e]
  entry_read
  pointwise
  rfl

theorem wFg_at (i : Fin 1024) (j : Fin 2816) : iblk m c 10 t (ix2 i j) = (args m c).wFg i j := by
  show V m c main_v19 (((cfg0.win 10).blk t).view.emb (ix2 i j)) = _
  have e : ((cfg0.win 10).blk t).view.emb (ix2 i j) = ix2 i j := by
    funext a; apply Fin.ext
    blk_simp [idx10]
    match a with
    | ⟨0, _⟩ => show 0 * 1024 + i.val = i.val; omega
    | ⟨1, _⟩ => show 0 * 2816 + j.val = j.val; omega
  rw [e]
  entry_read
  pointwise
  rfl

theorem wFu_at (i : Fin 1024) (j : Fin 2816) : iblk m c 11 t (ix2 i j) = (args m c).wFu i j := by
  show V m c main_v21 (((cfg0.win 11).blk t).view.emb (ix2 i j)) = _
  have e : ((cfg0.win 11).blk t).view.emb (ix2 i j) = ix2 i j := by
    funext a; apply Fin.ext
    blk_simp [idx11]
    match a with
    | ⟨0, _⟩ => show 0 * 1024 + i.val = i.val; omega
    | ⟨1, _⟩ => show 0 * 2816 + j.val = j.val; omega
  rw [e]
  entry_read
  pointwise
  rfl

theorem wFd_at (i : Fin 2816) (j : Fin 1024) : iblk m c 12 t (ix2 i j) = (args m c).wFd i j := by
  show V m c main_v23 (((cfg0.win 12).blk t).view.emb (ix2 i j)) = _
  have e : ((cfg0.win 12).blk t).view.emb (ix2 i j) = ix2 i j := by
    funext a; apply Fin.ext
    blk_simp [idx12]
    match a with
    | ⟨0, _⟩ => show 0 * 2816 + i.val = i.val; omega
    | ⟨1, _⟩ => show 0 * 1024 + j.val = j.val; omega
  rw [e]
  entry_read
  pointwise
  rfl

theorem gPle_at (j : Fin 1024) : iblk m c 13 t (ix2 0 j) = (args m c).gPle j := by
  show V m c main_v25 (((cfg0.win 13).blk t).view.emb (ix2 0 j)) = _
  have e : ((cfg0.win 13).blk t).view.emb (ix2 0 j) = ix2 0 j := by
    funext a; apply Fin.ext
    blk_simp [idx13]
    match a with
    | ⟨0, _⟩ => rfl
    | ⟨1, _⟩ => show 0 * 1024 + j.val = j.val; omega
  rw [e]
  entry_read
  pointwise
  rfl

theorem wPg_at (i : Fin 1024) (j : Fin 1024) : iblk m c 14 t (ix2 i j) = (args m c).wPg i j := by
  show V m c main_v27 (((cfg0.win 14).blk t).view.emb (ix2 i j)) = _
  have e : ((cfg0.win 14).blk t).view.emb (ix2 i j) = ix2 i j := by
    funext a; apply Fin.ext
    blk_simp [idx14]
    match a with
    | ⟨0, _⟩ => show 0 * 1024 + i.val = i.val; omega
    | ⟨1, _⟩ => show 0 * 1024 + j.val = j.val; omega
  rw [e]
  entry_read
  pointwise
  rfl

theorem wPp_at (i : Fin 256) (j : Fin 1024) : iblk m c 15 t (ix2 i j) = (args m c).wPp i j := by
  show V m c main_v29 (((cfg0.win 15).blk t).view.emb (ix2 i j)) = _
  have e : ((cfg0.win 15).blk t).view.emb (ix2 i j) = ix2 i j := by
    funext a; apply Fin.ext
    blk_simp [idx15]
    match a with
    | ⟨0, _⟩ => show 0 * 256 + i.val = i.val; omega
    | ⟨1, _⟩ => show 0 * 1024 + j.val = j.val; omega
  rw [e]
  entry_read
  pointwise
  rfl

theorem gFinal_at (j : Fin 1024) : iblk m c 16 t (ix2 0 j) = (args m c).gFinal j := by
  show V m c main_v30 (((cfg0.win 16).blk t).view.emb (ix2 0 j)) = _
  have e : ((cfg0.win 16).blk t).view.emb (ix2 0 j) = ix2 0 j := by
    funext a; apply Fin.ext
    blk_simp [idx16]
    match a with
    | ⟨0, _⟩ => rfl
    | ⟨1, _⟩ => show 0 * 1024 + j.val = j.val; omega
  rw [e]
  entry_read
  pointwise
  rfl

end Cert.TailIdeal.Row
-- ==== Proof.TailRef.lean ====
/-
  What the reference of the layer's tail computes, element by element.
-/
module

public import proofs.«01_k».proof.Proof.Gen.TailReferenceIdeal.Run
public import proofs.«01_k».proof.Proof.TailRow
public import proofs.«01_k».proof.Proof.Reals
public import Idealize.ShloMosaic.Lib.Pointwise

@[expose] public section

set_option maxRecDepth 16384
noncomputable section

namespace Cert.TailReferenceIdeal.Row
open Idealize.ShloMosaic Idealize.ShloMosaic.TcCoe Idealize.ShloMosaic.Tactic Idealize.ShloMosaic.StableHlo Idealize.SL.Sem
open Cert.TailReferenceIdeal.Gen Cert.TailReferenceIdeal.Value Cert.Layer

variable (V : Valuation τ sig (Elt Ideal))

/-- The arguments' entries in a state of the reference's buffers. -/
def args : Entries where
  x b t i := V (Proc.devRef .tc main_arg0) (ix3 b t i)
  yf b t i := V (Proc.devRef .tc main_arg1) (ix3 b t i)
  ya b t i := V (Proc.devRef .tc main_arg2) (ix3 b t i)
  p b t i := V (Proc.devRef .tc main_arg3) (ix4 0 b t i)
  gMix i := V (Proc.devRef .tc main_arg4) (ix2 0 i)
  wGate i j := V (Proc.devRef .tc main_arg5) (ix3 0 i j)
  bGate j := V (Proc.devRef .tc main_arg6) (ix2 0 j)
  wAttn i j := V (Proc.devRef .tc main_arg7) (ix3 0 i j)
  wOut i j := V (Proc.devRef .tc main_arg8) (ix3 0 i j)
  gFfn i := V (Proc.devRef .tc main_arg9) (ix2 0 i)
  wFg i j := V (Proc.devRef .tc main_arg10) (ix3 0 i j)
  wFu i j := V (Proc.devRef .tc main_arg11) (ix3 0 i j)
  wFd i j := V (Proc.devRef .tc main_arg12) (ix3 0 i j)
  gPle i := V (Proc.devRef .tc main_arg13) (ix2 0 i)
  wPg i j := V (Proc.devRef .tc main_arg14) (ix3 0 i j)
  wPp i j := V (Proc.devRef .tc main_arg15) (ix3 0 i j)
  gFinal i := V (Proc.devRef .tc main_arg16) (ix1 i)

variable (b : Fin 8) (t : Fin 4096) (j : Fin 1024)

theorem gate_at (u : Fin 2) (k : Fin 2048) (hk : k.val = u.val * 1024 + j.val) : res_main_v28 V (ix4 b t u j)
    = Ideal.logistic (∑ i, normE ((args V).x b t) (args V).gMix i * (args V).wGate i k + (args V).bGate k) := by
  have e : (⟨u.val * 1024 + j.val, by omega⟩ : Fin 2048) = k := Fin.ext hk.symm
  pointwise [res_main_v28]
  rw [e]
  rfl

theorem mid_at : res_main_v38 V (ix3 b t j) = (args V).mid b t j := by
  pointwise [res_main_v38]
  simp only [fun x => gate_at V b t x 0 (lo x) (by show x.val = 0 * 1024 + x.val; omega), fun x => gate_at V b t x 1 (hi x) (by show 1024 + x.val = 1 * 1024 + x.val; omega)]
  rfl

theorem norm_at : res_main_v52 V (ix3 b t j) = normE ((args V).mid b t) (args V).gFfn j := by
  pointwise [res_main_v52]
  simp only [mid_at]
  rfl

theorem gg_at (k : Fin 2816) : res_main_v54 V (ix3 b t k) = ∑ i, normE ((args V).mid b t) (args V).gFfn i * (args V).wFg i k := by
  pointwise [res_main_v54]
  simp only [norm_at]
  rfl

theorem ffn_at : res_main_v61 V (ix3 b t j) = (args V).ffn b t j := by
  pointwise [res_main_v61]
  simp only [mid_at, gg_at, norm_at]
  rfl

theorem ple_at : res_main_v88 V (ix3 b t j) = (args V).ple b t j := by
  pointwise [res_main_v88]
  simp only [ffn_at]
  rfl

/-- The reference's result. -/
def out : FVec Ideal S32768x1024 .f32 :=
  shapeCast _ (mulf (mulf (res_main_v88 V) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v88 V) (res_main_v88 V)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (V (Proc.devRef .tc main_arg16))))) shapeCasts_S8x4096x1024_S32768x1024

theorem out_at (T : Fin 32768) : out V (ix2 T j) = (args V).out ⟨T.val / 4096, by omega⟩ ⟨T.val % 4096, by omega⟩ j := by
  pointwise [out]
  simp only [ple_at]
  rfl

/-- The reference's run: its result, with its arguments as they were. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = out (launchContents m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16) :=
  run m ρ

end Cert.TailReferenceIdeal.Row
-- ==== Proof.TailValue.lean ====
/-
  The tail's value: every execution of its kernel ends with the reference's result.
-/
module

public import proofs.«01_k».proof.Proof.TailKernel
public import proofs.«01_k».proof.Proof.TailBlocks
public import proofs.«01_k».proof.Proof.TailRef
public import proofs.«01_k».proof.Defs

@[expose] public section

set_option maxRecDepth 16384
noncomputable section

namespace Cert.TailIdeal.Row
open Idealize.ShloMosaic Idealize.ShloMosaic.TcCoe Idealize.ShloMosaic.Tactic
open Cert.TailIdeal.Gen Cert.Layer

variable (m : (ℓ : Loc nD τ sig) → Buf (Elt Ideal) ℓ) (c : Dev nD)

/-- The kernel's result: each token's row of the layer's tail. -/
def target : Vec Ideal S32768x1024 .f32 := fun y => (args m c).out (bt (y 0)) (st (y 0)) (y 1)

section Row
variable (t : Fin cfg0.N) (r : Fin 512)

/-- The merged branches of a block's token. -/
theorem mix_row : (fun i => k0_pay3 (iblk m c 0 t) (iblk m c 4 t) (iblk m c 5 t) (iblk m c 6 t) (iblk m c 2 t) (iblk m c 7 t) (iblk m c 1 t) (ix2 r i))
    = mixE ((args m c).x (bt (tok t r)) (st (tok t r))) ((args m c).yf (bt (tok t r)) (st (tok t r))) ((args m c).ya (bt (tok t r)) (st (tok t r)))
      (args m c).gMix (args m c).wGate (args m c).bGate (args m c).wAttn := by
  funext j
  refine (mix_at _ _ _ _ _ _ _ r j).trans ?_
  simp only [x_at, yf_at, ya_at, gMix_at, wGate_at, bGate_at, wAttn_at]

/-- The row after the feed-forward network of a block's token. -/
theorem ffn_row : (fun i => k0_pay4 (k0_pay2 (iblk m c 0 t))
      (k0_pay3 (iblk m c 0 t) (iblk m c 4 t) (iblk m c 5 t) (iblk m c 6 t) (iblk m c 2 t) (iblk m c 7 t) (iblk m c 1 t))
      (iblk m c 8 t) (iblk m c 9 t) (iblk m c 10 t) (iblk m c 11 t) (iblk m c 12 t) (ix2 r i))
    = (args m c).ffn (bt (tok t r)) (st (tok t r)) := by
  funext j
  refine (ffn_at _ _ _ _ _ _ _ r j).trans ?_
  rw [mix_row]
  simp only [k0_pay2, shapeCast_self, x_at, wOut_at, gFfn_at, wFg_at, wFu_at, wFd_at]
  rfl

/-- What the kernel leaves in a block is the target's rows. -/
theorem block_row (j : Fin 1024) : out0_17 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (iblk m c 16 t) (ix2 r j)
    = (args m c).out (bt (tok t r)) (st (tok t r)) j := by
  unfold out0_17 k0_pay7 k0_pay8
  rw [View.canon_cons_unit_lit _ _ _ (by decide)]
  simp (disch := decide) only [View.ld_unit_lit]
  refine (out_at _ _ _ _ _ _ _ _ _ _ _ _ r j).trans ?_
  rw [ffn_row]
  simp only [gPle_at, wPg_at, p_at, wPp_at, gFinal_at]
  rfl

end Row

/-- The array after the run. -/
theorem arr_target : (dats m 0 c).arrAt 17 cfg0.N = target m c := by
  refine (dats m 0 c).arrAt_eq_of_covers 17 (target m c) covers17 (fun t hf y => ?_)
  have h := congrFun (Value.flushed17 m c t) y
  refine h.trans ?_
  show out0_17 _ _ _ _ _ _ _ _ _ _ _ _ _ _ _ _ _ y = _
  obtain ⟨r, j, rfl⟩ : ∃ (r : Fin 512) (j : Fin 1024), y = ix2 r j := ⟨y 0, y 1, eq_ix2 y⟩
  refine (block_row m c t r j).trans ?_
  have e : ((cfg0.win 17).blk t).view.emb (ix2 r j) = ix2 (tok t r) j := by
    funext a; apply Fin.ext
    blk_simp [idx17]
    match a with
    | ⟨0, _⟩ => rfl
    | ⟨1, _⟩ => show 0 * 1024 + j.val = j.val; omega
  show _ = target m c (((cfg0.win 17).blk t).view.emb (ix2 r j))
  rw [e]
  rfl

end Cert.TailIdeal.Row

namespace Cert.Proof
open Idealize.ShloMosaic Idealize.ShloMosaic.TcCoe Idealize.SL.Sem

theorem value_tail : Cert.algebraic_TailIdeal_TailReferenceIdeal (hTailIdeal := Cert.TailIdeal.Gen.facts) (hTailReferenceIdeal := Cert.TailReferenceIdeal.Gen.facts) := by
  intro m g m' g' _ hargs
  refine ⟨fun c => Cert.TailIdeal.Row.target m c, ?_, ?_⟩
  · exact (θ_run Cert.TailIdeal.defs _ _).mono (fun r hr c => ⟨(hr c).1.trans (Cert.TailIdeal.Row.arr_target m c), (hr c).2⟩) (Cert.TailIdeal.Value.run_blocks (F := Ideal) m g)
  · refine (θ_run Cert.TailReferenceIdeal.defs _ _).mono (fun r hr c => ⟨(hr c).1.trans ?_, (hr c).2⟩) (Cert.TailReferenceIdeal.Row.run_out m' g')
    have e : Cert.TailReferenceIdeal.Row.args (StableHlo.launchContents m' c) = Cert.TailIdeal.Row.args m c := by
      obtain ⟨h0, h1, h2, h3, h4, h5, h6, h7, h8, h9, h10, h11, h12, h13, h14, h15, h16⟩ := hargs c
      show Cert.Layer.Entries.mk _ _ _ _ _ _ _ _ _ _ _ _ _ _ _ _ _ = Cert.Layer.Entries.mk _ _ _ _ _ _ _ _ _ _ _ _ _ _ _ _ _
      congr 1 <;> first
        | exact funext fun b => funext fun t => funext fun i => congrFun (by assumption) _
        | exact funext fun b => funext fun t => congrFun (by assumption) _
        | exact funext fun b => congrFun (by assumption) _
    funext y
    obtain ⟨T, j, rfl⟩ : ∃ (T : Fin 32768) (j : Fin 1024), y = ix2 T j := ⟨y 0, y 1, eq_ix2 y⟩
    refine (Cert.TailReferenceIdeal.Row.out_at _ j T).trans ?_
    rw [e]
    rfl

end Cert.Proof
-- ==== Proof.lean ====
/-
  The certificate: the frames of the programs, and each kernel's value against its reference's.
-/
module

public import proofs.«01_k».proof.Proof.Value
public import proofs.«01_k».proof.Proof.TailValue
public import proofs.«01_k».proof.Proof.Gen.Tail.Frame
public import proofs.«01_k».proof.Proof.Gen.TailIdeal.Value
public import proofs.«01_k».proof.Proof.Gen.TailReferenceIdeal.Run
public import Idealize.ShloMosaic.Lib.Quiescent

@[expose] public section

set_option maxRecDepth 16384

noncomputable section

namespace Cert.Proof

open Idealize.ShloMosaic Idealize.SL.Sem

theorem frame_reference : Cert.quiescent_ReferenceIdeal (hReferenceIdeal := Cert.ReferenceIdeal.facts) := fun m ρ _ =>
  (θ_run Cert.ReferenceIdeal.defs _ _).mono (fun _ h => ⟨fun c => (h c).2, sem_eq_zero_of_no_sems rfl _⟩) (Cert.ReferenceIdeal.Ref.run_main (F := Ideal) m ρ)

theorem frame_tail_reference : Cert.quiescent_TailReferenceIdeal (hTailReferenceIdeal := Cert.TailReferenceIdeal.Gen.facts) := fun m ρ _ =>
  (θ_run Cert.TailReferenceIdeal.defs _ _).mono (fun _ h => ⟨fun c => (h c).2, sem_eq_zero_of_no_sems rfl _⟩) (Cert.TailReferenceIdeal.Row.run_out m ρ)

theorem claim : Cert.Claim :=
  ⟨Cert.Kernel.Gen.facts, Cert.KernelIdeal.Gen.facts, Cert.ReferenceIdeal.facts, Cert.Tail.Gen.facts, Cert.TailIdeal.Gen.facts, Cert.TailReferenceIdeal.Gen.facts,
    Cert.Pre_finite.facts,
    frame_kernel, frame_ideal, fun m ρ _ => frame_ideal m ρ trivial, frame_reference, fun m ρ _ => frame_reference m ρ trivial,
    fun m ρ _ => Cert.Tail.Gen.frame m ρ, fun m ρ _ => Cert.TailIdeal.Gen.frame m ρ, frame_tail_reference, trivial, value, trivial, value_tail⟩

end Cert.Proof

end
